-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Experts [hPre_tables : Cert.Pre_tables.Facts] (m : (ℓ : Loc Cert.Experts.nD Cert.Experts.τ Cert.Experts.sig) → Buf (Elt Bits) ℓ) : Prop :=
  ∀ c : Dev Cert.Experts.nD,
    (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).1 = (fun _ => 1#1)
    ∧ (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).2.1 = (fun _ => 1#1)
    ∧ (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).2.2 = (fun _ => 1#1)

def Pre_ExpertsIdeal [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).1 = (fun _ => 1#1)
    ∧ (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.1 = (fun _ => 1#1)
    ∧ (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2.2 = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tables [hPre_tables : Cert.Pre_tables.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tables.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))).1 = (fun _ => 1#1)
    ∧ (Cert.Pre_tables.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))).2.1 = (fun _ => 1#1)
    ∧ (Cert.Pre_tables.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))).2.2 = (fun _ => 1#1)

def Pre_Inputs (m : (ℓ : Loc Cert.Inputs.nD Cert.Inputs.τ Cert.Inputs.sig) → Buf (Elt Bits) ℓ) : Prop :=
  True

def Pre_InputsIdeal (m : (ℓ : Loc Cert.InputsIdeal.nD Cert.InputsIdeal.τ Cert.InputsIdeal.sig) → Buf (Elt Ideal) ℓ) : Prop :=
  True

def Pre_InputsReferenceIdeal (m : (ℓ : Loc Cert.InputsReferenceIdeal.nD Cert.InputsReferenceIdeal.τ Cert.InputsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Experts [hExperts : Cert.Experts.Facts] [hPre_tables : Cert.Pre_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_tables [hExpertsReferenceIdeal : Cert.ExpertsReferenceIdeal.Facts] [hPre_tables : Cert.Pre_tables.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tables m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_Inputs [hInputs : Cert.Inputs.Facts] : Prop :=
  ∀ (m : (ℓ : Loc Cert.Inputs.nD Cert.Inputs.τ Cert.Inputs.sig) → Buf (Elt Bits) ℓ) (g : Dev Cert.Inputs.nD → PrngReg), Pre_Inputs m →
    θ_run (Cert.Inputs.defs (F := Bits)) (onTc (τ := Cert.Inputs.τ) (Cert.Inputs.main (F := Bits))) ⟨m, fun _ => 0, g⟩ (fun r => (∀ c : Dev Cert.Inputs.nD,
      r.2.mem ((c.tc : Thread Cert.Inputs.nD Cert.Inputs.τ).loc Cert.Inputs.main_arg0) = m ((c.tc : Thread Cert.Inputs.nD Cert.Inputs.τ).loc Cert.Inputs.main_arg0)
      ∧ r.2.mem ((c.tc : Thread Cert.Inputs.nD Cert.Inputs.τ).loc Cert.Inputs.main_arg1) = m ((c.tc : Thread Cert.Inputs.nD Cert.Inputs.τ).loc Cert.Inputs.main_arg1)
      ∧ r.2.mem ((c.tc : Thread Cert.Inputs.nD Cert.Inputs.τ).loc Cert.Inputs.main_arg2) = m ((c.tc : Thread Cert.Inputs.nD Cert.Inputs.τ).loc Cert.Inputs.main_arg2)
      ∧ r.2.mem ((c.tc : Thread Cert.Inputs.nD Cert.Inputs.τ).loc Cert.Inputs.main_arg3) = m ((c.tc : Thread Cert.Inputs.nD Cert.Inputs.τ).loc Cert.Inputs.main_arg3)
      ∧ r.2.mem ((c.tc : Thread Cert.Inputs.nD Cert.Inputs.τ).loc Cert.Inputs.main_arg4) = m ((c.tc : Thread Cert.Inputs.nD Cert.Inputs.τ).loc Cert.Inputs.main_arg4)
      ∧ r.2.mem ((c.tc : Thread Cert.Inputs.nD Cert.Inputs.τ).loc Cert.Inputs.main_arg5) = m ((c.tc : Thread Cert.Inputs.nD Cert.Inputs.τ).loc Cert.Inputs.main_arg5)
      ∧ r.2.mem ((c.tc : Thread Cert.Inputs.nD Cert.Inputs.τ).loc Cert.Inputs.main_arg6) = m ((c.tc : Thread Cert.Inputs.nD Cert.Inputs.τ).loc Cert.Inputs.main_arg6)
      ∧ r.2.mem ((c.tc : Thread Cert.Inputs.nD Cert.Inputs.τ).loc Cert.Inputs.main_arg7) = m ((c.tc : Thread Cert.Inputs.nD Cert.Inputs.τ).loc Cert.Inputs.main_arg7)
      ∧ r.2.mem ((c.tc : Thread Cert.Inputs.nD Cert.Inputs.τ).loc Cert.Inputs.main_arg8) = m ((c.tc : Thread Cert.Inputs.nD Cert.Inputs.τ).loc Cert.Inputs.main_arg8)
      ∧ r.2.mem ((c.tc : Thread Cert.Inputs.nD Cert.Inputs.τ).loc Cert.Inputs.main_arg9) = m ((c.tc : Thread Cert.Inputs.nD Cert.Inputs.τ).loc Cert.Inputs.main_arg9))
      ∧ r.2.sem = fun _ => 0)

def quiescent_InputsIdeal [hInputsIdeal : Cert.InputsIdeal.Facts] : Prop :=
  ∀ (m : (ℓ : Loc Cert.InputsIdeal.nD Cert.InputsIdeal.τ Cert.InputsIdeal.sig) → Buf (Elt Ideal) ℓ) (g : Dev Cert.InputsIdeal.nD → PrngReg), Pre_InputsIdeal m →
    θ_run (Cert.InputsIdeal.defs (F := Ideal)) (onTc (τ := Cert.InputsIdeal.τ) (Cert.InputsIdeal.main (F := Ideal))) ⟨m, fun _ => 0, g⟩ (fun r => (∀ c : Dev Cert.InputsIdeal.nD,
      r.2.mem ((c.tc : Thread Cert.InputsIdeal.nD Cert.InputsIdeal.τ).loc Cert.InputsIdeal.main_arg0) = m ((c.tc : Thread Cert.InputsIdeal.nD Cert.InputsIdeal.τ).loc Cert.InputsIdeal.main_arg0)
      ∧ r.2.mem ((c.tc : Thread Cert.InputsIdeal.nD Cert.InputsIdeal.τ).loc Cert.InputsIdeal.main_arg1) = m ((c.tc : Thread Cert.InputsIdeal.nD Cert.InputsIdeal.τ).loc Cert.InputsIdeal.main_arg1)
      ∧ r.2.mem ((c.tc : Thread Cert.InputsIdeal.nD Cert.InputsIdeal.τ).loc Cert.InputsIdeal.main_arg2) = m ((c.tc : Thread Cert.InputsIdeal.nD Cert.InputsIdeal.τ).loc Cert.InputsIdeal.main_arg2)
      ∧ r.2.mem ((c.tc : Thread Cert.InputsIdeal.nD Cert.InputsIdeal.τ).loc Cert.InputsIdeal.main_arg3) = m ((c.tc : Thread Cert.InputsIdeal.nD Cert.InputsIdeal.τ).loc Cert.InputsIdeal.main_arg3)
      ∧ r.2.mem ((c.tc : Thread Cert.InputsIdeal.nD Cert.InputsIdeal.τ).loc Cert.InputsIdeal.main_arg4) = m ((c.tc : Thread Cert.InputsIdeal.nD Cert.InputsIdeal.τ).loc Cert.InputsIdeal.main_arg4)
      ∧ r.2.mem ((c.tc : Thread Cert.InputsIdeal.nD Cert.InputsIdeal.τ).loc Cert.InputsIdeal.main_arg5) = m ((c.tc : Thread Cert.InputsIdeal.nD Cert.InputsIdeal.τ).loc Cert.InputsIdeal.main_arg5)
      ∧ r.2.mem ((c.tc : Thread Cert.InputsIdeal.nD Cert.InputsIdeal.τ).loc Cert.InputsIdeal.main_arg6) = m ((c.tc : Thread Cert.InputsIdeal.nD Cert.InputsIdeal.τ).loc Cert.InputsIdeal.main_arg6)
      ∧ r.2.mem ((c.tc : Thread Cert.InputsIdeal.nD Cert.InputsIdeal.τ).loc Cert.InputsIdeal.main_arg7) = m ((c.tc : Thread Cert.InputsIdeal.nD Cert.InputsIdeal.τ).loc Cert.InputsIdeal.main_arg7)
      ∧ r.2.mem ((c.tc : Thread Cert.InputsIdeal.nD Cert.InputsIdeal.τ).loc Cert.InputsIdeal.main_arg8) = m ((c.tc : Thread Cert.InputsIdeal.nD Cert.InputsIdeal.τ).loc Cert.InputsIdeal.main_arg8)
      ∧ r.2.mem ((c.tc : Thread Cert.InputsIdeal.nD Cert.InputsIdeal.τ).loc Cert.InputsIdeal.main_arg9) = m ((c.tc : Thread Cert.InputsIdeal.nD Cert.InputsIdeal.τ).loc Cert.InputsIdeal.main_arg9))
      ∧ r.2.sem = fun _ => 0)

def quiescent_InputsReferenceIdeal [hInputsReferenceIdeal : Cert.InputsReferenceIdeal.Facts] : Prop :=
  ∀ (m : (ℓ : Loc Cert.InputsReferenceIdeal.nD Cert.InputsReferenceIdeal.τ Cert.InputsReferenceIdeal.sig) → Buf (Elt Ideal) ℓ) (g : Dev Cert.InputsReferenceIdeal.nD → PrngReg), Pre_InputsReferenceIdeal m →
    θ_run (Cert.InputsReferenceIdeal.defs (F := Ideal)) (onTc (τ := Cert.InputsReferenceIdeal.τ) (Cert.InputsReferenceIdeal.main (F := Ideal))) ⟨m, fun _ => 0, g⟩ (fun r => (∀ c : Dev Cert.InputsReferenceIdeal.nD,
      r.2.mem ((c.tc : Thread Cert.InputsReferenceIdeal.nD Cert.InputsReferenceIdeal.τ).loc Cert.InputsReferenceIdeal.main_arg0) = m ((c.tc : Thread Cert.InputsReferenceIdeal.nD Cert.InputsReferenceIdeal.τ).loc Cert.InputsReferenceIdeal.main_arg0)
      ∧ r.2.mem ((c.tc : Thread Cert.InputsReferenceIdeal.nD Cert.InputsReferenceIdeal.τ).loc Cert.InputsReferenceIdeal.main_arg1) = m ((c.tc : Thread Cert.InputsReferenceIdeal.nD Cert.InputsReferenceIdeal.τ).loc Cert.InputsReferenceIdeal.main_arg1)
      ∧ r.2.mem ((c.tc : Thread Cert.InputsReferenceIdeal.nD Cert.InputsReferenceIdeal.τ).loc Cert.InputsReferenceIdeal.main_arg2) = m ((c.tc : Thread Cert.InputsReferenceIdeal.nD Cert.InputsReferenceIdeal.τ).loc Cert.InputsReferenceIdeal.main_arg2)
      ∧ r.2.mem ((c.tc : Thread Cert.InputsReferenceIdeal.nD Cert.InputsReferenceIdeal.τ).loc Cert.InputsReferenceIdeal.main_arg3) = m ((c.tc : Thread Cert.InputsReferenceIdeal.nD Cert.InputsReferenceIdeal.τ).loc Cert.InputsReferenceIdeal.main_arg3)
      ∧ r.2.mem ((c.tc : Thread Cert.InputsReferenceIdeal.nD Cert.InputsReferenceIdeal.τ).loc Cert.InputsReferenceIdeal.main_arg4) = m ((c.tc : Thread Cert.InputsReferenceIdeal.nD Cert.InputsReferenceIdeal.τ).loc Cert.InputsReferenceIdeal.main_arg4)
      ∧ r.2.mem ((c.tc : Thread Cert.InputsReferenceIdeal.nD Cert.InputsReferenceIdeal.τ).loc Cert.InputsReferenceIdeal.main_arg5) = m ((c.tc : Thread Cert.InputsReferenceIdeal.nD Cert.InputsReferenceIdeal.τ).loc Cert.InputsReferenceIdeal.main_arg5)
      ∧ r.2.mem ((c.tc : Thread Cert.InputsReferenceIdeal.nD Cert.InputsReferenceIdeal.τ).loc Cert.InputsReferenceIdeal.main_arg6) = m ((c.tc : Thread Cert.InputsReferenceIdeal.nD Cert.InputsReferenceIdeal.τ).loc Cert.InputsReferenceIdeal.main_arg6)
      ∧ r.2.mem ((c.tc : Thread Cert.InputsReferenceIdeal.nD Cert.InputsReferenceIdeal.τ).loc Cert.InputsReferenceIdeal.main_arg7) = m ((c.tc : Thread Cert.InputsReferenceIdeal.nD Cert.InputsReferenceIdeal.τ).loc Cert.InputsReferenceIdeal.main_arg7)
      ∧ r.2.mem ((c.tc : Thread Cert.InputsReferenceIdeal.nD Cert.InputsReferenceIdeal.τ).loc Cert.InputsReferenceIdeal.main_arg8) = m ((c.tc : Thread Cert.InputsReferenceIdeal.nD Cert.InputsReferenceIdeal.τ).loc Cert.InputsReferenceIdeal.main_arg8)
      ∧ r.2.mem ((c.tc : Thread Cert.InputsReferenceIdeal.nD Cert.InputsReferenceIdeal.τ).loc Cert.InputsReferenceIdeal.main_arg9) = m ((c.tc : Thread Cert.InputsReferenceIdeal.nD Cert.InputsReferenceIdeal.τ).loc Cert.InputsReferenceIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v51) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_Inputs_InputsIdeal : Prop :=
  True

def algebraic_InputsIdeal_InputsReferenceIdeal [hInputsIdeal : Cert.InputsIdeal.Facts] [hInputsReferenceIdeal : Cert.InputsReferenceIdeal.Facts] : Prop :=
  ∀ (m : (ℓ : Loc Cert.InputsIdeal.nD Cert.InputsIdeal.τ Cert.InputsIdeal.sig) → Buf (Elt Ideal) ℓ) (g : Dev Cert.InputsIdeal.nD → PrngReg)
    (m' : (ℓ : Loc Cert.InputsReferenceIdeal.nD Cert.InputsReferenceIdeal.τ Cert.InputsReferenceIdeal.sig) → Buf (Elt Ideal) ℓ) (g' : Dev Cert.InputsReferenceIdeal.nD → PrngReg), Pre_InputsIdeal m →
    (∀ c : Dev Cert.InputsIdeal.nD,
      m' ((c.tc : Thread Cert.InputsReferenceIdeal.nD Cert.InputsReferenceIdeal.τ).loc Cert.InputsReferenceIdeal.main_arg0) = m ((c.tc : Thread Cert.InputsIdeal.nD Cert.InputsIdeal.τ).loc Cert.InputsIdeal.main_arg0)
      ∧ m' ((c.tc : Thread Cert.InputsReferenceIdeal.nD Cert.InputsReferenceIdeal.τ).loc Cert.InputsReferenceIdeal.main_arg1) = m ((c.tc : Thread Cert.InputsIdeal.nD Cert.InputsIdeal.τ).loc Cert.InputsIdeal.main_arg1)
      ∧ m' ((c.tc : Thread Cert.InputsReferenceIdeal.nD Cert.InputsReferenceIdeal.τ).loc Cert.InputsReferenceIdeal.main_arg2) = m ((c.tc : Thread Cert.InputsIdeal.nD Cert.InputsIdeal.τ).loc Cert.InputsIdeal.main_arg2)
      ∧ m' ((c.tc : Thread Cert.InputsReferenceIdeal.nD Cert.InputsReferenceIdeal.τ).loc Cert.InputsReferenceIdeal.main_arg3) = m ((c.tc : Thread Cert.InputsIdeal.nD Cert.InputsIdeal.τ).loc Cert.InputsIdeal.main_arg3)
      ∧ m' ((c.tc : Thread Cert.InputsReferenceIdeal.nD Cert.InputsReferenceIdeal.τ).loc Cert.InputsReferenceIdeal.main_arg4) = m ((c.tc : Thread Cert.InputsIdeal.nD Cert.InputsIdeal.τ).loc Cert.InputsIdeal.main_arg4)
      ∧ m' ((c.tc : Thread Cert.InputsReferenceIdeal.nD Cert.InputsReferenceIdeal.τ).loc Cert.InputsReferenceIdeal.main_arg5) = m ((c.tc : Thread Cert.InputsIdeal.nD Cert.InputsIdeal.τ).loc Cert.InputsIdeal.main_arg5)
      ∧ m' ((c.tc : Thread Cert.InputsReferenceIdeal.nD Cert.InputsReferenceIdeal.τ).loc Cert.InputsReferenceIdeal.main_arg6) = m ((c.tc : Thread Cert.InputsIdeal.nD Cert.InputsIdeal.τ).loc Cert.InputsIdeal.main_arg6)
      ∧ m' ((c.tc : Thread Cert.InputsReferenceIdeal.nD Cert.InputsReferenceIdeal.τ).loc Cert.InputsReferenceIdeal.main_arg7) = m ((c.tc : Thread Cert.InputsIdeal.nD Cert.InputsIdeal.τ).loc Cert.InputsIdeal.main_arg7)
      ∧ m' ((c.tc : Thread Cert.InputsReferenceIdeal.nD Cert.InputsReferenceIdeal.τ).loc Cert.InputsReferenceIdeal.main_arg8) = m ((c.tc : Thread Cert.InputsIdeal.nD Cert.InputsIdeal.τ).loc Cert.InputsIdeal.main_arg8)
      ∧ m' ((c.tc : Thread Cert.InputsReferenceIdeal.nD Cert.InputsReferenceIdeal.τ).loc Cert.InputsReferenceIdeal.main_arg9) = m ((c.tc : Thread Cert.InputsIdeal.nD Cert.InputsIdeal.τ).loc Cert.InputsIdeal.main_arg9)) →
    ∃ (v0 : (c : Dev Cert.InputsIdeal.nD) → Buf (Elt Ideal) ((c.tc : Thread Cert.InputsIdeal.nD Cert.InputsIdeal.τ).loc Cert.InputsIdeal.main_v101)) (v1 : (c : Dev Cert.InputsIdeal.nD) → Buf (Elt Ideal) ((c.tc : Thread Cert.InputsIdeal.nD Cert.InputsIdeal.τ).loc Cert.InputsIdeal.main_v102)) (v2 : (c : Dev Cert.InputsIdeal.nD) → Buf (Elt Ideal) ((c.tc : Thread Cert.InputsIdeal.nD Cert.InputsIdeal.τ).loc Cert.InputsIdeal.main_v103)) (v3 : (c : Dev Cert.InputsIdeal.nD) → Buf (Elt Ideal) ((c.tc : Thread Cert.InputsIdeal.nD Cert.InputsIdeal.τ).loc Cert.InputsIdeal.main_v104)),
      θ_run (Cert.InputsIdeal.defs (F := Ideal)) (onTc (τ := Cert.InputsIdeal.τ) (Cert.InputsIdeal.main (F := Ideal))) ⟨m, fun _ => 0, g⟩ (fun r => ∀ c : Dev Cert.InputsIdeal.nD,
          r.2.mem ((c.tc : Thread Cert.InputsIdeal.nD Cert.InputsIdeal.τ).loc Cert.InputsIdeal.main_v101) = v0 c
          ∧ r.2.mem ((c.tc : Thread Cert.InputsIdeal.nD Cert.InputsIdeal.τ).loc Cert.InputsIdeal.main_v102) = v1 c
          ∧ r.2.mem ((c.tc : Thread Cert.InputsIdeal.nD Cert.InputsIdeal.τ).loc Cert.InputsIdeal.main_v103) = v2 c
          ∧ r.2.mem ((c.tc : Thread Cert.InputsIdeal.nD Cert.InputsIdeal.τ).loc Cert.InputsIdeal.main_v104) = v3 c
          ∧ r.2.mem ((c.tc : Thread Cert.InputsIdeal.nD Cert.InputsIdeal.τ).loc Cert.InputsIdeal.main_arg0) = m ((c.tc : Thread Cert.InputsIdeal.nD Cert.InputsIdeal.τ).loc Cert.InputsIdeal.main_arg0)
          ∧ r.2.mem ((c.tc : Thread Cert.InputsIdeal.nD Cert.InputsIdeal.τ).loc Cert.InputsIdeal.main_arg1) = m ((c.tc : Thread Cert.InputsIdeal.nD Cert.InputsIdeal.τ).loc Cert.InputsIdeal.main_arg1)
          ∧ r.2.mem ((c.tc : Thread Cert.InputsIdeal.nD Cert.InputsIdeal.τ).loc Cert.InputsIdeal.main_arg2) = m ((c.tc : Thread Cert.InputsIdeal.nD Cert.InputsIdeal.τ).loc Cert.InputsIdeal.main_arg2)
          ∧ r.2.mem ((c.tc : Thread Cert.InputsIdeal.nD Cert.InputsIdeal.τ).loc Cert.InputsIdeal.main_arg3) = m ((c.tc : Thread Cert.InputsIdeal.nD Cert.InputsIdeal.τ).loc Cert.InputsIdeal.main_arg3)
          ∧ r.2.mem ((c.tc : Thread Cert.InputsIdeal.nD Cert.InputsIdeal.τ).loc Cert.InputsIdeal.main_arg4) = m ((c.tc : Thread Cert.InputsIdeal.nD Cert.InputsIdeal.τ).loc Cert.InputsIdeal.main_arg4)
          ∧ r.2.mem ((c.tc : Thread Cert.InputsIdeal.nD Cert.InputsIdeal.τ).loc Cert.InputsIdeal.main_arg5) = m ((c.tc : Thread Cert.InputsIdeal.nD Cert.InputsIdeal.τ).loc Cert.InputsIdeal.main_arg5)
          ∧ r.2.mem ((c.tc : Thread Cert.InputsIdeal.nD Cert.InputsIdeal.τ).loc Cert.InputsIdeal.main_arg6) = m ((c.tc : Thread Cert.InputsIdeal.nD Cert.InputsIdeal.τ).loc Cert.InputsIdeal.main_arg6)
          ∧ r.2.mem ((c.tc : Thread Cert.InputsIdeal.nD Cert.InputsIdeal.τ).loc Cert.InputsIdeal.main_arg7) = m ((c.tc : Thread Cert.InputsIdeal.nD Cert.InputsIdeal.τ).loc Cert.InputsIdeal.main_arg7)
          ∧ r.2.mem ((c.tc : Thread Cert.InputsIdeal.nD Cert.InputsIdeal.τ).loc Cert.InputsIdeal.main_arg8) = m ((c.tc : Thread Cert.InputsIdeal.nD Cert.InputsIdeal.τ).loc Cert.InputsIdeal.main_arg8)
          ∧ r.2.mem ((c.tc : Thread Cert.InputsIdeal.nD Cert.InputsIdeal.τ).loc Cert.InputsIdeal.main_arg9) = m ((c.tc : Thread Cert.InputsIdeal.nD Cert.InputsIdeal.τ).loc Cert.InputsIdeal.main_arg9))
      ∧ θ_run (Cert.InputsReferenceIdeal.defs (F := Ideal)) (onTc (τ := Cert.InputsReferenceIdeal.τ) (Cert.InputsReferenceIdeal.main (F := Ideal))) ⟨m', fun _ => 0, g'⟩ (fun r => ∀ c : Dev Cert.InputsReferenceIdeal.nD,
          r.2.mem ((c.tc : Thread Cert.InputsReferenceIdeal.nD Cert.InputsReferenceIdeal.τ).loc Cert.InputsReferenceIdeal.main_v44) = v0 c
          ∧ r.2.mem ((c.tc : Thread Cert.InputsReferenceIdeal.nD Cert.InputsReferenceIdeal.τ).loc Cert.InputsReferenceIdeal.main_v45) = v1 c
          ∧ r.2.mem ((c.tc : Thread Cert.InputsReferenceIdeal.nD Cert.InputsReferenceIdeal.τ).loc Cert.InputsReferenceIdeal.main_v46) = v2 c
          ∧ r.2.mem ((c.tc : Thread Cert.InputsReferenceIdeal.nD Cert.InputsReferenceIdeal.τ).loc Cert.InputsReferenceIdeal.main_v47) = v3 c
          ∧ r.2.mem ((c.tc : Thread Cert.InputsReferenceIdeal.nD Cert.InputsReferenceIdeal.τ).loc Cert.InputsReferenceIdeal.main_arg0) = m' ((c.tc : Thread Cert.InputsReferenceIdeal.nD Cert.InputsReferenceIdeal.τ).loc Cert.InputsReferenceIdeal.main_arg0)
          ∧ r.2.mem ((c.tc : Thread Cert.InputsReferenceIdeal.nD Cert.InputsReferenceIdeal.τ).loc Cert.InputsReferenceIdeal.main_arg1) = m' ((c.tc : Thread Cert.InputsReferenceIdeal.nD Cert.InputsReferenceIdeal.τ).loc Cert.InputsReferenceIdeal.main_arg1)
          ∧ r.2.mem ((c.tc : Thread Cert.InputsReferenceIdeal.nD Cert.InputsReferenceIdeal.τ).loc Cert.InputsReferenceIdeal.main_arg2) = m' ((c.tc : Thread Cert.InputsReferenceIdeal.nD Cert.InputsReferenceIdeal.τ).loc Cert.InputsReferenceIdeal.main_arg2)
          ∧ r.2.mem ((c.tc : Thread Cert.InputsReferenceIdeal.nD Cert.InputsReferenceIdeal.τ).loc Cert.InputsReferenceIdeal.main_arg3) = m' ((c.tc : Thread Cert.InputsReferenceIdeal.nD Cert.InputsReferenceIdeal.τ).loc Cert.InputsReferenceIdeal.main_arg3)
          ∧ r.2.mem ((c.tc : Thread Cert.InputsReferenceIdeal.nD Cert.InputsReferenceIdeal.τ).loc Cert.InputsReferenceIdeal.main_arg4) = m' ((c.tc : Thread Cert.InputsReferenceIdeal.nD Cert.InputsReferenceIdeal.τ).loc Cert.InputsReferenceIdeal.main_arg4)
          ∧ r.2.mem ((c.tc : Thread Cert.InputsReferenceIdeal.nD Cert.InputsReferenceIdeal.τ).loc Cert.InputsReferenceIdeal.main_arg5) = m' ((c.tc : Thread Cert.InputsReferenceIdeal.nD Cert.InputsReferenceIdeal.τ).loc Cert.InputsReferenceIdeal.main_arg5)
          ∧ r.2.mem ((c.tc : Thread Cert.InputsReferenceIdeal.nD Cert.InputsReferenceIdeal.τ).loc Cert.InputsReferenceIdeal.main_arg6) = m' ((c.tc : Thread Cert.InputsReferenceIdeal.nD Cert.InputsReferenceIdeal.τ).loc Cert.InputsReferenceIdeal.main_arg6)
          ∧ r.2.mem ((c.tc : Thread Cert.InputsReferenceIdeal.nD Cert.InputsReferenceIdeal.τ).loc Cert.InputsReferenceIdeal.main_arg7) = m' ((c.tc : Thread Cert.InputsReferenceIdeal.nD Cert.InputsReferenceIdeal.τ).loc Cert.InputsReferenceIdeal.main_arg7)
          ∧ r.2.mem ((c.tc : Thread Cert.InputsReferenceIdeal.nD Cert.InputsReferenceIdeal.τ).loc Cert.InputsReferenceIdeal.main_arg8) = m' ((c.tc : Thread Cert.InputsReferenceIdeal.nD Cert.InputsReferenceIdeal.τ).loc Cert.InputsReferenceIdeal.main_arg8)
          ∧ r.2.mem ((c.tc : Thread Cert.InputsReferenceIdeal.nD Cert.InputsReferenceIdeal.τ).loc Cert.InputsReferenceIdeal.main_arg9) = m' ((c.tc : Thread Cert.InputsReferenceIdeal.nD Cert.InputsReferenceIdeal.τ).loc Cert.InputsReferenceIdeal.main_arg9))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hInputs : Cert.Inputs.Facts) (hInputsIdeal : Cert.InputsIdeal.Facts) (hInputsReferenceIdeal : Cert.InputsReferenceIdeal.Facts) (hPre_finite : Cert.Pre_finite.Facts) (hPre_tables : Cert.Pre_tables.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_tables := hPre_tables)
    ∧ quiescent_ExpertsIdeal (hExpertsIdeal := hExpertsIdeal) (hPre_tables := hPre_tables)
    ∧ quiescent_ExpertsReferenceIdeal (hExpertsReferenceIdeal := hExpertsReferenceIdeal)
    ∧ quiescent_ExpertsReferenceIdeal_pre_tables (hExpertsReferenceIdeal := hExpertsReferenceIdeal) (hPre_tables := hPre_tables)
    ∧ quiescent_Inputs (hInputs := hInputs)
    ∧ quiescent_InputsIdeal (hInputsIdeal := hInputsIdeal)
    ∧ quiescent_InputsReferenceIdeal (hInputsReferenceIdeal := hInputsReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal) (hPre_tables := hPre_tables)
    ∧ preserves_Inputs_InputsIdeal
    ∧ algebraic_InputsIdeal_InputsReferenceIdeal (hInputsIdeal := hInputsIdeal) (hInputsReferenceIdeal := hInputsReferenceIdeal)
-- ==== Pre_finite.lean ====
abbrev S16640x8x64 : Shape := ⟨3, ![16640, 8, 64]⟩
abbrev S16640x512 : Shape := ⟨2, ![16640, 512]⟩
abbrev S8x257 : Shape := ⟨2, ![8, 257]⟩
abbrev S_ : Shape := ⟨0, ![]⟩

class Facts : Prop where
  bitsLt_bf16_f32 : FTy.bits .bf16 < FTy.bits .f32
  bcast_S_S16640x8x64 : S_.BroadcastsInDim S16640x8x64 (![] : Fin 0 → Fin S16640x8x64.rank)
  bcast_S_S16640x512 : S_.BroadcastsInDim S16640x512 (![] : Fin 0 → Fin S16640x512.rank)
  bcast_S_S8x257 : S_.BroadcastsInDim S8x257 (![] : Fin 0 → Fin S8x257.rank)

variable [Facts]

def fn {F : FTy → Type} [FloatOps F] (main_arg0 : FVec F S16640x8x64 .bf16) (main_arg1 : FVec F S16640x512 .bf16) (main_arg2 : FVec F S16640x512 .bf16) (main_arg3 : FVec F S8x257 .f32) : IVec S16640x8x64 1 × IVec S16640x512 1 × IVec S8x257 1 :=
  let main_v0 : FVec F S16640x8x64 .f32 := (extf .f32 · bitsLt_bf16_f32) main_arg0
  let main_v1 : FVec F S16640x8x64 .f32 := Host.absf main_v0
  let main_cst : FVec F S_ .f32 := constant S_ .f32 0x7F800000#32
  let main_v2 : FVec F S16640x8x64 .f32 := broadcastInDim S16640x8x64 ![] bcast_S_S16640x8x64 main_cst
  let main_v3 : IVec S16640x8x64 1 := cmpf .olt main_v1 main_v2
  let main_v4 : FVec F S16640x512 .f32 := (extf .f32 · bitsLt_bf16_f32) main_arg1
  let main_v5 : FVec F S16640x512 .f32 := Host.absf main_v4
  let main_cst_0 : FVec F S_ .f32 := constant S_ .f32 0x7F800000#32
  let main_v6 : FVec F S16640x512 .f32 := broadcastInDim S16640x512 ![] bcast_S_S16640x512 main_cst_0
  let main_v7 : IVec S16640x512 1 := cmpf .olt main_v5 main_v6
  let main_v8 : FVec F S8x257 .f32 := Host.absf main_arg3
  let main_cst_1 : FVec F S_ .f32 := constant S_ .f32 0x7F800000#32
  let main_v9 : FVec F S8x257 .f32 := broadcastInDim S8x257 ![] bcast_S_S8x257 main_cst_1
  let main_v10 : IVec S8x257 1 := cmpf .olt main_v8 main_v9
  (main_v3, main_v7, main_v10)
-- ==== Pre_tables.lean ====
abbrev S82944x8x128 : Shape := ⟨3, ![82944, 8, 128]⟩
abbrev S162 : Shape := ⟨1, ![162]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S162 : S_.BroadcastsInDim S162 (![] : Fin 0 → Fin S162.rank)

variable [Facts]

def fn {F : FTy → Type} [FloatOps F] (main_arg0 : FVec F S82944x8x128 .bf16) (main_arg1 : IVec S162 32) (main_arg2 : IVec S162 32) (main_arg3 : FVec F S32x1024x2048 .f32) (main_arg4 : FVec F S32x1x2048 .f32) (main_arg5 : FVec F S32x1024x1024 .f32) (main_arg6 : FVec F S32x1x1024 .f32) : IVec S162 1 × IVec S162 1 × IVec S162 1 :=
  let main_c : IVec S_ 32 := constantI S_ 32 0#32
  let main_v0 : IVec S162 32 := broadcastInDim S162 ![] bcast_S_S162 main_c
  let main_v1 : IVec S162 1 := cmpi .sge main_arg1 main_v0
  let main_c_0 : IVec S_ 32 := constantI S_ 32 32#32
  let main_v2 : IVec S162 32 := broadcastInDim S162 ![] bcast_S_S162 main_c_0
  let main_v3 : IVec S162 1 := cmpi .slt main_arg1 main_v2
  let main_c_1 : IVec S_ 32 := constantI S_ 32 0#32
  let main_v4 : IVec S162 32 := broadcastInDim S162 ![] bcast_S_S162 main_c_1
  let main_v5 : IVec S162 1 := cmpi .sge main_arg2 main_v4
  (main_v1, main_v3, main_v5)
-- ==== Kernel.lean ====
abbrev S16640x8x64 : Shape := ⟨3, ![16640, 8, 64]⟩
abbrev S16640x512 : Shape := ⟨2, ![16640, 512]⟩
abbrev S8x257 : Shape := ⟨2, ![8, 257]⟩
abbrev S1536 : Shape := ⟨1, ![1536]⟩
abbrev S16640x4x64 : Shape := ⟨3, ![16640, 4, 64]⟩
abbrev S_ : Shape := ⟨0, ![]⟩
abbrev S16640x4x128 : Shape := ⟨3, ![16640, 4, 128]⟩
abbrev S16640x4x1x128 : Shape := ⟨4, ![16640, 4, 1, 128]⟩
abbrev S16640x4x2x128 : Shape := ⟨4, ![16640, 4, 2, 128]⟩
abbrev S16640x8x128 : Shape := ⟨3, ![16640, 8, 128]⟩
abbrev S8x16640x128 : Shape := ⟨3, ![8, 16640, 128]⟩
abbrev S1x16640x512 : Shape := ⟨3, ![1, 16640, 512]⟩
abbrev S1536x1 : Shape := ⟨2, ![1536, 1]⟩
abbrev S8x1536 : Shape := ⟨2, ![8, 1536]⟩
abbrev S16384x512 : Shape := ⟨2, ![16384, 512]⟩
abbrev S8x512x128 : Shape := ⟨3, ![8, 512, 128]⟩
abbrev S1x512x512 : Shape := ⟨3, ![1, 512, 512]⟩
abbrev S512x512 : Shape := ⟨2, ![512, 512]⟩
abbrev S8x512x1024 : Shape := ⟨3, ![8, 512, 1024]⟩
abbrev S512x1024 : Shape := ⟨2, ![512, 1024]⟩
abbrev S1x1536 : Shape := ⟨2, ![1, 1536]⟩
abbrev S512x1536 : Shape := ⟨2, ![512, 1536]⟩
abbrev S512x2048 : Shape := ⟨2, ![512, 2048]⟩
abbrev S1x512x1024 : Shape := ⟨3, ![1, 512, 1024]⟩
abbrev S512x128 : Shape := ⟨2, ![512, 128]⟩
abbrev S1x512x128 : Shape := ⟨3, ![1, 512, 128]⟩
abbrev S1024x128 : Shape := ⟨2, ![1024, 128]⟩
abbrev S512 : Shape := ⟨1, ![512]⟩
abbrev S512x1 : Shape := ⟨2, ![512, 1]⟩

abbrev nBuf : Space → Nat
  | .hbm => 30
  | .vmem => 14
  | .smem => 0
  | _ => 0

abbrev bufTy : (tb : Table) → Fin (tcTables nBuf tb) → BufTy
  | .hbm, ⟨0, _⟩ => ⟨S16640x8x64, .bf16⟩
  | .hbm, ⟨1, _⟩ => ⟨S16640x512, .bf16⟩
  | .hbm, ⟨2, _⟩ => ⟨S16640x512, .bf16⟩
  | .hbm, ⟨3, _⟩ => ⟨S8x257, .f32⟩
  | .hbm, ⟨4, _⟩ => ⟨S1536, .i32⟩
  | .hbm, ⟨5, _⟩ => ⟨S1536, .i1⟩
  | .hbm, ⟨6, _⟩ => ⟨S16640x4x64, .bf16⟩
  | .hbm, ⟨7, _⟩ => ⟨S_, .i32⟩
  | .hbm, ⟨8, _⟩ => ⟨S_, .bf16⟩
  | .hbm, ⟨9, _⟩ => ⟨S16640x4x128, .bf16⟩
  | .hbm, ⟨10, _⟩ => ⟨S16640x4x64, .bf16⟩
  | .hbm, ⟨11, _⟩ => ⟨S_, .i32⟩
  | .hbm, ⟨12, _⟩ => ⟨S_, .bf16⟩
  | .hbm, ⟨13, _⟩ => ⟨S16640x4x128, .bf16⟩
  | .hbm, ⟨14, _⟩ => ⟨S16640x4x1x128, .bf16⟩
  | .hbm, ⟨15, _⟩ => ⟨S16640x4x1x128, .bf16⟩
  | .hbm, ⟨16, _⟩ => ⟨S16640x4x2x128, .bf16⟩
  | .hbm, ⟨17, _⟩ => ⟨S16640x8x128, .bf16⟩
  | .hbm, ⟨18, _⟩ => ⟨S8x16640x128, .bf16⟩
  | .hbm, ⟨19, _⟩ => ⟨S1x16640x512, .bf16⟩
  | .hbm, ⟨20, _⟩ => ⟨S1x16640x512, .bf16⟩
  | .hbm, ⟨21, _⟩ => ⟨S1x16640x512, .bf16⟩
  | .hbm, ⟨22, _⟩ => ⟨S1x16640x512, .bf16⟩
  | .hbm, ⟨23, _⟩ => ⟨S_, .i32⟩
  | .hbm, ⟨24, _⟩ => ⟨S1536, .i32⟩
  | .hbm, ⟨25, _⟩ => ⟨S1536, .i32⟩
  | .hbm, ⟨26, _⟩ => ⟨S1536, .i32⟩
  | .hbm, ⟨27, _⟩ => ⟨S1536x1, .i32⟩
  | .hbm, ⟨28, _⟩ => ⟨S8x1536, .f32⟩
  | .hbm, ⟨29, _⟩ => ⟨S16384x512, .bf16⟩
  | .local _ .vmem, ⟨0, _⟩ => ⟨S8x512x128, .bf16⟩
  | .local _ .vmem, ⟨1, _⟩ => ⟨S8x512x128, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S8x1536, .f32⟩
  | .local _ .vmem, ⟨11, _⟩ => ⟨S512x512, .bf16⟩
  | .local _ .vmem, ⟨12, _⟩ => ⟨S512x512, .bf16⟩
  | .local _ .vmem, ⟨13, _⟩ => ⟨S8x512x1024, .f32⟩
  | _, _ => ⟨S16640x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_c_1 : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_2 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![c0_i32_0.toNat, v2.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16640x8x64 : Shape := ⟨3, ![16640, 8, 64]⟩
abbrev S16640x512 : Shape := ⟨2, ![16640, 512]⟩
abbrev S8x257 : Shape := ⟨2, ![8, 257]⟩
abbrev S16384x8x64 : Shape := ⟨3, ![16384, 8, 64]⟩
abbrev S16384x512 : Shape := ⟨2, ![16384, 512]⟩
abbrev S256 : Shape := ⟨1, ![256]⟩
abbrev S256x1 : Shape := ⟨2, ![256, 1]⟩
abbrev S9 : Shape := ⟨1, ![9]⟩
abbrev S1x9 : Shape := ⟨2, ![1, 9]⟩
abbrev S256x9 : Shape := ⟨2, ![256, 9]⟩
abbrev S_ : Shape := ⟨0, ![]⟩
abbrev S16896x8x64 : Shape := ⟨3, ![16896, 8, 64]⟩
abbrev S264x64x8x64 : Shape := ⟨4, ![264, 64, 8, 64]⟩
abbrev S256x9x1 : Shape := ⟨3, ![256, 9, 1]⟩
abbrev S256x9x64x8x64 : Shape := ⟨5, ![256, 9, 64, 8, 64]⟩
abbrev S256x576x8x64 : Shape := ⟨4, ![256, 576, 8, 64]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S256x576 : Shape := ⟨2, ![256, 576]⟩
abbrev S256x64x8x64 : Shape := ⟨4, ![256, 64, 8, 64]⟩
abbrev S256x8x64x576 : Shape := ⟨4, ![256, 8, 64, 576]⟩
abbrev S1x8x64x576 : Shape := ⟨4, ![1, 8, 64, 576]⟩
abbrev S256x1x1x576 : Shape := ⟨4, ![256, 1, 1, 576]⟩
abbrev S256x8x64 : Shape := ⟨3, ![256, 8, 64]⟩
abbrev S256x8x64x1 : Shape := ⟨4, ![256, 8, 64, 1]⟩
abbrev S256x8x64x64 : Shape := ⟨4, ![256, 8, 64, 64]⟩

abbrev nBuf : Space → Nat
  | .hbm => 124
  | .vmem => 0
  | .smem => 0
  | _ => 0

abbrev bufTy : (tb : Table) → Fin (tcTables nBuf tb) → BufTy
  | .hbm, ⟨0, _⟩ => ⟨S16640x8x64, .bf16⟩
  | .hbm, ⟨1, _⟩ => ⟨S16640x512, .bf16⟩
  | .hbm, ⟨2, _⟩ => ⟨S16640x512, .bf16⟩
  | .hbm, ⟨3, _⟩ => ⟨S8x257, .f32⟩
  | .hbm, ⟨4, _⟩ => ⟨S16384x8x64, .bf16⟩
  | .hbm, ⟨5, _⟩ => ⟨S16384x8x64, .f32⟩
  | .hbm, ⟨6, _⟩ => ⟨S16384x512, .bf16⟩
  | .hbm, ⟨7, _⟩ => ⟨S16384x512, .f32⟩
  | .hbm, ⟨8, _⟩ => ⟨S16384x8x64, .f32⟩
  | .hbm, ⟨9, _⟩ => ⟨S16384x512, .bf16⟩
  | .hbm, ⟨10, _⟩ => ⟨S16384x512, .f32⟩
  | .hbm, ⟨11, _⟩ => ⟨S16384x8x64, .f32⟩
  | .hbm, ⟨12, _⟩ => ⟨S256, .i32⟩
  | .hbm, ⟨13, _⟩ => ⟨S256x1, .i32⟩
  | .hbm, ⟨14, _⟩ => ⟨S9, .i32⟩
  | .hbm, ⟨15, _⟩ => ⟨S1x9, .i32⟩
  | .hbm, ⟨16, _⟩ => ⟨S256x9, .i32⟩
  | .hbm, ⟨17, _⟩ => ⟨S256x9, .i32⟩
  | .hbm, ⟨18, _⟩ => ⟨S256x9, .i32⟩
  | .hbm, ⟨19, _⟩ => ⟨S_, .i32⟩
  | .hbm, ⟨20, _⟩ => ⟨S_, .f32⟩
  | .hbm, ⟨21, _⟩ => ⟨S16896x8x64, .f32⟩
  | .hbm, ⟨22, _⟩ => ⟨S264x64x8x64, .f32⟩
  | .hbm, ⟨23, _⟩ => ⟨S_, .i32⟩
  | .hbm, ⟨24, _⟩ => ⟨S256x9, .i32⟩
  | .hbm, ⟨25, _⟩ => ⟨S256x9, .i1⟩
  | .hbm, ⟨26, _⟩ => ⟨S_, .i32⟩
  | .hbm, ⟨27, _⟩ => ⟨S256x9, .i32⟩
  | .hbm, ⟨28, _⟩ => ⟨S256x9, .i32⟩
  | .hbm, ⟨29, _⟩ => ⟨S256x9, .i32⟩
  | .hbm, ⟨30, _⟩ => ⟨S256x9x1, .i32⟩
  | .hbm, ⟨31, _⟩ => ⟨S256x9x64x8x64, .f32⟩
  | .hbm, ⟨32, _⟩ => ⟨S256x576x8x64, .f32⟩
  | .hbm, ⟨33, _⟩ => ⟨S_, .i32⟩
  | .hbm, ⟨34, _⟩ => ⟨S_, .f32⟩
  | .hbm, ⟨35, _⟩ => ⟨S16896x8x64, .f32⟩
  | .hbm, ⟨36, _⟩ => ⟨S264x64x8x64, .f32⟩
  | .hbm, ⟨37, _⟩ => ⟨S_, .i32⟩
  | .hbm, ⟨38, _⟩ => ⟨S256x9, .i32⟩
  | .hbm, ⟨39, _⟩ => ⟨S256x9, .i1⟩
  | .hbm, ⟨40, _⟩ => ⟨S_, .i32⟩
  | .hbm, ⟨41, _⟩ => ⟨S256x9, .i32⟩
  | .hbm, ⟨42, _⟩ => ⟨S256x9, .i32⟩
  | .hbm, ⟨43, _⟩ => ⟨S256x9, .i32⟩
  | .hbm, ⟨44, _⟩ => ⟨S256x9x1, .i32⟩
  | .hbm, ⟨45, _⟩ => ⟨S256x9x64x8x64, .f32⟩
  | .hbm, ⟨46, _⟩ => ⟨S256x576x8x64, .f32⟩
  | .hbm, ⟨47, _⟩ => ⟨S64, .i32⟩
  | .hbm, ⟨48, _⟩ => ⟨S576, .i32⟩
  | .hbm, ⟨49, _⟩ => ⟨S64x1, .i32⟩
  | .hbm, ⟨50, _⟩ => ⟨S_, .i32⟩
  | .hbm, ⟨51, _⟩ => ⟨S64x1, .i32⟩
  | .hbm, ⟨52, _⟩ => ⟨S64x1, .i32⟩
  | .hbm, ⟨53, _⟩ => ⟨S1x576, .i32⟩
  | .hbm, ⟨54, _⟩ => ⟨S64x576, .i32⟩
  | .hbm, ⟨55, _⟩ => ⟨S64x576, .i32⟩
  | .hbm, ⟨56, _⟩ => ⟨S64x576, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S64x576, .i32⟩
  | .hbm, ⟨61, _⟩ => ⟨S64x576, .i32⟩
  | .hbm, ⟨62, _⟩ => ⟨S_, .i32⟩
  | .hbm, ⟨63, _⟩ => ⟨S64x576, .i32⟩
  | .hbm, ⟨64, _⟩ => ⟨S64x576, .i32⟩
  | .hbm, ⟨65, _⟩ => ⟨S_, .i32⟩
  | .hbm, ⟨66, _⟩ => ⟨S64x576, .i32⟩
  | .hbm, ⟨67, _⟩ => ⟨S64x576, .i32⟩
  | .hbm, ⟨68, _⟩ => ⟨S_, .i32⟩
  | .hbm, ⟨69, _⟩ => ⟨S64x576, .i32⟩
  | .hbm, ⟨70, _⟩ => ⟨S64x576, .i1⟩
  | .hbm, ⟨71, _⟩ => ⟨S_, .i32⟩
  | .hbm, ⟨72, _⟩ => ⟨S64x576, .i32⟩
  | .hbm, ⟨73, _⟩ => ⟨S64x576, .i32⟩
  | .hbm, ⟨74, _⟩ => ⟨S64x576, .i32⟩
  | .hbm, ⟨75, _⟩ => ⟨S64x576x1, .i32⟩
  | .hbm, ⟨76, _⟩ => ⟨S8x64x576, .f32⟩
  | .hbm, ⟨77, _⟩ => ⟨S256, .i32⟩
  | .hbm, ⟨78, _⟩ => ⟨S256x1, .i32⟩
  | .hbm, ⟨79, _⟩ => ⟨S_, .i32⟩
  | .hbm, ⟨80, _⟩ => ⟨S256x1, .i32⟩
  | .hbm, ⟨81, _⟩ => ⟨S256x1, .i32⟩
  | .hbm, ⟨82, _⟩ => ⟨S_, .i32⟩
  | .hbm, ⟨83, _⟩ => ⟨S256x1, .i32⟩
  | .hbm, ⟨84, _⟩ => ⟨S256x1, .i32⟩
  | .hbm, ⟨85, _⟩ => ⟨S1x576, .i32⟩
  | .hbm, ⟨86, _⟩ => ⟨S256x576, .i32⟩
  | .hbm, ⟨87, _⟩ => ⟨S256x576, .i32⟩
  | .hbm, ⟨88, _⟩ => ⟨S256x576, .i32⟩
  | .hbm, ⟨89, _⟩ => ⟨S_, .i32⟩
  | .hbm, ⟨90, _⟩ => ⟨S256x576, .i32⟩
  | .hbm, ⟨91, _⟩ => ⟨S256x576, .i1⟩
  | .hbm, ⟨92, _⟩ => ⟨S256x64x8x64, .f32⟩
  | .hbm, ⟨93, _⟩ => ⟨S256x8x64x576, .f32⟩
  | .hbm, ⟨94, _⟩ => ⟨S_, .f32⟩
  | .hbm, ⟨95, _⟩ => ⟨S256x8x64x576, .f32⟩
  | .hbm, ⟨96, _⟩ => ⟨S256x8x64x576, .f32⟩
  | .hbm, ⟨97, _⟩ => ⟨S1x8x64x576, .f32⟩
  | .hbm, ⟨98, _⟩ => ⟨S256x8x64x576, .f32⟩
  | .hbm, ⟨99, _⟩ => ⟨S256x8x64x576, .f32⟩
  | .hbm, ⟨100, _⟩ => ⟨S256x1x1x576, .i1⟩
  | .hbm, ⟨101, _⟩ => ⟨S_, .f32⟩
  | .hbm, ⟨102, _⟩ => ⟨S_, .f32⟩
  | .hbm, ⟨103, _⟩ => ⟨S256x8x64x576, .i1⟩
  | .hbm, ⟨104, _⟩ => ⟨S256x8x64x576, .f32⟩
  | .hbm, ⟨105, _⟩ => ⟨S256x8x64x576, .f32⟩
  | .hbm, ⟨106, _⟩ => ⟨S_, .f32⟩
  | .hbm, ⟨107, _⟩ => ⟨S256x8x64, .f32⟩
  | .hbm, ⟨108, _⟩ => ⟨S_, .f32⟩
  | .hbm, ⟨109, _⟩ => ⟨S256x8x64, .f32⟩
  | .hbm, ⟨110, _⟩ => ⟨S256x8x64, .f32⟩
  | .hbm, ⟨111, _⟩ => ⟨S256x8x64x1, .f32⟩
  | .hbm, ⟨112, _⟩ => ⟨S256x8x64x576, .f32⟩
  | .hbm, ⟨113, _⟩ => ⟨S256x8x64x576, .f32⟩
  | .hbm, ⟨114, _⟩ => ⟨S256x8x64x576, .f32⟩
  | .hbm, ⟨115, _⟩ => ⟨S_, .f32⟩
  | .hbm, ⟨116, _⟩ => ⟨S256x8x64, .f32⟩
  | .hbm, ⟨117, _⟩ => ⟨S256x8x64x1, .f32⟩
  | .hbm, ⟨118, _⟩ => ⟨S256x8x64x576, .f32⟩
  | .hbm, ⟨119, _⟩ => ⟨S256x8x64x576, .f32⟩
  | .hbm, ⟨120, _⟩ => ⟨S256x8x64x64, .f32⟩
  | .hbm, ⟨121, _⟩ => ⟨S256x64x8x64, .f32⟩
  | .hbm, ⟨122, _⟩ => ⟨S16384x512, .f32⟩
  | .hbm, ⟨123, _⟩ => ⟨S16384x512, .bf16⟩
  | _, _ => ⟨S16640x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_call0_v0 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_call1_v0 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_6 : Ref sig .tc := ⟨.hbm, 57, rfl⟩
abbrev main_c_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_v74 : Ref sig .tc := ⟨.hbm, 105, rfl⟩
abbrev main_cst_15 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_17 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]
-- ==== Experts.lean ====
abbrev S82944x8x128 : Shape := ⟨3, ![82944, 8, 128]⟩
abbrev S162 : Shape := ⟨1, ![162]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S82944x1024 : Shape := ⟨2, ![82944, 1024]⟩
abbrev S512x8x128 : Shape := ⟨3, ![512, 8, 128]⟩
abbrev S1x1024x2048 : Shape := ⟨3, ![1, 1024, 2048]⟩
abbrev S1 : Shape := ⟨1, ![1]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x1024 : Shape := ⟨2, ![512, 1024]⟩
abbrev S1024x2048 : Shape := ⟨2, ![1024, 2048]⟩
abbrev S1024x1024 : Shape := ⟨2, ![1024, 1024]⟩
abbrev S256x1x128 : Shape := ⟨3, ![256, 1, 128]⟩
abbrev S256x128 : Shape := ⟨2, ![256, 128]⟩
abbrev S256x1024 : Shape := ⟨2, ![256, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S82944x8x128, .bf16⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S82944x1024, .f32⟩
  | .local _ .vmem, ⟨0, _⟩ => ⟨S512x8x128, .bf16⟩
  | .local _ .vmem, ⟨1, _⟩ => ⟨S512x8x128, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S162, .i32⟩
  | .local _ .smem, ⟨1, _⟩ => ⟨S162, .i32⟩
  | _, _ => ⟨S82944x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![162], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S162.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S162.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S162.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S162.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S82944x8x128 : Shape := ⟨3, ![82944, 8, 128]⟩
abbrev S162 : Shape := ⟨1, ![162]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S82944x1024 : Shape := ⟨2, ![82944, 1024]⟩
abbrev S82944x32x2048 : Shape := ⟨3, ![82944, 32, 2048]⟩
abbrev S32x2048 : Shape := ⟨2, ![32, 2048]⟩
abbrev S1x32x2048 : Shape := ⟨3, ![1, 32, 2048]⟩
abbrev S82944x32x1024 : Shape := ⟨3, ![82944, 32, 1024]⟩
abbrev S_ : Shape := ⟨0, ![]⟩
abbrev S32x1024x82944 : Shape := ⟨3, ![32, 1024, 82944]⟩
abbrev S32x1024 : Shape := ⟨2, ![32, 1024]⟩
abbrev S1x32x1024 : Shape := ⟨3, ![1, 32, 1024]⟩
abbrev S162x1 : Shape := ⟨2, ![162, 1]⟩
abbrev S162x512 : Shape := ⟨2, ![162, 512]⟩
abbrev S82944 : Shape := ⟨1, ![82944]⟩
abbrev S82944x1 : Shape := ⟨2, ![82944, 1]⟩
abbrev S32 : Shape := ⟨1, ![32]⟩
abbrev S1x32 : Shape := ⟨2, ![1, 32]⟩
abbrev S82944x32 : Shape := ⟨2, ![82944, 32]⟩
abbrev S82944x32x1 : Shape := ⟨3, ![82944, 32, 1]⟩

abbrev nBuf : Space → Nat
  | .hbm => 77
  | .vmem => 0
  | .smem => 0
  | _ => 0

abbrev bufTy : (tb : Table) → Fin (tcTables nBuf tb) → BufTy
  | .hbm, ⟨0, _⟩ => ⟨S82944x8x128, .bf16⟩
  | .hbm, ⟨1, _⟩ => ⟨S162, .i32⟩
  | .hbm, ⟨2, _⟩ => ⟨S162, .i32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S82944x1024, .bf16⟩
  | .hbm, ⟨8, _⟩ => ⟨S82944x1024, .f32⟩
  | .hbm, ⟨9, _⟩ => ⟨S82944x32x2048, .f32⟩
  | .hbm, ⟨10, _⟩ => ⟨S32x2048, .f32⟩
  | .hbm, ⟨11, _⟩ => ⟨S1x32x2048, .f32⟩
  | .hbm, ⟨12, _⟩ => ⟨S82944x32x2048, .f32⟩
  | .hbm, ⟨13, _⟩ => ⟨S82944x32x2048, .f32⟩
  | .hbm, ⟨14, _⟩ => ⟨S82944x32x1024, .f32⟩
  | .hbm, ⟨15, _⟩ => ⟨S_, .f32⟩
  | .hbm, ⟨16, _⟩ => ⟨S82944x32x1024, .f32⟩
  | .hbm, ⟨17, _⟩ => ⟨S82944x32x1024, .f32⟩
  | .hbm, ⟨18, _⟩ => ⟨S82944x32x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S82944x32x1024, .f32⟩
  | .hbm, ⟨23, _⟩ => ⟨S82944x32x1024, .f32⟩
  | .hbm, ⟨24, _⟩ => ⟨S_, .f32⟩
  | .hbm, ⟨25, _⟩ => ⟨S82944x32x1024, .f32⟩
  | .hbm, ⟨26, _⟩ => ⟨S82944x32x1024, .f32⟩
  | .hbm, ⟨27, _⟩ => ⟨S_, .f32⟩
  | .hbm, ⟨28, _⟩ => ⟨S82944x32x1024, .f32⟩
  | .hbm, ⟨29, _⟩ => ⟨S82944x32x1024, .f32⟩
  | .hbm, ⟨30, _⟩ => ⟨S82944x32x1024, .f32⟩
  | .hbm, ⟨31, _⟩ => ⟨S82944x32x1024, .f32⟩
  | .hbm, ⟨32, _⟩ => ⟨S_, .f32⟩
  | .hbm, ⟨33, _⟩ => ⟨S82944x32x1024, .f32⟩
  | .hbm, ⟨34, _⟩ => ⟨S82944x32x1024, .f32⟩
  | .hbm, ⟨35, _⟩ => ⟨S_, .f32⟩
  | .hbm, ⟨36, _⟩ => ⟨S82944x32x1024, .f32⟩
  | .hbm, ⟨37, _⟩ => ⟨S82944x32x1024, .f32⟩
  | .hbm, ⟨38, _⟩ => ⟨S82944x32x1024, .f32⟩
  | .hbm, ⟨39, _⟩ => ⟨S_, .f32⟩
  | .hbm, ⟨40, _⟩ => ⟨S82944x32x1024, .f32⟩
  | .hbm, ⟨41, _⟩ => ⟨S82944x32x1024, .f32⟩
  | .hbm, ⟨42, _⟩ => ⟨S82944x32x1024, .f32⟩
  | .hbm, ⟨43, _⟩ => ⟨S32x1024x82944, .f32⟩
  | .hbm, ⟨44, _⟩ => ⟨S82944x32x1024, .f32⟩
  | .hbm, ⟨45, _⟩ => ⟨S32x1024, .f32⟩
  | .hbm, ⟨46, _⟩ => ⟨S1x32x1024, .f32⟩
  | .hbm, ⟨47, _⟩ => ⟨S82944x32x1024, .f32⟩
  | .hbm, ⟨48, _⟩ => ⟨S82944x32x1024, .f32⟩
  | .hbm, ⟨49, _⟩ => ⟨S162x1, .i32⟩
  | .hbm, ⟨50, _⟩ => ⟨S162x512, .i32⟩
  | .hbm, ⟨51, _⟩ => ⟨S82944, .i32⟩
  | .hbm, ⟨52, _⟩ => ⟨S162x1, .i32⟩
  | .hbm, ⟨53, _⟩ => ⟨S162x512, .i32⟩
  | .hbm, ⟨54, _⟩ => ⟨S82944, .i32⟩
  | .hbm, ⟨55, _⟩ => ⟨S_, .i32⟩
  | .hbm, ⟨56, _⟩ => ⟨S82944, .i32⟩
  | .hbm, ⟨57, _⟩ => ⟨S82944, .i1⟩
  | .hbm, ⟨58, _⟩ => ⟨S82944x1, .i32⟩
  | .hbm, ⟨59, _⟩ => ⟨S32, .i32⟩
  | .hbm, ⟨60, _⟩ => ⟨S1x32, .i32⟩
  | .hbm, ⟨61, _⟩ => ⟨S82944x32, .i32⟩
  | .hbm, ⟨62, _⟩ => ⟨S82944x32, .i32⟩
  | .hbm, ⟨63, _⟩ => ⟨S82944x32, .i1⟩
  | .hbm, ⟨64, _⟩ => ⟨S82944x1, .i1⟩
  | .hbm, ⟨65, _⟩ => ⟨S82944x32, .i1⟩
  | .hbm, ⟨66, _⟩ => ⟨S82944x32, .i1⟩
  | .hbm, ⟨67, _⟩ => ⟨S_, .f32⟩
  | .hbm, ⟨68, _⟩ => ⟨S_, .f32⟩
  | .hbm, ⟨69, _⟩ => ⟨S82944x32, .f32⟩
  | .hbm, ⟨70, _⟩ => ⟨S82944x32, .f32⟩
  | .hbm, ⟨71, _⟩ => ⟨S82944x32, .f32⟩
  | .hbm, ⟨72, _⟩ => ⟨S82944x32x1, .f32⟩
  | .hbm, ⟨73, _⟩ => ⟨S82944x32x1024, .f32⟩
  | .hbm, ⟨74, _⟩ => ⟨S82944x32x1024, .f32⟩
  | .hbm, ⟨75, _⟩ => ⟨S_, .f32⟩
  | .hbm, ⟨76, _⟩ => ⟨S82944x1024, .f32⟩
  | _, _ => ⟨S82944x8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_cst_7 : Ref sig .tc := ⟨.hbm, 68, rfl⟩
abbrev main_call1_v0 : Ref sig .tc := ⟨.hbm, 69, rfl⟩
abbrev main_call1_v1 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩

abbrev nD : Nat := 1
abbrev τ : Topo := Topo.v7x

variable {F : FTy → Type} [FloatOps F]
-- ==== Inputs.lean ====
abbrev S1x16384x1024 : Shape := ⟨3, ![1, 16384, 1024]⟩
abbrev S16x16x1024 : Shape := ⟨3, ![16, 16, 1024]⟩
abbrev S1x16x512x8x64 : Shape := ⟨5, ![1, 16, 512, 8, 64]⟩
abbrev S1x1024 : Shape := ⟨2, ![1, 1024]⟩
abbrev S1x1024x5448 : Shape := ⟨3, ![1, 1024, 5448]⟩
abbrev S1x128 : Shape := ⟨2, ![1, 128]⟩
abbrev S1x64 : Shape := ⟨2, ![1, 64]⟩
abbrev S65 : Shape := ⟨1, ![65]⟩
abbrev S2x256 : Shape := ⟨2, ![2, 256]⟩
abbrev S16x512x8x64 : Shape := ⟨4, ![16, 512, 8, 64]⟩
abbrev S1024 : Shape := ⟨1, ![1024]⟩
abbrev S1024x5448 : Shape := ⟨2, ![1024, 5448]⟩
abbrev S128 : Shape := ⟨1, ![128]⟩
abbrev S64 : Shape := ⟨1, ![64]⟩
abbrev S16384x1024 : Shape := ⟨2, ![16384, 1024]⟩
abbrev S256x1024 : Shape := ⟨2, ![256, 1024]⟩
abbrev S1024x1024 : Shape := ⟨2, ![1024, 1024]⟩
abbrev S1024x128 : Shape := ⟨2, ![1024, 128]⟩
abbrev S1024x512 : Shape := ⟨2, ![1024, 512]⟩
abbrev S1024x64 : Shape := ⟨2, ![1024, 64]⟩
abbrev S1024x8 : Shape := ⟨2, ![1024, 8]⟩
abbrev S_ : Shape := ⟨0, ![]⟩
abbrev S1024x3584 : Shape := ⟨2, ![1024, 3584]⟩
abbrev S2x64 : Shape := ⟨2, ![2, 64]⟩
abbrev S65x1x1 : Shape := ⟨3, ![65, 1, 1]⟩
abbrev S1x1x128 : Shape := ⟨3, ![1, 1, 128]⟩
abbrev S65x1x128 : Shape := ⟨3, ![65, 1, 128]⟩
abbrev S2x256x1 : Shape := ⟨3, ![2, 256, 1]⟩
abbrev S2x256x128 : Shape := ⟨3, ![2, 256, 128]⟩
abbrev S32 : Shape := ⟨1, ![32]⟩
abbrev S1x32 : Shape := ⟨2, ![1, 32]⟩
abbrev S4x32 : Shape := ⟨2, ![4, 32]⟩
abbrev S8x16640x128 : Shape := ⟨3, ![8, 16640, 128]⟩
abbrev S16640x128 : Shape := ⟨2, ![16640, 128]⟩
abbrev S16640x512 : Shape := ⟨2, ![16640, 512]⟩
abbrev S1x256x128 : Shape := ⟨3, ![1, 256, 128]⟩
abbrev S8x256x128 : Shape := ⟨3, ![8, 256, 128]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S16384x128 : Shape := ⟨2, ![16384, 128]⟩
abbrev S1x16384x1x128 : Shape := ⟨4, ![1, 16384, 1, 128]⟩
abbrev S512x512 : Shape := ⟨2, ![512, 512]⟩
abbrev S1x512x8x64 : Shape := ⟨4, ![1, 512, 8, 64]⟩
abbrev S16x16x8x64 : Shape := ⟨4, ![16, 16, 8, 64]⟩
abbrev S16x16x1x128 : Shape := ⟨4, ![16, 16, 1, 128]⟩
abbrev S16x528x8x64 : Shape := ⟨4, ![16, 528, 8, 64]⟩
abbrev S1x1x16384x1x128 : Shape := ⟨5, ![1, 1, 16384, 1, 128]⟩
abbrev S1x1x512x8x64 : Shape := ⟨5, ![1, 1, 512, 8, 64]⟩
abbrev S1x16x16x1x128 : Shape := ⟨5, ![1, 16, 16, 1, 128]⟩

abbrev nBuf : Space → Nat
  | .hbm => 144
  | .vmem => 56
  | .smem => 0
  | _ => 0

abbrev hbmTy0_0 (i : Nat) : BufTy := match i % 128 with
  | 0 => ⟨S1x16384x1024, .f32⟩
  | 1 => ⟨S16x16x1024, .f32⟩
  | 2 => ⟨S1x16x512x8x64, .f32⟩
  | 3 => ⟨S1x1024, .f32⟩
  | 4 => ⟨S1x1024x5448, .f32⟩
  | 5 => ⟨S1x128, .f32⟩
  | 6 => ⟨S1x128, .f32⟩
  | 7 => ⟨S1x64, .f32⟩
  | 8 => ⟨S1x64, .f32⟩
  | 9 => ⟨S1x64, .f32⟩
  | 10 => ⟨S65, .f32⟩
  | 11 => ⟨S2x256, .f32⟩
  | 12 => ⟨S16x512x8x64, .f32⟩
  | 13 => ⟨S1024, .f32⟩
  | 14 => ⟨S1024x5448, .f32⟩
  | 15 => ⟨S128, .f32⟩
  | 16 => ⟨S128, .f32⟩
  | 17 => ⟨S64, .f32⟩
  | 18 => ⟨S64, .f32⟩
  | 19 => ⟨S64, .f32⟩
  | 20 => ⟨S16384x1024, .f32⟩
  | 21 => ⟨S256x1024, .f32⟩
  | 22 => ⟨S1024x1024, .f32⟩
  | 23 => ⟨S1024x128, .f32⟩
  | 24 => ⟨S1024x128, .f32⟩
  | 25 => ⟨S1024x512, .f32⟩
  | 26 => ⟨S1024x64, .f32⟩
  | 27 => ⟨S1024x8, .f32⟩
  | 28 => ⟨S1024x512, .f32⟩
  | 29 => ⟨S1024x512, .f32⟩
  | 30 => ⟨S1024x512, .f32⟩
  | 31 => ⟨S_, .i32⟩
  | 32 => ⟨S_, .f32⟩
  | 33 => ⟨S1024x128, .f32⟩
  | 34 => ⟨S_, .i32⟩
  | 35 => ⟨S_, .f32⟩
  | 36 => ⟨S1024x128, .f32⟩
  | 37 => ⟨S1024x3584, .f32⟩
  | 38 => ⟨S1024x3584, .bf16⟩
  | 39 => ⟨S64, .f32⟩
  | 40 => ⟨S_, .f32⟩
  | 41 => ⟨S64, .f32⟩
  | 42 => ⟨S64, .f32⟩
  | 43 => ⟨S_, .f32⟩
  | 44 => ⟨S64, .f32⟩
  | 45 => ⟨S64, .f32⟩
  | 46 => ⟨S64, .f32⟩
  | 47 => ⟨S_, .f32⟩
  | 48 => ⟨S64, .f32⟩
  | 49 => ⟨S64, .f32⟩
  | 50 => ⟨S_, .f32⟩
  | 51 => ⟨S64, .f32⟩
  | 52 => ⟨S64, .f32⟩
  | 53 => ⟨S1x64, .f32⟩
  | 54 => ⟨S2x64, .f32⟩
  | 55 => ⟨S128, .f32⟩
  | 56 => ⟨S65x1x1, .f32⟩
  | 57 => ⟨S1x1x128, .f32⟩
  | 58 => ⟨S65x1x128, .f32⟩
  | 59 => ⟨S65x1x128, .f32⟩
  | 60 => ⟨S65x1x128, .f32⟩
  | 61 => ⟨S2x256x1, .f32⟩
  | 62 => ⟨S1x1x128, .f32⟩
  | 63 => ⟨S2x256x128, .f32⟩
  | 64 => ⟨S2x256x128, .f32⟩
  | 65 => ⟨S2x256x128, .f32⟩
  | 66 => ⟨S65x1x128, .f32⟩
  | 67 => ⟨S65x1x128, .f32⟩
  | 68 => ⟨S2x256x128, .f32⟩
  | 69 => ⟨S2x256x128, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S32, .f32⟩
  | 78 => ⟨S_, .f32⟩
  | 79 => ⟨S32, .f32⟩
  | 80 => ⟨S32, .f32⟩
  | 81 => ⟨S_, .f32⟩
  | 82 => ⟨S32, .f32⟩
  | 83 => ⟨S32, .f32⟩
  | 84 => ⟨S1x32, .f32⟩
  | 85 => ⟨S4x32, .f32⟩
  | 86 => ⟨S128, .f32⟩
  | 87 => ⟨S65x1x1, .f32⟩
  | 88 => ⟨S1x1x128, .f32⟩
  | 89 => ⟨S65x1x128, .f32⟩
  | 90 => ⟨S65x1x128, .f32⟩
  | 91 => ⟨S65x1x128, .f32⟩
  | 92 => ⟨S2x256x1, .f32⟩
  | 93 => ⟨S1x1x128, .f32⟩
  | 94 => ⟨S2x256x128, .f32⟩
  | 95 => ⟨S2x256x128, .f32⟩
  | 96 => ⟨S2x256x128, .f32⟩
  | 97 => ⟨S65x1x128, .f32⟩
  | 98 => ⟨S65x1x128, .f32⟩
  | 99 => ⟨S2x256x128, .f32⟩
  | 100 => ⟨S2x256x128, .f32⟩
  | 101 => ⟨S_, .i32⟩
  | 102 => ⟨S_, .f32⟩
  | 103 => ⟨S128, .f32⟩
  | 104 => ⟨S1x128, .f32⟩
  | 105 => ⟨S1x64, .f32⟩
  | 106 => ⟨S2x64, .f32⟩
  | 107 => ⟨S128, .f32⟩
  | 108 => ⟨S1x128, .f32⟩
  | 109 => ⟨S1x64, .f32⟩
  | 110 => ⟨S2x64, .f32⟩
  | 111 => ⟨S128, .f32⟩
  | 112 => ⟨S1x128, .f32⟩
  | 113 => ⟨S1x1024, .f32⟩
  | 114 => ⟨S1x128, .f32⟩
  | 115 => ⟨S1x128, .f32⟩
  | 116 => ⟨S8x16640x128, .bf16⟩
  | 117 => ⟨S8x16640x128, .bf16⟩
  | 118 => ⟨S16640x128, .f32⟩
  | 119 => ⟨S16640x128, .f32⟩
  | 120 => ⟨S16640x128, .f32⟩
  | 121 => ⟨S16640x128, .f32⟩
  | 122 => ⟨S16640x128, .bf16⟩
  | 123 => ⟨S16640x128, .bf16⟩
  | 124 => ⟨S16640x128, .bf16⟩
  | 125 => ⟨S8x16640x128, .bf16⟩
  | 126 => ⟨S16640x512, .f32⟩
  | 127 => ⟨S16640x512, .f32⟩
  | _ => ⟨S1x16384x1024, .f32⟩

abbrev hbmTy0_1 (i : Nat) : BufTy := match i % 128 with
  | 0 => ⟨S16640x512, .bf16⟩
  | 1 => ⟨S16640x512, .bf16⟩
  | 2 => ⟨S16384x128, .f32⟩
  | 3 => ⟨S1x16384x1x128, .f32⟩
  | 4 => ⟨S512x512, .f32⟩
  | 5 => ⟨S1x512x8x64, .f32⟩
  | 6 => ⟨S256x512, .f32⟩
  | 7 => ⟨S16x16x8x64, .f32⟩
  | 8 => ⟨S256x128, .f32⟩
  | 9 => ⟨S16x16x1x128, .f32⟩
  | 10 => ⟨S16x528x8x64, .f32⟩
  | 11 => ⟨S16x512x8x64, .f32⟩
  | 12 => ⟨S1x1x16384x1x128, .f32⟩
  | 13 => ⟨S1x1x512x8x64, .f32⟩
  | 14 => ⟨S1x16x16x1x128, .f32⟩
  | 15 => ⟨S1x16x512x8x64, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x3584, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S1x256x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x256x128, .f32⟩
  | .local _ .vmem, ⟨24, _⟩ => ⟨S1x256x128, .f32⟩
  | .local _ .vmem, ⟨25, _⟩ => ⟨S1x256x128, .f32⟩
  | .local _ .vmem, ⟨26, _⟩ => ⟨S1x256x128, .f32⟩
  | .local _ .vmem, ⟨27, _⟩ => ⟨S8x256x128, .bf16⟩
  | .local _ .vmem, ⟨28, _⟩ => ⟨S8x256x128, .bf16⟩
  | .local _ .vmem, ⟨29, _⟩ => ⟨S8x256x128, .bf16⟩
  | .local _ .vmem, ⟨30, _⟩ => ⟨S8x256x128, .bf16⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S256x128, .f32⟩
  | .local _ .vmem, ⟨35, _⟩ => ⟨S256x128, .f32⟩
  | .local _ .vmem, ⟨36, _⟩ => ⟨S256x128, .f32⟩
  | .local _ .vmem, ⟨37, _⟩ => ⟨S256x128, .f32⟩
  | .local _ .vmem, ⟨38, _⟩ => ⟨S256x128, .f32⟩
  | .local _ .vmem, ⟨39, _⟩ => ⟨S256x128, .bf16⟩
  | .local _ .vmem, ⟨40, _⟩ => ⟨S256x128, .bf16⟩
  | .local _ .vmem, ⟨41, _⟩ => ⟨S256x128, .bf16⟩
  | .local _ .vmem, ⟨42, _⟩ => ⟨S256x128, .bf16⟩
  | .local _ .vmem, ⟨43, _⟩ => ⟨S256x128, .bf16⟩
  | .local _ .vmem, ⟨44, _⟩ => ⟨S256x128, .bf16⟩
  | .local _ .vmem, ⟨45, _⟩ => ⟨S8x256x128, .bf16⟩
  | .local _ .vmem, ⟨46, _⟩ => ⟨S8x256x128, .bf16⟩
  | .local _ .vmem, ⟨47, _⟩ => ⟨S256x512, .f32⟩
  | .local _ .vmem, ⟨48, _⟩ => ⟨S256x512, .f32⟩
  | .local _ .vmem, ⟨49, _⟩ => ⟨S256x512, .f32⟩
  | .local _ .vmem, ⟨50, _⟩ => ⟨S256x512, .f32⟩
  | .local _ .vmem, ⟨51, _⟩ => ⟨S256x512, .bf16⟩
  | .local _ .vmem, ⟨52, _⟩ => ⟨S256x512, .bf16⟩
  | .local _ .vmem, ⟨53, _⟩ => ⟨S256x512, .bf16⟩
  | .local _ .vmem, ⟨54, _⟩ => ⟨S256x512, .bf16⟩
  | .local _ .vmem, ⟨55, _⟩ => ⟨S256x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_call0_v0 : Ref sig .tc := ⟨.hbm, 32, rfl⟩
abbrev main_v19 : Ref sig .tc := ⟨.hbm, 33, rfl⟩
abbrev main_c_1 : Ref sig .tc := ⟨.hbm, 34, rfl⟩
abbrev main_call1_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_8 : Ref sig .tc := ⟨.hbm, 78, rfl⟩
abbrev main_v56 : Ref sig .tc := ⟨.hbm, 79, rfl⟩
abbrev main_v57 : Ref sig .tc := ⟨.hbm, 80, rfl⟩
abbrev main_cst_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_c_10 : Ref sig .tc := ⟨.hbm, 101, rfl⟩
abbrev main_call2_v0 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90_0 : Ref sig .tc := ⟨.hbm, 116, rfl⟩
abbrev main_v90_1 : Ref sig .tc := ⟨.hbm, 117, rfl⟩
abbrev main_v90_2 : Ref sig .tc := ⟨.hbm, 118, rfl⟩
abbrev main_v90_3 : Ref sig .tc := ⟨.hbm, 119, rfl⟩
abbrev main_v90_4 : Ref sig .tc := ⟨.hbm, 120, rfl⟩
abbrev main_v90_5 : Ref sig .tc := ⟨.hbm, 121, rfl⟩
abbrev main_v90_6 : Ref sig .tc := ⟨.hbm, 122, rfl⟩
abbrev main_v90_7 : Ref sig .tc := ⟨.hbm, 123, rfl⟩
abbrev main_v90_8 : Ref sig .tc := ⟨.hbm, 124, rfl⟩
abbrev main_v90_9 : Ref sig .tc := ⟨.hbm, 125, rfl⟩
abbrev main_v90_10 : Ref sig .tc := ⟨.hbm, 126, rfl⟩
abbrev main_v90_11 : Ref sig .tc := ⟨.hbm, 127, rfl⟩
abbrev main_v90_12 : Ref sig .tc := ⟨.hbm, 128, rfl⟩
abbrev main_v90_13 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_stg23_1 : Ref sig .tc := ⟨.vmem, 40, rfl⟩
abbrev cc0_stg24_0 : Ref sig .tc := ⟨.vmem, 41, rfl⟩
abbrev cc0_stg24_1 : Ref sig .tc := ⟨.vmem, 42, rfl⟩
abbrev cc0_stg25_0 : Ref sig .tc := ⟨.vmem, 43, rfl⟩
abbrev cc0_stg25_1 : Ref sig .tc := ⟨.vmem, 44, rfl⟩
abbrev cc0_stg26_0 : Ref sig .tc := ⟨.vmem, 45, rfl⟩
abbrev cc0_stg26_1 : Ref sig .tc := ⟨.vmem, 46, rfl⟩
abbrev cc0_stg27_0 : Ref sig .tc := ⟨.vmem, 47, rfl⟩
abbrev cc0_stg27_1 : Ref sig .tc := ⟨.vmem, 48, rfl⟩
abbrev cc0_stg28_0 : Ref sig .tc := ⟨.vmem, 49, rfl⟩
abbrev cc0_stg28_1 : Ref sig .tc := ⟨.vmem, 50, rfl⟩
abbrev cc0_stg29_0 : Ref sig .tc := ⟨.vmem, 51, rfl⟩
abbrev cc0_stg29_1 : Ref sig .tc := ⟨.vmem, 52, rfl⟩
abbrev cc0_stg30_0 : Ref sig .tc := ⟨.vmem, 53, rfl⟩
abbrev cc0_stg30_1 : Ref sig .tc := ⟨.vmem, 54, rfl⟩
abbrev cc0_scratch0 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40
abbrev cc0_sem24_0 : DmaSem sig := 41
abbrev cc0_sem24_1 : DmaSem sig := 42
abbrev cc0_sem25_0 : DmaSem sig := 43
abbrev cc0_sem25_1 : DmaSem sig := 44
abbrev cc0_sem26_0 : DmaSem sig := 45
abbrev cc0_sem26_1 : DmaSem sig := 46
abbrev cc0_sem27_0 : DmaSem sig := 47
abbrev cc0_sem27_1 : DmaSem sig := 48
abbrev cc0_sem28_0 : DmaSem sig := 49
abbrev cc0_sem28_1 : DmaSem sig := 50
abbrev cc0_sem29_0 : DmaSem sig := 51
abbrev cc0_sem29_1 : DmaSem sig := 52
abbrev cc0_sem30_0 : DmaSem sig := 53
abbrev cc0_sem30_1 : DmaSem sig := 54

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c64_i32 : BitVec 32 := 64#32
  let v0 : BitVec 1 := Scalar.cmpi .slt arg0 c64_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![v1.toNat, c0_i32_0.toNat, c0_i32_1.toNat]

def cc0_transform_12 (i : grid0.Coords) : Fin 3 → Nat :=
  let arg0 : BitVec 32 := BitVec.ofNat 32 (i 0).val
  let c64_i32 : BitVec 32 := 64#32
  let v0 : BitVec 1 := Scalar.cmpi .slt arg0 c64_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![v1.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c64_i32 : BitVec 32 := 64#32
  let v0 : BitVec 1 := Scalar.cmpi .slt arg0 c64_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![v1.toNat, c0_i32_0.toNat, c0_i32_1.toNat]

def cc0_transform_16 (i : grid0.Coords) : Fin 3 → Nat :=
  let arg0 : BitVec 32 := BitVec.ofNat 32 (i 0).val
  let c64_i32 : BitVec 32 := 64#32
  let v0 : BitVec 1 := Scalar.cmpi .slt arg0 c64_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![v1.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x256x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x128 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x128 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x128 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S8x256x128 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S256x512 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S256x512 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S256x512 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]
-- ==== InputsReferenceIdeal.lean ====
abbrev S1x16384x1024 : Shape := ⟨3, ![1, 16384, 1024]⟩
abbrev S16x16x1024 : Shape := ⟨3, ![16, 16, 1024]⟩
abbrev S1x16x512x8x64 : Shape := ⟨5, ![1, 16, 512, 8, 64]⟩
abbrev S1x1024 : Shape := ⟨2, ![1, 1024]⟩
abbrev S1x1024x5448 : Shape := ⟨3, ![1, 1024, 5448]⟩
abbrev S1x128 : Shape := ⟨2, ![1, 128]⟩
abbrev S1x64 : Shape := ⟨2, ![1, 64]⟩
abbrev S1024 : Shape := ⟨1, ![1024]⟩
abbrev S1024x5448 : Shape := ⟨2, ![1024, 5448]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x5448 : Shape := ⟨3, ![1, 16384, 5448]⟩
abbrev S1x16384x128 : Shape := ⟨3, ![1, 16384, 128]⟩
abbrev S1x16384x1x128 : Shape := ⟨4, ![1, 16384, 1, 128]⟩
abbrev S1x16384x512 : Shape := ⟨3, ![1, 16384, 512]⟩
abbrev S1x16384x8x64 : Shape := ⟨4, ![1, 16384, 8, 64]⟩
abbrev S1x512x8x64 : Shape := ⟨4, ![1, 512, 8, 64]⟩
abbrev S16x16 : Shape := ⟨2, ![16, 16]⟩
abbrev S16x16x1 : Shape := ⟨3, ![16, 16, 1]⟩
abbrev S16x16x5448 : Shape := ⟨3, ![16, 16, 5448]⟩
abbrev S16x16x128 : Shape := ⟨3, ![16, 16, 128]⟩
abbrev S16x16x1x128 : Shape := ⟨4, ![16, 16, 1, 128]⟩
abbrev S16x16x512 : Shape := ⟨3, ![16, 16, 512]⟩
abbrev S16x16x8x64 : Shape := ⟨4, ![16, 16, 8, 64]⟩
abbrev S16x512x8x64 : Shape := ⟨4, ![16, 512, 8, 64]⟩
abbrev S16x528x8x64 : Shape := ⟨4, ![16, 528, 8, 64]⟩
abbrev S1x1x16384x1x128 : Shape := ⟨5, ![1, 1, 16384, 1, 128]⟩
abbrev S1x1x512x8x64 : Shape := ⟨5, ![1, 1, 512, 8, 64]⟩
abbrev S1x16x16x1x128 : Shape := ⟨5, ![1, 16, 16, 1, 128]⟩

abbrev nBuf : Space → Nat
  | .hbm => 64
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16x16x1024, .f32⟩
  | .hbm, ⟨2, _⟩ => ⟨S1x16x512x8x64, .f32⟩
  | .hbm, ⟨3, _⟩ => ⟨S1x1024, .f32⟩
  | .hbm, ⟨4, _⟩ => ⟨S1x1024x5448, .f32⟩
  | .hbm, ⟨5, _⟩ => ⟨S1x128, .f32⟩
  | .hbm, ⟨6, _⟩ => ⟨S1x128, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1024, .f32⟩
  | .hbm, ⟨11, _⟩ => ⟨S1024x5448, .f32⟩
  | .hbm, ⟨12, _⟩ => ⟨S1x16384x1024, .f32⟩
  | .hbm, ⟨13, _⟩ => ⟨S_, .f32⟩
  | .hbm, ⟨14, _⟩ => ⟨S1x16384, .f32⟩
  | .hbm, ⟨15, _⟩ => ⟨S1x16384x1, .f32⟩
  | .hbm, ⟨16, _⟩ => ⟨S_, .f32⟩
  | .hbm, ⟨17, _⟩ => ⟨S1x16384x1, .f32⟩
  | .hbm, ⟨18, _⟩ => ⟨S1x16384x1, .f32⟩
  | .hbm, ⟨19, _⟩ => ⟨S_, .f32⟩
  | .hbm, ⟨20, _⟩ => ⟨S1x16384x1, .f32⟩
  | .hbm, ⟨21, _⟩ => ⟨S1x16384x1, .f32⟩
  | .hbm, ⟨22, _⟩ => ⟨S1x16384x1, .f32⟩
  | .hbm, ⟨23, _⟩ => ⟨S1x16384x1024, .f32⟩
  | .hbm, ⟨24, _⟩ => ⟨S1x16384x1024, .f32⟩
  | .hbm, ⟨25, _⟩ => ⟨S1x1x1024, .f32⟩
  | .hbm, ⟨26, _⟩ => ⟨S1x16384x1024, .f32⟩
  | .hbm, ⟨27, _⟩ => ⟨S1x16384x1024, .f32⟩
  | .hbm, ⟨28, _⟩ => ⟨S1x16384x5448, .f32⟩
  | .hbm, ⟨29, _⟩ => ⟨S1x16384x128, .f32⟩
  | .hbm, ⟨30, _⟩ => ⟨S1x16384x1x128, .f32⟩
  | .hbm, ⟨31, _⟩ => ⟨S1x16384x512, .f32⟩
  | .hbm, ⟨32, _⟩ => ⟨S1x16384x8x64, .f32⟩
  | .hbm, ⟨33, _⟩ => ⟨S1x512x8x64, .f32⟩
  | .hbm, ⟨34, _⟩ => ⟨S1024, .f32⟩
  | .hbm, ⟨35, _⟩ => ⟨S1024x5448, .f32⟩
  | .hbm, ⟨36, _⟩ => ⟨S16x16x1024, .f32⟩
  | .hbm, ⟨37, _⟩ => ⟨S_, .f32⟩
  | .hbm, ⟨38, _⟩ => ⟨S16x16, .f32⟩
  | .hbm, ⟨39, _⟩ => ⟨S16x16x1, .f32⟩
  | .hbm, ⟨40, _⟩ => ⟨S_, .f32⟩
  | .hbm, ⟨41, _⟩ => ⟨S16x16x1, .f32⟩
  | .hbm, ⟨42, _⟩ => ⟨S16x16x1, .f32⟩
  | .hbm, ⟨43, _⟩ => ⟨S_, .f32⟩
  | .hbm, ⟨44, _⟩ => ⟨S16x16x1, .f32⟩
  | .hbm, ⟨45, _⟩ => ⟨S16x16x1, .f32⟩
  | .hbm, ⟨46, _⟩ => ⟨S16x16x1, .f32⟩
  | .hbm, ⟨47, _⟩ => ⟨S16x16x1024, .f32⟩
  | .hbm, ⟨48, _⟩ => ⟨S16x16x1024, .f32⟩
  | .hbm, ⟨49, _⟩ => ⟨S1x1x1024, .f32⟩
  | .hbm, ⟨50, _⟩ => ⟨S16x16x1024, .f32⟩
  | .hbm, ⟨51, _⟩ => ⟨S16x16x1024, .f32⟩
  | .hbm, ⟨52, _⟩ => ⟨S16x16x5448, .f32⟩
  | .hbm, ⟨53, _⟩ => ⟨S16x16x128, .f32⟩
  | .hbm, ⟨54, _⟩ => ⟨S16x16x1x128, .f32⟩
  | .hbm, ⟨55, _⟩ => ⟨S16x16x512, .f32⟩
  | .hbm, ⟨56, _⟩ => ⟨S16x16x8x64, .f32⟩
  | .hbm, ⟨57, _⟩ => ⟨S16x512x8x64, .f32⟩
  | .hbm, ⟨58, _⟩ => ⟨S16x528x8x64, .f32⟩
  | .hbm, ⟨59, _⟩ => ⟨S16x512x8x64, .f32⟩
  | .hbm, ⟨60, _⟩ => ⟨S1x1x16384x1x128, .f32⟩
  | .hbm, ⟨61, _⟩ => ⟨S1x1x512x8x64, .f32⟩
  | .hbm, ⟨62, _⟩ => ⟨S1x16x16x1x128, .f32⟩
  | .hbm, ⟨63, _⟩ => ⟨S1x16x512x8x64, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Proof.Band.Softmax.lean ====
/- The arithmetic of one row of the band attention, over the extended reals and with no program in it: a softmax over a wide
   row of 1024 logits that are −∞ outside a window of 576, its normalisation done last, against the softmax over the window
   alone, its normalisation done first. -/
module

public import Idealize.ShloMosaic.PureOps.Ideal
public import Idealize.ShloMosaic.PureOps.Ideal.Laws

@[expose] public section

noncomputable section

namespace Band

open Idealize.ShloMosaic

/-- The largest entry of a row. -/
def rowMax {n : ℕ} (s : Fin n → EReal) : EReal := Finset.univ.sup s

/-- The weight of an entry against a given maximum. -/
def expAt (m x : EReal) : EReal := Ideal.exp (x - m)

theorem expAt_bot (m : EReal) : expAt m ⊥ = 0 := by
  unfold expAt
  rw [EReal.bot_sub]
  rfl

/-- Against a real maximum the weight of an entry that is not +∞ is a real number, not negative. -/
theorem expAt_real (m : ℝ) {x : EReal} (hx : x ≠ ⊤) : ∃ r : ℝ, 0 ≤ r ∧ expAt m x = (r : EReal) := by
  induction x with
  | bot => exact ⟨0, le_refl _, by rw [expAt_bot]; rfl⟩
  | top => exact absurd rfl hx
  | coe a => exact ⟨Real.exp (a - m), (Real.exp_pos _).le, rfl⟩

theorem expAt_self (m : ℝ) : expAt m (m : EReal) = 1 := by
  unfold expAt
  rw [← EReal.coe_sub, sub_self]
  show ((Real.exp 0 : ℝ) : EReal) = 1
  rw [Real.exp_zero]; rfl

/-- A nonnegative real factor goes into a sum of extended reals. -/
theorem sum_mul_real {ι : Type*} (A : Finset ι) (f : ι → EReal) {c : EReal} (h0 : 0 ≤ c) (ht : c ≠ ⊤) :
    (∑ j ∈ A, f j) * c = ∑ j ∈ A, f j * c := by
  classical
  induction A using Finset.induction_on with
  | empty => simp
  | insert a A ha ih =>
    rw [Finset.sum_insert ha, Finset.sum_insert ha, ← ih, EReal.right_distrib_of_nonneg_of_ne_top h0 ht]

/-- A sum of real numbers is a real number, at least any one of them when none is negative. -/
theorem sum_real {n : ℕ} (f : Fin n → EReal) (h : ∀ j, ∃ r : ℝ, 0 ≤ r ∧ f j = (r : EReal)) (k : Fin n) :
    ∃ R : ℝ, ∑ j, f j = (R : EReal) ∧ ∀ a : ℝ, f k = (a : EReal) → a ≤ R := by
  choose r h0 hr using h
  refine ⟨∑ j, r j, ?_, ?_⟩
  · rw [Finset.sum_congr rfl fun j _ => hr j]
    exact (map_sum (⟨⟨Real.toEReal, rfl⟩, EReal.coe_add⟩ : ℝ →+ EReal) r Finset.univ).symm
  · intro a ha
    have e : a = r k := EReal.coe_injective (ha.symm.trans (hr k))
    rw [e]
    exact Finset.single_le_sum (fun j _ => h0 j) (Finset.mem_univ k)

section window

variable (s v : Fin 1024 → EReal) (t w : Fin 576 → EReal) (o : ℕ) (ho : o + 576 ≤ 1024)

/-- Column `o + j` of the wide row. -/
def col (j : Fin 576) : Fin 1024 := ⟨o + j.val, by have := j.isLt; omega⟩

/-- A sum over the wide row of terms that vanish outside the window is the sum over the window. -/
theorem sum_window (f : Fin 1024 → EReal) (g : Fin 576 → EReal) (hin : ∀ j, g j = f (col o ho j))
    (hout : ∀ c : Fin 1024, (c.val < o ∨ o + 576 ≤ c.val) → f c = 0) : ∑ c, f c = ∑ j, g j := by
  refine (Finset.sum_of_injOn (col o ho) ?_ (fun _ _ => Finset.mem_coe.2 (Finset.mem_univ _)) ?_ fun j _ => hin j).symm
  · intro a _ b _ h
    have h' := congrArg Fin.val h
    simp only [col] at h'
    exact Fin.ext (by omega)
  · intro c _ hc
    apply hout
    by_contra hn
    exact hc ⟨⟨c.val - o, by omega⟩, Finset.mem_coe.2 (Finset.mem_univ _), Fin.ext (by simp only [col]; omega)⟩

/-- The maximum of the wide row is the window's. -/
theorem rowMax_window (hin : ∀ j, s (col o ho j) = t j)
    (hout : ∀ c : Fin 1024, (c.val < o ∨ o + 576 ≤ c.val) → s c = ⊥) : rowMax s = rowMax t := by
  apply le_antisymm
  · refine Finset.sup_le fun c _ => ?_
    by_cases hc : c.val < o ∨ o + 576 ≤ c.val
    · rw [hout c hc]; exact bot_le
    · have e : col o ho ⟨c.val - o, by omega⟩ = c := Fin.ext (by simp only [col]; omega)
      rw [← e, hin]
      exact Finset.le_sup (f := t) (Finset.mem_univ _)
  · refine Finset.sup_le fun j _ => ?_
    rw [← hin]
    exact Finset.le_sup (f := s) (Finset.mem_univ _)

/-- THE ROW. The kernel's row: weigh the values of 1024 columns, add them up, divide by the sum of the weights. The
    reference's: divide the weights of the window's 576 columns by their sum, then weigh the values. They are the same when
    the logits outside the window are −∞, no logit is +∞, some logit is a number, and the values agree wherever the logit
    is a number. -/
theorem row_eq (hin : ∀ j, s (col o ho j) = t j)
    (hout : ∀ c : Fin 1024, (c.val < o ∨ o + 576 ≤ c.val) → s c = ⊥)
    (hv : ∀ j, t j ≠ ⊥ → v (col o ho j) = w j) (htop : ∀ j, t j ≠ ⊤) (hne : ∃ j, t j ≠ ⊥) :
    Ideal.div (∑ c, expAt (rowMax s) (s c) * v c) (∑ c, expAt (rowMax s) (s c))
      = ∑ j, w j * Ideal.div (expAt (rowMax t) (t j)) (∑ j, expAt (rowMax t) (t j)) := by
  rw [rowMax_window s t o ho hin hout]
  -- the maximum is attained, so it is a number
  obtain ⟨k, hk⟩ : ∃ k, rowMax t = t k := by
    obtain ⟨j, _⟩ := hne
    obtain ⟨k, _, hk⟩ := Finset.exists_mem_eq_sup Finset.univ ⟨j, Finset.mem_univ j⟩ t
    exact ⟨k, hk⟩
  have hbot : rowMax t ≠ ⊥ := by
    obtain ⟨j, hj⟩ := hne
    intro h
    have : t j ≤ rowMax t := Finset.le_sup (f := t) (Finset.mem_univ j)
    rw [h] at this
    exact hj (le_bot_iff.1 this)
  obtain ⟨m, hm⟩ : ∃ m : ℝ, rowMax t = (m : EReal) :=
    ⟨(rowMax t).toReal, (EReal.coe_toReal (hk ▸ htop k) hbot).symm⟩
  have hkm : t k = (m : EReal) := hk.symm.trans hm
  rw [hm]
  rw [sum_window o ho (fun c => expAt m (s c) * v c) (fun j => expAt m (t j) * w j) ?_ ?_,
    sum_window o ho (fun c => expAt m (s c)) (fun j => expAt m (t j)) ?_ ?_]
  · obtain ⟨R, hR, hle⟩ := sum_real (fun j => expAt (m : EReal) (t j)) (fun j => expAt_real m (htop j)) k
    have h1 : (1 : ℝ) ≤ R := hle 1 (by show expAt _ (t k) = _; rw [hkm, expAt_self]; rfl)
    rw [hR]
    have hR0 : (R : EReal) ≠ 0 := by
      intro h
      have : R = 0 := EReal.coe_injective h
      linarith
    have hdiv : ∀ x : EReal, Ideal.div x (R : EReal) = x * ((R⁻¹ : ℝ) : EReal) := fun x => by
      unfold Ideal.div
      rw [if_neg hR0, EReal.coe_inv]
    have hc0 : (0 : EReal) ≤ ((R⁻¹ : ℝ) : EReal) := by
      have : (0 : ℝ) ≤ R⁻¹ := inv_nonneg.2 (by linarith)
      exact_mod_cast this
    simp only [hdiv]
    rw [sum_mul_real _ _ hc0 (EReal.coe_ne_top _)]
    refine Finset.sum_congr rfl fun j _ => ?_
    rw [mul_comm (expAt _ _) (w j), mul_assoc]
  · intro j; show _ = expAt m (s _); rw [hin]
  · intro c hc; show expAt m (s c) = 0; rw [hout c hc, expAt_bot]
  · intro j
    show _ = expAt m (s _) * v _
    rw [hin]
    by_cases hj : t j = ⊥
    · rw [hj, expAt_bot, zero_mul, zero_mul]
    · rw [hv j hj]
  · intro c hc; show expAt m (s c) * v c = 0; rw [hout c hc, expAt_bot, zero_mul]

end window

theorem fold_eq_rowMax {n : ℕ} (f : Fin n → EReal) : Finset.univ.fold max (⊥ : EReal) f = rowMax f := rfl

end Band

end
-- ==== Proof.Band.Words.lean ====
/-
  Words of 32 bits read as signed numbers: comparisons, the larger and the smaller of two, sums that do not overflow.
-/
module
public import Idealize.ShloMosaic.Lib.Pointwise

@[expose] public section

noncomputable section

open Idealize.ShloMosaic

namespace Band

theorem toInt_small {n : ℕ} (h : n < 2 ^ 31) : (BitVec.ofNat 32 n).toInt = n := by
  rw [BitVec.toInt_ofNat']
  exact Int.bmod_eq_of_le (by omega) (by omega)

theorem and_bit : ∀ x y : BitVec 1, IntOp.andi x y = 1#1 ↔ x = 1#1 ∧ y = 1#1 := by decide
theorem or_bit : ∀ x y : BitVec 1, IntOp.ori x y = 1#1 ↔ x = 1#1 ∨ y = 1#1 := by decide
theorem bit_of (b : Bool) : (BitVec.ofBool b = 1#1) ↔ b = true := by cases b <;> decide
theorem lt_bit (x y : BitVec 32) : IntOp.cmpi .slt x y = 1#1 ↔ x.toInt < y.toInt := by
  simp [IntOp.cmpi, BitVec.slt, bit_of]
theorem le_bit (x y : BitVec 32) : IntOp.cmpi .sle x y = 1#1 ↔ x.toInt ≤ y.toInt := by
  simp [IntOp.cmpi, BitVec.sle, bit_of]
theorem ge_bit (x y : BitVec 32) : IntOp.cmpi .sge x y = 1#1 ↔ y.toInt ≤ x.toInt := by
  simp [IntOp.cmpi, BitVec.sle, bit_of]

theorem toInt_max (x y : BitVec 32) : (IntOp.maxsi x y).toInt = max x.toInt y.toInt := by
  unfold IntOp.maxsi
  split_ifs with g
  · have : y.toInt < x.toInt := by simpa [BitVec.slt] using g
    omega
  · have : ¬ y.toInt < x.toInt := by simpa [BitVec.slt] using g
    omega

theorem toInt_min (x y : BitVec 32) : (IntOp.minsi x y).toInt = min x.toInt y.toInt := by
  unfold IntOp.minsi
  split_ifs with g
  · have : x.toInt < y.toInt := by simpa [BitVec.slt] using g
    omega
  · have : ¬ x.toInt < y.toInt := by simpa [BitVec.slt] using g
    omega

theorem toInt_add (x y : BitVec 32) (h : -2 ^ 31 ≤ x.toInt + y.toInt ∧ x.toInt + y.toInt < 2 ^ 31) :
    (IntOp.addi x y).toInt = x.toInt + y.toInt := by
  simp only [IntOp.addi, BitVec.toInt_add]
  exact Int.bmod_eq_of_le (by omega) (by omega)

theorem toInt_sub (x y : BitVec 32) (h : -2 ^ 31 ≤ x.toInt - y.toInt ∧ x.toInt - y.toInt < 2 ^ 31) :
    (IntOp.subi x y).toInt = x.toInt - y.toInt := by
  simp only [IntOp.subi, BitVec.toInt_sub]
  exact Int.bmod_eq_of_le (by omega) (by omega)

theorem toInt_mul (x y : BitVec 32) (h : -2 ^ 31 ≤ x.toInt * y.toInt ∧ x.toInt * y.toInt < 2 ^ 31) :
    (IntOp.muli x y).toInt = x.toInt * y.toInt := by
  simp only [IntOp.muli, BitVec.toInt_mul]
  exact Int.bmod_eq_of_le (by omega) (by omega)

/-- An index that is not negative is left alone by the wrap from the end. -/
theorem wrap_id (x y : BitVec 32) (h : 0 ≤ x.toInt) : Scalar.select (IntOp.cmpi .slt x 0#32) y x = x := by
  unfold Scalar.select
  refine if_neg fun g => ?_
  have : x.toInt < 0 := (lt_bit x 0#32).mp g
  omega

end Band

end
-- ==== Proof.Band.Head.lean ====
/-
  What the body computes of one pair of heads at one grid point: of each head, row by row, the softmax of the masked scores against
  the 1024 loaded key rows (the previous tile's 512, then the point's own 512), times the value rows.
-/
module
public import proofs.«01_k».proof.Proof.Gen.KernelIdeal.Skeleton
public import proofs.«01_k».proof.Proof.Gen.KernelIdeal
public import proofs.«01_k».proof.Proof.Band.Softmax
public import proofs.«01_k».proof.Proof.Band.Words
public import Idealize.ShloMosaic.Lib.Pointwise
public import Idealize.ShloMosaic.Lib.Tactic.WordOmega

@[expose] public section

set_option maxRecDepth 16384

noncomputable section

open Idealize.ShloMosaic Cert.KernelIdeal Cert.KernelIdeal.Gen Idealize.ShloMosaic.TcCoe

namespace Band

/-- 512 rows of 128 lanes as the body loads them: of a pair's keys or values, or one head's queries. -/
abbrev Rows := Vec Ideal S1x512x128 EltTy.bf16

/-- One head's bias, 512 query rows by 1024 key rows. -/
abbrev Bias := Vec Ideal S1x512x1024 EltTy.f32

/-- The scale of the scores, one eighth. -/
def eighth : EReal := Ideal.ofBits .f32 0x3E000000#32

/-- Two tiles of 512 rows, one after the other: row `x` of the 1024, at a lane. -/
def both (a b : Rows) (x : Fin 1024) (l : Fin 128) : EReal :=
  if h : x.val < 512 then a (ix3 0 ⟨x.val, h⟩ l) else b (ix3 0 ⟨x.val - 512, by have := x.isLt; omega⟩ l)

/-- The masked score of query row `r` against key row `x`: at the first point of the grid, where there is no previous tile, the rows
    of that tile are masked. -/
def score (first : Prop) [Decidable first] (a b q : Rows) (u : Bias) (r : Fin 512) (x : Fin 1024) : EReal :=
  if first ∧ x.val < 512 then ⊥ else (∑ k : Fin 128, q (ix3 0 r k) * both a b x k) * eighth + u (ix3 0 r x)

/-- One head's attention at a query row and a lane. -/
def attend (first : Prop) [Decidable first] (a b c d q : Rows) (u : Bias) (r : Fin 512) (l : Fin 128) : EReal :=
  Ideal.div (∑ x, expAt (rowMax (score first a b q u r)) (score first a b q u r x) * both c d x l)
    (∑ x, expAt (rowMax (score first a b q u r)) (score first a b q u r x))

theorem named_mask (b : BitVec (FTy.bits .f32)) : Named.named (F := Ideal) (φ := .f32) κ "mask" b = (⊥ : EReal) := rfl

theorem ofBits_neg_inf : Ideal.ofBits .f32 0xFF800000#32 = ⊥ := by
  simp [Ideal.ofBits, Ideal.ieee]

/-- The word that the body compares a key row's number with marks the previous tile's rows at the first point, and no row elsewhere. -/
theorem masked_iff (i : Fin 32) (x : ℕ) (hx : x < 1024) :
    IntOp.cmpi CmpIPredicate.slt (BitVec.ofNat 32 x)
      (Scalar.select (Scalar.cmpi CmpIPredicate.sgt (BitVec.ofNat 32 i.val) 0#32) 0#32 512#32) = 1#1 ↔ (i.val = 0 ∧ x < 512) := by
  have hi := i.isLt
  have hI : (BitVec.ofNat 32 i.val).toInt = i.val := toInt_small (by omega)
  have hX : (BitVec.ofNat 32 x).toInt = x := toInt_small (by omega)
  simp only [Scalar.select, Scalar.cmpi, IntOp.cmpi, BitVec.slt, hI]
  by_cases h : i.val = 0
  · by_cases h' : x < 512 <;> simp [hX, h, h']
  · have hp : (0 : Fin 32) < i := Nat.pos_of_ne_zero h
    have hn : ¬ ((x : ℤ) < 0) := by omega
    simp [hX, h, hp, hn]

/-- The body's attention of one head. -/
theorem head_apply (i : grid0.Coords) (a b c d q : Rows) (u : Bias) (r : Fin 512) (l : Fin 128) :
    k0_pay22 (F := Ideal) (k0_pay14 i) a b c d q u (ix2 r l) = attend ((i 1).val = 0) a b c d q u r l := by
  pointwise [k0_pay14, k0_pay20, k0_pay21, k0_pay22]
  have hs : ∀ (x : ℕ) (hx : x < 1024) (z : EReal), Scalar.select (IntOp.cmpi CmpIPredicate.slt (BitVec.ofNat 32 x)
      (Scalar.select (Scalar.cmpi CmpIPredicate.sgt (BitVec.ofNat 32 (i 1).val) 0#32) 0#32 512#32))
      (Named.named (F := Ideal) (φ := .f32) κ "mask" 4048155338#32) z = if (i 1).val = 0 ∧ x < 512 then ⊥ else z := by
    intro x hx z
    rw [named_mask]
    unfold Scalar.select
    exact if_congr (masked_iff (i 1) x hx) rfl rfl
  have hS : ∀ x : Fin 1024, Scalar.select (IntOp.cmpi CmpIPredicate.slt (BitVec.ofNat 32 x.val)
      (Scalar.select (Scalar.cmpi CmpIPredicate.sgt (BitVec.ofNat 32 (i 1).val) 0#32) 0#32 512#32))
      (Named.named (F := Ideal) (φ := .f32) κ "mask" 4048155338#32)
      ((∑ k : Fin 128, q (ix3 0 r k) * (if h : x.val < 512 then a (ix3 0 ⟨x.val, h⟩ k) else b (ix3 0 ⟨x.val - 512, by have := x.isLt; omega⟩ k)))
        * Ideal.ofBits FTy.f32 1040187392#32 + u (ix3 0 r x)) = score ((i 1).val = 0) a b q u r x := by
    intro x
    rw [hs _ x.isLt]
    rfl
  have hlo : ∀ x : Fin 512, Scalar.select (IntOp.cmpi CmpIPredicate.slt (BitVec.ofNat 32 x.val)
      (Scalar.select (Scalar.cmpi CmpIPredicate.sgt (BitVec.ofNat 32 (i 1).val) 0#32) 0#32 512#32))
      (Named.named (F := Ideal) (φ := .f32) κ "mask" 4048155338#32)
      ((∑ k : Fin 128, q (ix3 0 r k) * a (ix3 0 x k)) * Ideal.ofBits FTy.f32 1040187392#32
        + u (ix3 0 r ⟨x.val, by have := x.isLt; omega⟩)) = score ((i 1).val = 0) a b q u r (Fin.castAdd 512 x) := by
    intro x
    rw [hs _ (by have := x.isLt; omega)]
    simp [score, both, eighth, Fin.castAdd, Fin.castLE]
  have hhi : ∀ x : Fin 512, Scalar.select (IntOp.cmpi CmpIPredicate.slt (BitVec.ofNat 32 (512 + x.val))
      (Scalar.select (Scalar.cmpi CmpIPredicate.sgt (BitVec.ofNat 32 (i 1).val) 0#32) 0#32 512#32))
      (Named.named (F := Ideal) (φ := .f32) κ "mask" 4048155338#32)
      ((∑ k : Fin 128, q (ix3 0 r k) * b (ix3 0 x k)) * Ideal.ofBits FTy.f32 1040187392#32
        + u (ix3 0 r ⟨512 + x.val, by have := x.isLt; omega⟩)) = score ((i 1).val = 0) a b q u r (Fin.natAdd 512 x) := by
    intro x
    rw [hs _ (by have := x.isLt; omega)]
    simp [score, both, eighth, Fin.natAdd]
  simp only [hS, hlo, hhi, ofBits_neg_inf, fold_eq_rowMax]
  unfold attend
  rw [Fin.sum_univ_add (a := 512) (b := 512), Fin.sum_univ_add (a := 512) (b := 512)]
  simp [both, expAt, Fin.castAdd, Fin.castLE, Fin.natAdd]

/-- What the body stores of a pair of heads: the even head on the lower 64 lanes, the odd one on the upper 64. -/
def pairOut (i : grid0.Coords) (a b c d q0 : Rows) (u0 : Bias) (q1 : Rows) (u1 : Bias) : FVec Ideal S512x128 .bf16 :=
  k0_pay29 (select k0_pay13 (k0_pay22 (k0_pay14 i) a b c d q0 u0) (k0_pay22 (k0_pay14 i) a b c d q1 u1))

theorem pair0 (i : grid0.Coords) (a b c d q0 : Rows) (u0 : Bias) (q1 : Rows) (u1 : Bias) :
    k0_pay19 k0_pay13 (k0_pay14 i) (k0_pay15 a b) (k0_pay16 c d) (k0_pay17 a b q0) (k0_pay18 u0) q1 u1
      = pairOut i a b c d q0 u0 q1 u1 := rfl

theorem pair1 (i : grid0.Coords) (a b c d q0 : Rows) (u0 : Bias) (q1 : Rows) (u1 : Bias) :
    k0_pay24 k0_pay13 (k0_pay14 i) (k0_pay21 c d) (k0_pay22 (k0_pay14 i) a b c d q0 u0) (k0_pay23 a b q1)
      (FloatOps.ofBits FTy.f32 1040187392#32) u1 = pairOut i a b c d q0 u0 q1 u1 := rfl

theorem pair2 (i : grid0.Coords) (a b c d q0 : Rows) (u0 : Bias) (q1 : Rows) (u1 : Bias) :
    k0_pay29 (k0_pay28 k0_pay13 (k0_pay14 i) (k0_pay25 a b) (k0_pay26 c d) (k0_pay27 a b q0) u0 q1 u1)
      = pairOut i a b c d q0 u0 q1 u1 := rfl

theorem pair3 (i : grid0.Coords) (a b c d q0 : Rows) (u0 : Bias) (q1 : Rows) (u1 : Bias) :
    k0_pay1 k0_pay13 (k0_pay14 i) (k0_pay30 a b) (k0_pay31 c d) (k0_pay32 (k0_pay14 i) a b c d q0 u0) q1 u1
      = pairOut i a b c d q0 u0 q1 u1 := rfl

theorem lower_iff (r : Fin 512) (l : Fin 128) : k0_pay13 (ix2 r l) = 1#1 ↔ l.val < 64 := by
  pointwise [k0_pay13]
  have hl := l.isLt
  have hL : (BitVec.ofNat 32 l.val).toInt = l.val := toInt_small (by omega)
  by_cases h : l.val < 64 <;> simp [IntOp.cmpi, BitVec.slt, hL, h]

/-- The stored pair at a row and a lane. -/
theorem pairOut_apply (i : grid0.Coords) (a b c d q0 : Rows) (u0 : Bias) (q1 : Rows) (u1 : Bias) (r : Fin 512) (l : Fin 128) :
    pairOut i a b c d q0 u0 q1 u1 (ix2 r l)
      = if l.val < 64 then attend ((i 1).val = 0) a b c d q0 u0 r l else attend ((i 1).val = 0) a b c d q1 u1 r l := by
  unfold pairOut
  pointwise [k0_pay29]
  rw [head_apply, head_apply]
  exact if_congr (lower_iff r l) rfl rfl

end Band
end
-- ==== Proof.Band.Block.lean ====
/-
  What one grid point stores: its 512 query rows by 512 columns, column `64 h + l` being lane `l` of head `h`; and what the first
  point leaves in the bias scratch.
-/
module
public import proofs.«01_k».proof.Proof.Gen.KernelIdeal.Frame
public import proofs.«01_k».proof.Proof.Band.Head
public import Idealize.ShloMosaic.Lib.Pipeline.ValueKit
public import Idealize.ShloMosaic.Lib.Pipeline.ReadBack

@[expose] public section

set_option maxRecDepth 16384

noncomputable section

open Idealize.ShloMosaic Cert.KernelIdeal Cert.KernelIdeal.Gen Idealize.ShloMosaic.TcCoe Idealize.SL.Sem

namespace Band

/-- The 128 lanes of pair `p` of a tile of 512 rows by 512 lanes. -/
def lanes (x : Vec Ideal S1x512x512 .bf16) (p : Fin 4) : Rows :=
  fun z => x (ix3 0 (z 1) ⟨128 * p.val + (z 2).val, by have h1 := p.isLt; have h2 : (z 2).val < 128 := (z 2).isLt; omega⟩)

/-- Head `h` of the queries of a tile. -/
def queryHead (x : Vec Ideal S8x512x128 .bf16) (h : Fin 8) : Rows := fun z => x (ix3 h (z 1) (z 2))

/-- Head `h` of the bias scratch. -/
def biasHead (u : Vec Ideal S8x512x1024 .f32) (h : Fin 8) : Bias := fun z => u (ix3 h (z 1) (z 2))

/-- Row `h` of the extended bias table. -/
def tableRow (x : Vec Ideal S8x1536 .f32) (h : Fin 8) : Vec Ideal S1x1536 .f32 := fun z => x (ix2 h (z 1))

/-- The stored block at a row and a column. -/
def blockAt (first : Prop) [Decidable first] (q : Vec Ideal S8x512x128 .bf16) (k₁ k₂ v₁ v₂ : Vec Ideal S1x512x512 .bf16)
    (u : Vec Ideal S8x512x1024 .f32) (r y : Fin 512) : EReal :=
  attend first (lanes k₁ ⟨y.val / 128, by have := y.isLt; omega⟩) (lanes k₂ ⟨y.val / 128, by have := y.isLt; omega⟩)
    (lanes v₁ ⟨y.val / 128, by have := y.isLt; omega⟩) (lanes v₂ ⟨y.val / 128, by have := y.isLt; omega⟩)
    (queryHead q ⟨y.val / 64, by have := y.isLt; omega⟩) (biasHead u ⟨y.val / 64, by have := y.isLt; omega⟩) r
    ⟨y.val % 128, Nat.mod_lt _ (by decide)⟩

/-- The bias scratch after the first point: the extended table's row of each head, skewed and masked. -/
def biasOf (x : Vec Ideal S8x1536 .f32) : Vec Ideal S8x512x1024 .f32 :=
  fun y => k0_pay3 (tableRow x (y 0)) (ix3 0 (y 1) (y 2))

/-- Pair `p` of the stored block. -/
theorem pair_block (i : grid0.Coords) (q : Vec Ideal S8x512x128 .bf16) (k₁ k₂ v₁ v₂ : Vec Ideal S1x512x512 .bf16)
    (u : Vec Ideal S8x512x1024 .f32) (p : Fin 4) (h₀ h₁ : Fin 8) (e₀ : h₀.val = 2 * p.val) (e₁ : h₁.val = 2 * p.val + 1)
    {a b c d q₀ : Rows} {u₀ : Bias} {q₁ : Rows} {u₁ : Bias} (ha : a = lanes k₁ p) (hb : b = lanes k₂ p) (hc : c = lanes v₁ p)
    (hd : d = lanes v₂ p) (hq₀ : q₀ = queryHead q h₀) (hu₀ : u₀ = biasHead u h₀) (hq₁ : q₁ = queryHead q h₁)
    (hu₁ : u₁ = biasHead u h₁) (x : S512x128.Idx) (r y : Fin 512) (hr : r.val = (x 0).val) (hy : y.val = 128 * p.val + (x 1).val) :
    pairOut i a b c d q₀ u₀ q₁ u₁ x = blockAt ((i 1).val = 0) q k₁ k₂ v₁ v₂ u r y := by
  subst ha hb hc hd hq₀ hu₀ hq₁ hu₁
  obtain ⟨r', l, rfl⟩ : ∃ (r' : Fin 512) (l : Fin 128), x = ix2 r' l := ⟨x 0, x 1, by idx_vars x⟩
  have hl : l.val < 128 := l.isLt
  have hr' : r = r' := Fin.ext hr
  have hy' : y.val = 128 * p.val + l.val := hy
  have hp : (⟨y.val / 128, by have := y.isLt; omega⟩ : Fin 4) = p := Fin.ext (by show y.val / 128 = p.val; omega)
  have hm : (⟨y.val % 128, Nat.mod_lt _ (by decide)⟩ : Fin 128) = l := Fin.ext (by show y.val % 128 = l.val; omega)
  rw [pairOut_apply, blockAt, hp, hm, hr']
  split_ifs with h
  · have : (⟨y.val / 64, by have := y.isLt; omega⟩ : Fin 8) = h₀ := Fin.ext (by show y.val / 64 = h₀.val; omega)
    rw [this]
  · have : (⟨y.val / 64, by have := y.isLt; omega⟩ : Fin 8) = h₁ := Fin.ext (by show y.val / 64 = h₁.val; omega)
    rw [this]

theorem ld_lanes (x : Vec Ideal S1x512x512 .bf16) (p : Fin 4) (o : ℕ) (ho : o = 128 * p.val)
    (inb : ∀ a, (![0, 0, o] : Fin 3 → ℕ) a + (![1, 512, 128] : Fin 3 → ℕ) a ≤ S1x512x512.size a) :
    View.ld (Val := Elt Ideal) x (Rect.unit (s := S1x512x512) ![0, 0, o] ![1, 512, 128] inb) = lanes x p := by
  subst ho
  funext z
  refine View.ld_unit_apply_of _ _ _ _ _ _ fun a => ?_
  have h0 : (z 0).val < 1 := (z 0).isLt
  fin_cases a
  · show 0 = 0 + (z 0).val; omega
  · show (z 1).val = 0 + (z 1).val; omega
  · rfl

theorem ld_query (x : Vec Ideal S8x512x128 .bf16) (h : Fin 8) (o : ℕ) (ho : o = h.val)
    (inb : ∀ a, (![o, 0, 0] : Fin 3 → ℕ) a + (![1, 512, 128] : Fin 3 → ℕ) a ≤ S8x512x128.size a) :
    View.ld (Val := Elt Ideal) x (Rect.unit (s := S8x512x128) ![o, 0, 0] ![1, 512, 128] inb) = queryHead x h := by
  subst ho
  funext z
  refine View.ld_unit_apply_of _ _ _ _ _ _ fun a => ?_
  have h0 : (z 0).val < 1 := (z 0).isLt
  fin_cases a
  · show h.val = h.val + (z 0).val; omega
  · show (z 1).val = 0 + (z 1).val; omega
  · show (z 2).val = 0 + (z 2).val; omega

theorem ld_bias (x : Vec Ideal S8x512x1024 .f32) (h : Fin 8) (o : ℕ) (ho : o = h.val)
    (inb : ∀ a, (![o, 0, 0] : Fin 3 → ℕ) a + (![1, 512, 1024] : Fin 3 → ℕ) a ≤ S8x512x1024.size a) :
    View.ld (Val := Elt Ideal) x (Rect.unit (s := S8x512x1024) ![o, 0, 0] ![1, 512, 1024] inb) = biasHead x h := by
  subst ho
  funext z
  refine View.ld_unit_apply_of _ _ _ _ _ _ fun a => ?_
  have h0 : (z 0).val < 1 := (z 0).isLt
  fin_cases a
  · show h.val = h.val + (z 0).val; omega
  · show (z 1).val = 0 + (z 1).val; omega
  · show (z 2).val = 0 + (z 2).val; omega

/-- What the first point stores of head `h` is that head of `biasOf`. -/
theorem bias_head (x : Vec Ideal S8x1536 .f32) (h : Fin 8) (o : ℕ) (ho : o = h.val)
    (inb : ∀ a, (![o, 0] : Fin 2 → ℕ) a + (![1, 1536] : Fin 2 → ℕ) a ≤ S8x1536.size a) :
    k0_pay3 (View.ld (Val := Elt Ideal) x (Rect.unit (s := S8x1536) ![o, 0] ![1, 1536] inb)) = biasHead (biasOf x) h := by
  subst ho
  have e : View.ld (Val := Elt Ideal) x (Rect.unit (s := S8x1536) ![h.val, 0] ![1, 1536] inb) = tableRow x h := by
    funext z
    refine View.ld_unit_apply_of _ _ _ _ _ _ fun a => ?_
    have h0 : (z 0).val < 1 := (z 0).isLt
    fin_cases a
    · show h.val = h.val + (z 0).val; omega
    · show (z 1).val = 0 + (z 1).val; omega
  rw [e]
  funext z
  obtain ⟨r, l, rfl⟩ : ∃ (r : Fin 512) (l : Fin 1024), z = ix3 0 r l := ⟨z 1, z 2, by idx_vars z; rw [Subsingleton.elim z0 0]⟩
  rfl

theorem scratch_piece (x : Vec Ideal S8x1536 .f32) (h : Fin 8) (o : ℕ) (ho : o = h.val)
    (inb : ∀ a, (![o, 0] : Fin 2 → ℕ) a + (![1, 1536] : Fin 2 → ℕ) a ≤ S8x1536.size a) (y : S8x512x1024.Idx) (z : S1x512x1024.Idx)
    (h0 : (y 0).val = h.val + (z 0).val) (hz : (z 0).val < 1) (h1 : (y 1).val = (z 1).val) (h2 : (y 2).val = (z 2).val) :
    k0_pay3 (View.ld (Val := Elt Ideal) x (Rect.unit (s := S8x1536) ![o, 0] ![1, 1536] inb)) z = biasOf x y := by
  rw [bias_head x h o ho inb]
  have e0 : y 0 = h := Fin.ext (by omega)
  have e1 : y 1 = z 1 := Fin.ext h1
  have e2 : y 2 = z 2 := Fin.ext h2
  unfold biasHead biasOf
  rw [e0, e1, e2]
  rfl

section Point

variable (c : Dev nD) (i : grid0.Coords) (a2 : Memref sig .tc .vmem S8x512x128 .bf16) (h2 : a2.IsWhole) (a3 : Memref sig .tc .vmem S1x512x512 .bf16) (h3 : a3.IsWhole)
    (a4 : Memref sig .tc .vmem S1x512x512 .bf16) (h4 : a4.IsWhole) (a5 : Memref sig .tc .vmem S1x512x512 .bf16) (h5 : a5.IsWhole)
    (a6 : Memref sig .tc .vmem S1x512x512 .bf16) (h6 : a6.IsWhole) (a7 : Memref sig .tc .vmem S8x1536 .f32) (h7 : a7.IsWhole)
    (a8 : Memref sig .tc .vmem S512x512 .bf16) (h8 : a8.IsWhole) (a9 : Memref sig .tc .vmem S8x512x1024 .f32) (h9 : a9.IsWhole)
    (q : Vec Ideal S8x512x128 .bf16) (k₁ k₂ v₁ v₂ : Vec Ideal S1x512x512 .bf16) (x : Vec Ideal S8x1536 .f32)

/-- The first point leaves the skewed, masked bias in the scratch. -/
theorem scratch_first (hc : cond0_0 i) (y : S8x512x1024.Idx) :
    sout0_A_0 c i a2 h2 a3 h3 a4 h4 a5 h5 a6 h6 a7 h7 a8 h8 a9 h9 hc q k₁ k₂ v₁ v₂ x y = biasOf x y := by
  frame_out
  canon_tiles z h
  · exact scratch_piece x 7 7 rfl _ y z h0 z0_lt h1 h2
  · exact scratch_piece x 6 6 rfl _ y z h0 z0_lt h1 h2
  · exact scratch_piece x 5 5 rfl _ y z h0 z0_lt h1 h2
  · exact scratch_piece x 4 4 rfl _ y z h0 z0_lt h1 h2
  · exact scratch_piece x 3 3 rfl _ y z h0 z0_lt h1 h2
  · exact scratch_piece x 2 2 rfl _ y z h0 z0_lt h1 h2
  · exact scratch_piece x 1 1 rfl _ y z h0 z0_lt h1 h2
  · exact scratch_piece x 0 0 rfl _ y z (h0.trans (Nat.zero_add _).symm) z0_lt h1 h2

/-- What a later point stores, from the scratch it finds. -/
theorem stored_later (hc : ¬ cond0_0 i) (u : Vec Ideal S8x512x1024 .f32) (y : S512x512.Idx) :
    out0_B_6 c i a2 h2 a3 h3 a4 h4 a5 h5 a6 h6 a7 h7 a8 h8 a9 h9 hc q k₁ k₂ v₁ v₂ x u y
      = blockAt ((i 1).val = 0) q k₁ k₂ v₁ v₂ u (y 0) (y 1) := by
  frame_out
  canon_tiles z h
  · rw [pair3]
    exact pair_block i q k₁ k₂ v₁ v₂ u 3 6 7 rfl rfl (ld_lanes k₁ 3 384 rfl _) (ld_lanes k₂ 3 384 rfl _)
      (ld_lanes v₁ 3 384 rfl _) (ld_lanes v₂ 3 384 rfl _) (ld_query q 6 6 rfl _) (ld_bias u 6 6 rfl _)
      (ld_query q 7 7 rfl _) (ld_bias u 7 7 rfl _) z _ _ h0 h1
  · rw [pair2]
    exact pair_block i q k₁ k₂ v₁ v₂ u 2 4 5 rfl rfl (ld_lanes k₁ 2 256 rfl _) (ld_lanes k₂ 2 256 rfl _)
      (ld_lanes v₁ 2 256 rfl _) (ld_lanes v₂ 2 256 rfl _) (ld_query q 4 4 rfl _) (ld_bias u 4 4 rfl _)
      (ld_query q 5 5 rfl _) (ld_bias u 5 5 rfl _) z _ _ h0 h1
  · rw [pair1]
    exact pair_block i q k₁ k₂ v₁ v₂ u 1 2 3 rfl rfl (ld_lanes k₁ 1 128 rfl _) (ld_lanes k₂ 1 128 rfl _)
      (ld_lanes v₁ 1 128 rfl _) (ld_lanes v₂ 1 128 rfl _) (ld_query q 2 2 rfl _) (ld_bias u 2 2 rfl _)
      (ld_query q 3 3 rfl _) (ld_bias u 3 3 rfl _) z _ _ h0 h1
  · rw [pair0]
    exact pair_block i q k₁ k₂ v₁ v₂ u 0 0 1 rfl rfl (ld_lanes k₁ 0 0 rfl _) (ld_lanes k₂ 0 0 rfl _)
      (ld_lanes v₁ 0 0 rfl _) (ld_lanes v₂ 0 0 rfl _) (ld_query q 0 0 rfl _) (ld_bias u 0 0 rfl _)
      (ld_query q 1 1 rfl _) (ld_bias u 1 1 rfl _) z _ _ h0 (h1.trans (Nat.zero_add _).symm)

/-- What the first point stores: as a later point would from the scratch that it leaves. -/
theorem stored_first (hc : cond0_0 i) (y : S512x512.Idx) :
    out0_A_6 c i a2 h2 a3 h3 a4 h4 a5 h5 a6 h6 a7 h7 a8 h8 a9 h9 hc q k₁ k₂ v₁ v₂ x y
      = blockAt ((i 1).val = 0) q k₁ k₂ v₁ v₂ (biasOf x) (y 0) (y 1) := by
  frame_open
  simp (disch := decide) only [↓ View.readCov_skip, ↓ View.readCov_cons_toLoadRect, ↓ View.readCov_fill]
  frame_out
  canon_tiles z h
  · rw [pair3]
    exact pair_block i q k₁ k₂ v₁ v₂ (biasOf x) 3 6 7 rfl rfl (ld_lanes k₁ 3 384 rfl _) (ld_lanes k₂ 3 384 rfl _)
      (ld_lanes v₁ 3 384 rfl _) (ld_lanes v₂ 3 384 rfl _) (ld_query q 6 6 rfl _) (bias_head x 6 6 rfl _)
      (ld_query q 7 7 rfl _) (bias_head x 7 7 rfl _) z _ _ h0 h1
  · rw [pair2]
    exact pair_block i q k₁ k₂ v₁ v₂ (biasOf x) 2 4 5 rfl rfl (ld_lanes k₁ 2 256 rfl _) (ld_lanes k₂ 2 256 rfl _)
      (ld_lanes v₁ 2 256 rfl _) (ld_lanes v₂ 2 256 rfl _) (ld_query q 4 4 rfl _) (bias_head x 4 4 rfl _)
      (ld_query q 5 5 rfl _) (bias_head x 5 5 rfl _) z _ _ h0 h1
  · rw [pair1]
    exact pair_block i q k₁ k₂ v₁ v₂ (biasOf x) 1 2 3 rfl rfl (ld_lanes k₁ 1 128 rfl _) (ld_lanes k₂ 1 128 rfl _)
      (ld_lanes v₁ 1 128 rfl _) (ld_lanes v₂ 1 128 rfl _) (ld_query q 2 2 rfl _) (bias_head x 2 2 rfl _)
      (ld_query q 3 3 rfl _) (bias_head x 3 3 rfl _) z _ _ h0 h1
  · rw [pair0]
    exact pair_block i q k₁ k₂ v₁ v₂ (biasOf x) 0 0 1 rfl rfl (ld_lanes k₁ 0 0 rfl _) (ld_lanes k₂ 0 0 rfl _)
      (ld_lanes v₁ 0 0 rfl _) (ld_lanes v₂ 0 0 rfl _) (ld_query q 0 0 rfl _) (bias_head x 0 0 rfl _)
      (ld_query q 1 1 rfl _) (bias_head x 1 1 rfl _) z _ _ h0 (h1.trans (Nat.zero_add _).symm)

end Point

end Band
end
-- ==== Proof.Band.Inputs.lean ====
module
public import proofs.«01_k».proof.Proof.Gen.KernelIdeal.Value
public import proofs.«01_k».proof.Proof.Band.Block
public import Idealize.ShloMosaic.Lib.Claim
public import Idealize.ShloMosaic.Lib.Tactic.CleanTypes
@[expose] public section
noncomputable section
open Idealize.ShloMosaic Cert.KernelIdeal Cert.KernelIdeal.Gen Idealize.ShloMosaic.TcCoe Idealize.SL.Sem
namespace Band
set_option maxRecDepth 16384
variable (m : (l : Loc nD τ sig) → Buf (Elt Ideal) l)

/-- The offset of query row `r` and key row `l` (counted from the row 512 before the tile), clipped to 128
    on either side and counted from the lower end: the column of the bias table at place `u` of the
    spread-out table. -/
def place (u : ℕ) : Fin 257 := ⟨min 256 (1152 - u), by omega⟩

theorem lit0_eq : ∀ u : Fin 1536, min (lit0 u).toInt.toNat 256 = (place u.val).val := by
  decide +kernel

theorem take_cols {α : Type} (x : S8x257.Idx → α) (idx : IVec S1536x1 32) (h : Fin 8) (u : Fin 1536) :
    Host.gather gather_S8x257_S1536x1_S8x1536_0_1_n_n_1_1_81 x idx (ix2 h u)
      = x (ix2 h ⟨min (idx (ix2 u 0)).toInt.toNat 256, by omega⟩) := by
  unfold Host.gather
  congr 1
  funext a
  refine Fin.ext ?_
  match a with
  | ⟨0, _⟩ => exact Nat.zero_add _
  | ⟨1, _⟩ =>
    let d := gather_S8x257_S1536x1_S8x1536_0_1_n_n_1_1_81
    show d.start _ _ (1 : Fin 2) + 0 + d.offCoord _ (1 : Fin 2) = _
    rw [GatherDims.offCoord_eq_zero _ _ _ (by decide)]
    unfold GatherDims.start
    rw [dif_pos (show (1 : Fin 2) ∈ d.startIndexMap by exact List.mem_singleton.mpr rfl)]
    have hsi : d.siIdx (ix2 h u) ⟨List.idxOf (1 : Fin 2) d.startIndexMap, List.idxOf_lt_length_iff.2 (List.mem_singleton.mpr rfl)⟩ = ix2 u 0 := by
      funext b; refine Fin.ext ?_
      match b with
      | ⟨0, _⟩ => rfl
      | ⟨1, _⟩ => rfl
    rw [hsi]
    rfl

theorem V_tab (c : Dev nD) (h : Fin 8) (s : Fin 1536) :
    (V m c main_v17 : Vec Ideal S8x1536 .f32) (ix2 h s) = (show EReal from m (c, Proc.tc.devRef main_arg3) (ix2 h (place s.val))) := by
  simp only [V, hostOps0, hostOps0_1, hostOps0_2, hostOps0_3, hostOps0_4, List.flatten_cons, List.flatten_nil, List.append_nil, List.cons_append, List.nil_append]
  entry_read
  rw [take_cols]
  show m (c, Proc.tc.devRef main_arg3) _ = _
  congr 2
  refine Fin.ext ?_
  rw [← lit0_eq s]
  show min (BitVec.toInt (lit0 (S1536.rowMajor _))).toNat 256 = _
  congr 4
  exact Fin.ext (Nat.zero_add _)

/-- The queries as they are packed: head `h`'s lanes are its 64 lanes and 64 zeros, the zeros behind for an even head and in front for an odd one. -/
def packAt (q : Vec Ideal S16640x8x64 .bf16) (h : Fin 8) (s : Fin 16640) (k : Fin 128) : EReal :=
  if k.val / 64 = h.val % 2 then q (ix3 s h ⟨k.val % 64, Nat.mod_lt _ (by decide)⟩) else 0

theorem ix3_ext {a b c : ℕ} {x x' : Fin a} {y y' : Fin b} {z z' : Fin c} (hx : x.val = x'.val) (hy : y.val = y'.val) (hz : z.val = z'.val) :
    (ix3 x y z : (⟨3, ![a, b, c]⟩ : Shape).Idx) = ix3 x' y' z' := by
  rw [Fin.ext hx, Fin.ext hy, Fin.ext hz]

theorem zero_word : (FloatOps.sitofp (F := Ideal) .bf16 (0#32) : EReal) = 0 := by
  show (((0#32 : BitVec 32).toInt : ℝ) : EReal) = 0
  simp

theorem packed_eq (q : Vec Ideal S16640x8x64 .bf16) (z : EReal) (h : Fin 8) (s : Fin 16640) (k : Fin 128) :
    (if h1 : h.val % 2 < 1 then
      if h2 : h.val / 2 < 4 ∧ k.val < 64 then q (ix3 s ⟨2 * (h.val / 2), by omega⟩ ⟨k.val, h2.2⟩) else z
    else
      if h2 : h.val / 2 < 4 ∧ 64 ≤ k.val ∧ k.val - 64 < 64 then q (ix3 s ⟨1 + 2 * (h.val / 2), by omega⟩ ⟨k.val - 64, h2.2.2⟩)
      else z) = (if k.val / 64 = h.val % 2 then q (ix3 s h ⟨k.val % 64, Nat.mod_lt _ (by decide)⟩) else z) := by
  have := h.isLt
  have := k.isLt
  by_cases hp : h.val % 2 < 1
  · by_cases hk : k.val < 64
    · rw [dif_pos hp, dif_pos ⟨by omega, hk⟩, if_pos (by omega)]
      exact congrArg q (ix3_ext rfl (by show 2 * (h.val / 2) = h.val; omega) (by show k.val = k.val % 64; omega))
    · rw [dif_pos hp, dif_neg (by omega), if_neg (by omega)]
  · by_cases hk : k.val < 64
    · rw [dif_neg hp, dif_neg (by omega), if_neg (by omega)]
    · rw [dif_neg hp, dif_pos ⟨by omega, by omega, by omega⟩, if_pos (by omega)]
      exact congrArg q (ix3_ext rfl (by show 1 + 2 * (h.val / 2) = h.val; omega) (by show k.val - 64 = k.val % 64; omega))

theorem V_q (c : Dev nD) (h : Fin 8) (s : Fin 16640) (k : Fin 128) :
    (V m c main_v8 : Vec Ideal S8x16640x128 .bf16) (ix3 h s k)
      = packAt (m (c, Proc.tc.devRef main_arg0)) h s k := by
  simp only [V, hostOps0, hostOps0_1, hostOps0_2, hostOps0_3, hostOps0_4, List.flatten_cons, List.flatten_nil, List.append_nil, List.cons_append, List.nil_append]
  entry_read
  simp -implicitDefEqProofs only [StableHlo.TRef.toBuf, StableHlo.TRef.ofBuf, cast_cast, cast_eq]
  clean_types
  pointwise
  exact (packed_eq _ _ h s k).trans (by rw [zero_word]; rfl)
/-- The keys that the farther half reads. -/
theorem V_k₁ (c : Dev nD) (s : Fin 16640) (l : Fin 512) :
    (V m c main_v9 : Vec Ideal S1x16640x512 .bf16) (ix3 0 s l) = (show EReal from m (c, Proc.tc.devRef main_arg1) (ix2 s l)) := by
  simp only [V, hostOps0, hostOps0_1, hostOps0_2, hostOps0_3, hostOps0_4, List.flatten_cons, List.flatten_nil, List.append_nil, List.cons_append, List.nil_append]
  entry_read
  pointwise

/-- The keys that the nearer half reads. -/
theorem V_k₂ (c : Dev nD) (s : Fin 16640) (l : Fin 512) :
    (V m c main_v10 : Vec Ideal S1x16640x512 .bf16) (ix3 0 s l) = (show EReal from m (c, Proc.tc.devRef main_arg1) (ix2 s l)) := by
  simp only [V, hostOps0, hostOps0_1, hostOps0_2, hostOps0_3, hostOps0_4, List.flatten_cons, List.flatten_nil, List.append_nil, List.cons_append, List.nil_append]
  entry_read
  pointwise

/-- The values that the farther half reads. -/
theorem V_v₁ (c : Dev nD) (s : Fin 16640) (l : Fin 512) :
    (V m c main_v11 : Vec Ideal S1x16640x512 .bf16) (ix3 0 s l) = (show EReal from m (c, Proc.tc.devRef main_arg2) (ix2 s l)) := by
  simp only [V, hostOps0, hostOps0_1, hostOps0_2, hostOps0_3, hostOps0_4, List.flatten_cons, List.flatten_nil, List.append_nil, List.cons_append, List.nil_append]
  entry_read
  pointwise

/-- The values that the nearer half reads. -/
theorem V_v₂ (c : Dev nD) (s : Fin 16640) (l : Fin 512) :
    (V m c main_v12 : Vec Ideal S1x16640x512 .bf16) (ix3 0 s l) = (show EReal from m (c, Proc.tc.devRef main_arg2) (ix2 s l)) := by
  simp only [V, hostOps0, hostOps0_1, hostOps0_2, hostOps0_3, hostOps0_4, List.flatten_cons, List.flatten_nil, List.append_nil, List.cons_append, List.nil_append]
  entry_read
  pointwise

/-- The block that each window reads at each point: its own tile for the queries and for the nearer half of the keys and values,
    the tile before (tile 0 at point 0) for the farther half, and the one block of the table. -/
theorem idx0 : ∀ t : Fin cfg0.N, win0_0.index t = ![0, t.val, 0] ∧ win0_1.index t = ![0, t.val - 1, 0]
    ∧ win0_2.index t = ![0, t.val, 0] ∧ win0_3.index t = ![0, t.val - 1, 0] ∧ win0_4.index t = ![0, t.val, 0]
    ∧ win0_5.index t = ![0, 0] ∧ (grid0.coords t 1).val = t.val := by
  decide +kernel

theorem point_lt (t : Fin cfg0.N) : t.val < 32 := N_0 ▸ t.isLt

/-- Where an element of a block lies in its array: a block of `b₀ × b₁ × b₂` at place `(0, n, 0)` of the grid of blocks. -/
theorem block_place {a₀ a₁ a₂ : ℕ} (b₀ b₁ b₂ : ℕ) (x : (⟨3, ![a₀, a₁, a₂]⟩ : Shape).Idx) (ix : Fin 3 → ℕ) (n : ℕ) (hi : ix = ![0, n, 0])
    (h : Fin a₀) (s : Fin a₁) (l : Fin a₂) (r : ℕ) (hs : s.val = b₁ * n + r) (h0 : (x 0).val = ix 0 * b₀ + 1 * h.val)
    (h1 : (x 1).val = ix 1 * b₁ + 1 * r) (h2 : (x 2).val = ix 2 * b₂ + 1 * l.val) : x = ix3 h s l := by
  subst hi
  funext a
  refine Fin.ext ?_
  match a with
  | ⟨0, _⟩ => exact h0.trans (by show 0 * b₀ + 1 * h.val = h.val; omega)
  | ⟨1, _⟩ => exact h1.trans (by show n * b₁ + 1 * r = s.val; rw [hs, Nat.mul_comm]; omega)
  | ⟨2, _⟩ => exact h2.trans (by show 0 * b₂ + 1 * l.val = l.val; omega)

/-- The queries of tile `t`. -/
theorem X_q (c : Dev nD) (t : Fin cfg0.N) (h : Fin 8) (r : Fin 512) (k : Fin 128) (s : Fin 16640) (hs : s.val = 512 * t.val + r.val) :
    (X0_0 m c t : Vec Ideal S8x512x128 .bf16) (ix3 h r k) = packAt (m (c, Proc.tc.devRef main_arg0)) h s k := by
  unfold X0_0 Pipeline.Window.fill
  rw [dif_pos (moved0_0 t _)]
  blk_simp [iblk]
  exact (congrArg (V m c main_v8) (block_place 8 512 128 _ _ _ (idx0 t).1 h s k r.val hs rfl rfl rfl)).trans (V_q m c h s k)

/-- The keys of the tile before. -/
theorem X_k₁ (c : Dev nD) (t : Fin cfg0.N) (r l : Fin 512) (s : Fin 16640) (hs : s.val = 512 * (t.val - 1) + r.val) :
    (X0_1 m c t : Vec Ideal S1x512x512 .bf16) (ix3 0 r l) = (show EReal from m (c, Proc.tc.devRef main_arg1) (ix2 s l)) := by
  unfold X0_1 Pipeline.Window.fill
  rw [dif_pos (moved0_1 t _)]
  blk_simp [iblk]
  exact (congrArg (V m c main_v9) (block_place 1 512 512 _ _ _ (idx0 t).2.1 0 s l r.val hs rfl rfl rfl)).trans (V_k₁ m c s l)

/-- The keys of tile `t`. -/
theorem X_k₂ (c : Dev nD) (t : Fin cfg0.N) (r l : Fin 512) (s : Fin 16640) (hs : s.val = 512 * (t.val) + r.val) :
    (X0_2 m c t : Vec Ideal S1x512x512 .bf16) (ix3 0 r l) = (show EReal from m (c, Proc.tc.devRef main_arg1) (ix2 s l)) := by
  unfold X0_2 Pipeline.Window.fill
  rw [dif_pos (moved0_2 t _)]
  blk_simp [iblk]
  exact (congrArg (V m c main_v10) (block_place 1 512 512 _ _ _ (idx0 t).2.2.1 0 s l r.val hs rfl rfl rfl)).trans (V_k₂ m c s l)

/-- The values of the tile before. -/
theorem X_v₁ (c : Dev nD) (t : Fin cfg0.N) (r l : Fin 512) (s : Fin 16640) (hs : s.val = 512 * (t.val - 1) + r.val) :
    (X0_3 m c t : Vec Ideal S1x512x512 .bf16) (ix3 0 r l) = (show EReal from m (c, Proc.tc.devRef main_arg2) (ix2 s l)) := by
  unfold X0_3 Pipeline.Window.fill
  rw [dif_pos (moved0_3 t _)]
  blk_simp [iblk]
  exact (congrArg (V m c main_v11) (block_place 1 512 512 _ _ _ (idx0 t).2.2.2.1 0 s l r.val hs rfl rfl rfl)).trans (V_v₁ m c s l)

/-- The values of tile `t`. -/
theorem X_v₂ (c : Dev nD) (t : Fin cfg0.N) (r l : Fin 512) (s : Fin 16640) (hs : s.val = 512 * (t.val) + r.val) :
    (X0_4 m c t : Vec Ideal S1x512x512 .bf16) (ix3 0 r l) = (show EReal from m (c, Proc.tc.devRef main_arg2) (ix2 s l)) := by
  unfold X0_4 Pipeline.Window.fill
  rw [dif_pos (moved0_4 t _)]
  blk_simp [iblk]
  exact (congrArg (V m c main_v12) (block_place 1 512 512 _ _ _ (idx0 t).2.2.2.2.1 0 s l r.val hs rfl rfl rfl)).trans (V_v₂ m c s l)

/-- The table's block, the same at each point. -/
theorem X_tab (c : Dev nD) (t : Fin cfg0.N) (h : Fin 8) (u : Fin 1536) :
    (iblk m c 5 t : Vec Ideal S8x1536 .f32) (ix2 h u) = (show EReal from m (c, Proc.tc.devRef main_arg3) (ix2 h (place u.val))) := by
  refine Eq.trans ?_ (V_tab m c h u)
  blk_simp [iblk]
  refine congrArg (V m c main_v17) (funext fun a => Fin.ext ?_)
  have hi := (idx0 t).2.2.2.2.2.1
  match a with
  | ⟨0, _⟩ =>
    show win0_5.index t (0 : Fin 2) * 8 + 1 * h.val = h.val
    rw [hi]; show 0 * 8 + 1 * h.val = h.val; omega
  | ⟨1, _⟩ =>
    show win0_5.index t (1 : Fin 2) * 1536 + 1 * u.val = u.val
    rw [hi]; show 0 * 1536 + 1 * u.val = u.val; omega

end Band

end
-- ==== Proof.Band.Sweep.lean ====
/-
  What the grid's points leave behind: the bias scratch, written at the first point and the same ever after, and the rows of the
  result, each of which is written at one point.
-/
module
public import proofs.«01_k».proof.Proof.Band.Inputs

@[expose] public section

set_option maxRecDepth 16384

noncomputable section

open Idealize.ShloMosaic Cert.KernelIdeal Cert.KernelIdeal.Gen Cert.KernelIdeal.Value Idealize.ShloMosaic.TcCoe Idealize.SL.Sem

namespace Band

variable (m : (l : Loc nD τ sig) → Buf (Elt Ideal) l)

/-- The bias table spread out over 1536 places. -/
def spread (c : Dev nD) : Vec Ideal S8x1536 .f32 := fun y => (show EReal from m (c, Proc.tc.devRef main_arg3) (ix2 (y 0) (place (y 1).val)))

theorem block_spread (c : Dev nD) (t : Fin cfg0.N) : (iblk m c 5 t : Vec Ideal S8x1536 .f32) = spread m c := by
  funext y
  obtain ⟨h, u, rfl⟩ : ∃ (h : Fin 8) (u : Fin 1536), y = ix2 h u := ⟨y 0, y 1, by idx_vars y⟩
  exact X_tab m c t h u

/-- The scratch holds the skewed, masked bias after each point. -/
theorem scratch_held (c : Dev nD) : ∀ (n : ℕ) (hn : n < cfg0.N), (outsAt0 m c n hn).2 = biasOf (spread m c)
  | 0, hn => by
    have e := outsAt0_A m c ⟨0, hn⟩ rfl
    have e' : outsAt0 m c 0 hn = _ := e
    rw [e']
    dsimp only
    funext y
    rw [scratch_first, block_spread]
  | n + 1, hn => by
    have h32 := point_lt ⟨n + 1, hn⟩
    have e := outsAt0_B m c ⟨n + 1, hn⟩ (by show ¬ (n + 1) % 32 = 0; have : n + 1 < 32 := h32; omega)
    have e' : outsAt0 m c (n + 1) hn = _ := e
    rw [e']
    exact scratch_held c n (by omega)

/-- What point `t` writes of the result. -/
theorem stored (c : Dev nD) (t : Fin cfg0.N) (y : S512x512.Idx) :
    (outsAt0 m c t.val t.isLt).1 y = blockAt (t.val = 0) (X0_0 m c t) (X0_1 m c t) (X0_2 m c t) (X0_3 m c t) (X0_4 m c t)
      (biasOf (spread m c)) (y 0) (y 1) := by
  have ht := point_lt t
  have hi := (idx0 t).2.2.2.2.2.2
  by_cases h : t.val % 32 = 0
  · rw [outsAt0_A m c t h]
    dsimp only
    rw [stored_first, block_spread]
    simp only [hi]
  · rw [outsAt0_B m c t h]
    dsimp only
    rw [stored_later, scratch_held]
    simp only [hi]

/-- The result's row `512 t + r` is row `r` of what point `t` writes. -/
theorem result_at (c : Dev nD) (t : Fin cfg0.N) (r y : Fin 512) (s : Fin 16384) (hs : s.val = 512 * t.val + r.val) :
    (G6 m c : Vec Ideal S16384x512 .bf16) (ix2 s y) = blockAt (t.val = 0) (X0_0 m c t) (X0_1 m c t) (X0_2 m c t) (X0_3 m c t) (X0_4 m c t)
      (biasOf (spread m c)) r y := by
  have hr := r.isLt
  have hy := y.isLt
  have hp : pt6Of (ix2 s y) = t.val := by
    show 1 * (s.val / 512 - 0) + 1 * (y.val / 512 - 0) = t.val
    omega
  have hl : loc6Of (ix2 s y) = ix2 r y := by
    funext a
    refine Fin.ext ?_
    match a with
    | ⟨0, _⟩ => show s.val % 512 = r.val; omega
    | ⟨1, _⟩ => show y.val % 512 = y.val; omega
  unfold G6
  have hlt : pt6Of (ix2 s y) < cfg0.N := hp ▸ t.isLt
  rw [dif_pos hlt, ← outsAt0_sweep m c _ hlt, hl]
  have H : ∀ (n : ℕ) (hn : n < cfg0.N), n = t.val → (outsAt0 m c n hn).1 (ix2 r y) = blockAt (t.val = 0) (X0_0 m c t) (X0_1 m c t)
      (X0_2 m c t) (X0_3 m c t) (X0_4 m c t) (biasOf (spread m c)) r y := by
    rintro n hn rfl
    exact stored m c t (ix2 r y)
  exact H _ _ hp

end Band

end
-- ==== Proof.Band.Bias.lean ====
/-
  The bias scratch at an index: the table's entry inside the band of nine chunks of 64 key rows, and `-∞` outside.
-/
module
public import proofs.«01_k».proof.Proof.Band.Block
@[expose] public section
set_option maxRecDepth 16384
noncomputable section
open Idealize.ShloMosaic Cert.KernelIdeal Cert.KernelIdeal.Gen Idealize.ShloMosaic.TcCoe Idealize.SL.Sem
namespace Band

/-- A shift right by six places divides by 64. -/
theorem shift_six {n : ℕ} (h : n < 2 ^ 31) : IntOp.shrui ArithUnit.vector (BitVec.ofNat 32 n) 6#32 = BitVec.ofNat 32 (n / 64) := by
  apply BitVec.eq_of_toNat_eq
  simp [IntOp.shrui, BitVec.toNat_ofNat, Nat.shiftRight_eq_div_pow]
  omega

/-- Row `r`'s own chunk of 64 and the eight before it, among the 1024 key rows of its tile and the tile before. -/
theorem near_iff (r : Fin 512) (l : Fin 1024) : k0_pay2 (ix2 r l) = 1#1 ↔ (64 * (r.val / 64) ≤ l.val ∧ l.val < 64 * (r.val / 64) + 576) := by
  pointwise [k0_pay2]
  have hr := r.isLt
  have hl := l.isLt
  rw [shift_six (by omega : r.val < 2 ^ 31), shift_six (by omega : l.val < 2 ^ 31)]
  simp only [and_bit, or_bit, lt_bit, le_bit, ge_bit]
  have eL : (BitVec.ofNat 32 l.val).toInt = l.val := toInt_small (by omega)
  have eL' : (BitVec.ofNat 32 (l.val / 64)).toInt = (l.val / 64 : ℕ) := toInt_small (by omega)
  have eR : (BitVec.ofNat 32 (r.val / 64)).toInt = (r.val / 64 : ℕ) := toInt_small (by omega)
  have w0 : (0#32).toInt = 0 := rfl
  have w1 : (512#32).toInt = 512 := rfl
  have e : (IntOp.subi (BitVec.ofNat 32 l.val) 512#32).toInt = (l.val : ℤ) - 512 := by
    simp only [IntOp.subi, BitVec.toInt_sub, eL]
    show Int.bmod ((l.val : ℤ) - 512) (2 ^ 32) = _
    exact Int.bmod_eq_of_le (by omega) (by omega)
  rw [eL, eL', eR, e, w0, w1]
  by_cases h : l.val < 512
  · omega
  · have e0 : IntOp.maxsi (IntOp.subi (BitVec.ofNat 32 l.val) 512#32) 0#32 = BitVec.ofNat 32 (l.val - 512) := by
      have e1 : IntOp.subi (BitVec.ofNat 32 l.val) 512#32 = BitVec.ofNat 32 (l.val - 512) := by
        apply BitVec.eq_of_toNat_eq
        simp [IntOp.subi]
        omega
      unfold IntOp.maxsi
      split_ifs with g
      · exact e1
      · have g' : ¬ (0 < (l.val : ℤ) - 512) := by simpa [BitVec.slt, e] using g
        rw [show l.val - 512 = 0 by omega]
    rw [e0, shift_six (by omega), toInt_small (by omega)]
    omega

/-- The bias of head `h` at a query row and a key row: `-∞` outside the band. -/
theorem biasOf_at (x : Vec Ideal S8x1536 .f32) (h : Fin 8) (r : Fin 512) (l : Fin 1024) :
    biasOf x (ix3 h r l) = if 64 * (r.val / 64) ≤ l.val ∧ l.val < 64 * (r.val / 64) + 576
      then x (ix2 h ⟨512 + l.val - r.val, by have := l.isLt; omega⟩) else (⊥ : EReal) := by
  have hr := r.isLt
  have hl := l.isLt
  have e : biasOf x (ix3 h r l) = k0_pay3 (tableRow x h) (ix3 0 r l) := rfl
  rw [e]
  pointwise [k0_pay3]
  rw [named_mask]
  unfold Scalar.select
  refine if_congr (near_iff r l) ?_ rfl
  have hm : (512 + l.val + 2048 - r.val % 2048) % 2048 = 512 + l.val - r.val := by omega
  rw [dif_pos (by omega)]
  exact congrArg (fun u => x (ix2 h u)) (Fin.ext hm)

end Band

end
-- ==== Proof.Band.Terms.lean ====
/-
  The reference's result in named parts: the banded keys and values, the bias, the masked logits, the softmax.
-/
module
public import proofs.«01_k».proof.Proof.Gen.ReferenceIdeal.Run
public import Idealize.ShloMosaic.Lib.Pointwise
public import Idealize.ShloMosaic.Lib.Claim
public import Idealize.ShloMosaic.Lib.Tactic.CleanTypes

@[expose] public section

set_option maxRecDepth 16384

noncomputable section

namespace BandRef

open Cert.ReferenceIdeal Cert.ReferenceIdeal.Gen Idealize.ShloMosaic Idealize.ShloMosaic.TcCoe Idealize.SL.Sem Idealize.ShloMosaic.StableHlo

/-- Chunk `a` of the nine that chunk `c` reads, counted with the eight chunks of padding in front: `c + a`. -/
def chunkIds : IVec S256x9 32 :=
  addi (broadcastInDim S256x9 ![0, 1] bcast_S256x1_S256x9_0_1 (broadcastInDim S256x1 ![0] bcast_S256_S256x1_0 (iotaInDim S256 32 0)))
    (broadcastInDim S256x9 ![0, 1] bcast_S1x9_S256x9_0_1 (broadcastInDim S1x9 ![1] bcast_S9_S1x9_1 (iotaInDim S9 32 0)))

def chunkSel : IVec S256x9x1 32 :=
  broadcastInDim S256x9x1 ![0, 1] bcast_S256x9_S256x9x1_0_1
    (select (cmpi .slt chunkIds (broadcastInDim S256x9 ![] bcast_S_S256x9 (constantI S_ 32 0#32)))
      (addi chunkIds (broadcastInDim S256x9 ![] bcast_S_S256x9 (constantI S_ 32 264#32))) chunkIds)

/-- The rows in chunks of 64 with eight chunks of zeros in front. -/
def padded (x : FVec Ideal S16640x512 .bf16) : FVec Ideal S264x64x8x64 .f32 :=
  shapeCast _ (pad S16896x8x64 ![512, 0, 0] ![0, 0, 0] ![0, 0, 0] (shapeCast _ (extf .f32 (extractStridedSlice S16384x512 ![0, 0] x slices_S16640x512_S16384x512_0_0) bitsLt_bf16_f32) shapeCasts_S16384x512_S16384x8x64) (sitofp .f32 (constantI S_ 32 0#32)) pads_S16384x8x64_S16896x8x64_51200_000_000 h_S_) shapeCasts_S16896x8x64_S264x64x8x64

/-- The 576 rows that each chunk reads. -/
def banded (x : FVec Ideal S16640x512 .bf16) : FVec Ideal S256x576x8x64 .f32 :=
  shapeCast _ (Host.gather gather_S264x64x8x64_S256x9x1_S256x9x64x8x64_234_0_n_n_0_2_164864 (padded x) chunkSel) shapeCasts_S256x9x64x8x64_S256x576x8x64

/-- The queries in chunks of 64. -/
def chunked (x : FVec Ideal S16640x8x64 .bf16) : FVec Ideal S256x64x8x64 .f32 :=
  shapeCast _ (extf .f32 (extractStridedSlice S16384x8x64 ![0, 0, 0] x slices_S16640x8x64_S16384x8x64_0_0_0) bitsLt_bf16_f32) shapeCasts_S16384x8x64_S256x64x8x64

/-- The clipped offset of a query row and a band row, as a column of the bias table. -/
def rel : IVec S64x576 32 :=
  addi (minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 128#32))

def relSel : IVec S64x576x1 32 :=
  broadcastInDim S64x576x1 ![0, 1] bcast_S64x576_S64x576x1_0_1
    (select (cmpi .slt rel (broadcastInDim S64x576 ![] bcast_S_S64x576 (constantI S_ 32 0#32)))
      (addi rel (broadcastInDim S64x576 ![] bcast_S_S64x576 (constantI S_ 32 257#32))) rel)

def bias (b : FVec Ideal S8x257 .f32) : FVec Ideal S8x64x576 .f32 :=
  Host.gather gather_S8x257_S64x576x1_S8x64x576_0_1_n_n_1_2_81 b relSel

/-- Which band rows of a chunk are rows of the sequence. -/
def valid : IVec S256x576 1 :=
  cmpi .sge (addi (broadcastInDim S256x576 ![0, 1] bcast_S256x1_S256x576_0_1 (muli (subi (broadcastInDim S256x1 ![0] bcast_S256_S256x1_0 (iotaInDim S256 32 0)) (broadcastInDim S256x1 ![] bcast_S_S256x1 (constantI S_ 32 8#32))) (broadcastInDim S256x1 ![] bcast_S_S256x1 (constantI S_ 32 64#32)))) (broadcastInDim S256x576 ![0, 1] bcast_S1x576_S256x576_0_1 (broadcastInDim S1x576 ![1] bcast_S576_S1x576_1 (iotaInDim S576 32 0)))) (broadcastInDim S256x576 ![] bcast_S_S256x576 (constantI S_ 32 0#32))

/-- The masked logits, over the chunked queries, banded keys and banded bias. -/
def logits (q : FVec Ideal S256x64x8x64 .f32) (k : FVec Ideal S256x576x8x64 .f32) (b : FVec Ideal S8x64x576 .f32) : FVec Ideal S256x8x64x576 .f32 :=
  select (broadcastInDim S256x8x64x576 ![0, 1, 2, 3] bcast_S256x1x1x576_S256x8x64x576_0_1_2_3 (broadcastInDim S256x1x1x576 ![0, 3] bcast_S256x576_S256x1x1x576_0_3 valid))
    (addf (mulf (Host.dotGeneral dot_S256x64x8x64_S256x576x8x64_S256x8x64x576_3_3_1_1_02_02 none q k) (broadcastInDim S256x8x64x576 ![] bcast_S_S256x8x64x576 (constant S_ .f32 0x3E000000#32)))
      (broadcastInDim S256x8x64x576 ![0, 1, 2, 3] bcast_S1x8x64x576_S256x8x64x576_0_1_2_3 (broadcastInDim S1x8x64x576 ![1, 2, 3] bcast_S8x64x576_S1x8x64x576_1_2_3 b)))
    (broadcastInDim S256x8x64x576 ![] bcast_S_S256x8x64x576 (id (constant S_ .f32 0xFF800000#32)))

/-- The largest logit of each row. -/
def rowTop (x : FVec Ideal S256x8x64x576 .f32) : FVec Ideal S256x8x64 .f32 :=
  Host.reduce FloatOps.maximumf x (constant S_ .f32 0xFF800000#32) reducesTo_S256x8x64x576_S256x8x64_d3 h_S_

/-- The same, as the softmax takes it: with `-∞` where there is none. -/
def capped (t : FVec Ideal S256x8x64 .f32) : FVec Ideal S256x8x64 .f32 :=
  maximumf (broadcastInDim S256x8x64 ![] bcast_S_S256x8x64 (constant S_ .f32 0xFF800000#32)) t

/-- A value of each row, all along the row. -/
def along (t : FVec Ideal S256x8x64 .f32) : FVec Ideal S256x8x64x576 .f32 :=
  broadcastInDim S256x8x64x576 ![0, 1, 2, 3] bcast_S256x8x64x1_S256x8x64x576_0_1_2_3 (broadcastInDim S256x8x64x1 ![0, 1, 2] bcast_S256x8x64_S256x8x64x1_0_1_2 t)

/-- The exponentials of the logits less a value of their row. -/
def powers (x : FVec Ideal S256x8x64x576 .f32) (t : FVec Ideal S256x8x64 .f32) : FVec Ideal S256x8x64x576 .f32 :=
  Host.exp (subf x (along t))

/-- The exponentials over their row's sum. -/
def shares (x : FVec Ideal S256x8x64x576 .f32) : FVec Ideal S256x8x64x576 .f32 :=
  Host.divf x (broadcastInDim S256x8x64x576 ![0, 1, 2, 3] bcast_S256x8x64x1_S256x8x64x576_0_1_2_3 (broadcastInDim S256x8x64x1 ![0, 1, 2] bcast_S256x8x64_S256x8x64x1_0_1_2 (Host.reduceAdd x (constant S_ .f32 0x00000000#32) reducesTo_S256x8x64x576_S256x8x64_d3 h_S_)))

/-- The exponentials of the logits less their row's maximum. -/
def weights (x : FVec Ideal S256x8x64x576 .f32) : FVec Ideal S256x8x64x576 .f32 := powers x (capped (rowTop x))

/-- The weighted sums of the banded values, laid out row by row. -/
def outcome (v : FVec Ideal S256x576x8x64 .f32) (p : FVec Ideal S256x8x64x576 .f32) : FVec Ideal S16384x512 .bf16 :=
  truncf .bf16 (shapeCast _ (transpose S256x64x8x64 [0, 3, 1, 2] (Host.dotGeneral dot_S256x576x8x64_S256x8x64x576_S256x8x64x64_1_3_3_2_02_01 none v p) transposes_S256x8x64x64_S256x64x8x64_0_3_1_2) shapeCasts_S256x64x8x64_S16384x512) bitsLt_bf16_f32

/-- The reference's result is these parts put together. -/
theorem result_eq (m : (ℓ : Loc nD τ sig) → Buf (Elt Ideal) ℓ) (c : Dev nD) :
    Cert.ReferenceIdeal.Value.res_main_v89 m c
      = outcome (banded (m ((c.tc : Thread nD τ).loc main_arg2)))
          (shares (weights (logits (chunked (m ((c.tc : Thread nD τ).loc main_arg0))) (banded (m ((c.tc : Thread nD τ).loc main_arg1))) (bias (m ((c.tc : Thread nD τ).loc main_arg3)))))) := by
  with_unfolding_all rfl

end BandRef

end
-- ==== Proof.Band.Ref.lean ====
/-
  The reference's result at an index: the attention of a row over the 576 rows of its own chunk and the eight before it.
-/
module
public import proofs.«01_k».proof.Proof.Band.Terms
public import proofs.«01_k».proof.Proof.Band.Words
public import proofs.«01_k».proof.Proof.Band.Softmax

@[expose] public section

set_option maxRecDepth 16384

noncomputable section

namespace BandRef

open Cert.ReferenceIdeal Cert.ReferenceIdeal.Gen Idealize.ShloMosaic Idealize.ShloMosaic.TcCoe Idealize.SL.Sem Idealize.ShloMosaic.StableHlo
open Band (toInt_small toInt_add toInt_sub toInt_mul toInt_min toInt_max wrap_id ge_bit rowMax expAt)

theorem chunkSel_at (c : Fin 256) (a : Fin 9) : (chunkSel (ix3 c a 0)).toInt = (c.val + a.val : ℕ) := by
  have hc := c.isLt
  have ha := a.isLt
  have e : (chunkIds (ix2 c a)).toInt = (c.val + a.val : ℕ) := by
    pointwise [chunkIds]
    have ec : (BitVec.ofNat 32 c.val).toInt = c.val := toInt_small (by omega)
    have ea : (BitVec.ofNat 32 a.val).toInt = a.val := toInt_small (by omega)
    rw [toInt_add _ _ (by omega), ec, ea]
    omega
  pointwise [chunkSel]
  rw [wrap_id _ _ (by omega), e]

/-- The gather of chunks: chunk `a` of the nine of chunk `c`. -/
theorem take_chunks {α : Type} (x : S264x64x8x64.Idx → α) (idx : IVec S256x9x1 32) (c : Fin 256) (a : Fin 9) (r : Fin 64) (h : Fin 8) (l : Fin 64) :
    Host.gather gather_S264x64x8x64_S256x9x1_S256x9x64x8x64_234_0_n_n_0_2_164864 x idx (ix5 c a r h l)
      = x (ix4 ⟨min (idx (ix3 c a 0)).toInt.toNat 263, by omega⟩ r h l) := by
  unfold Host.gather
  congr 1
  funext b
  refine Fin.ext ?_
  let d := gather_S264x64x8x64_S256x9x1_S256x9x64x8x64_234_0_n_n_0_2_164864
  match b with
  | ⟨0, _⟩ =>
    show d.start _ _ (0 : Fin 4) + 0 + d.offCoord _ (0 : Fin 4) = _
    rw [GatherDims.offCoord_eq_zero _ _ _ (by decide)]
    unfold GatherDims.start
    rw [dif_pos (show (0 : Fin 4) ∈ d.startIndexMap by exact List.mem_singleton.mpr rfl)]
    have hsi : d.siIdx (ix5 c a r h l) ⟨List.idxOf (0 : Fin 4) d.startIndexMap, List.idxOf_lt_length_iff.2 (List.mem_singleton.mpr rfl)⟩ = ix3 c a 0 := by
      funext b; refine Fin.ext ?_
      match b with
      | ⟨0, _⟩ => rfl
      | ⟨1, _⟩ => rfl
      | ⟨2, _⟩ => rfl
    rw [hsi]
    rfl
  | ⟨1, _⟩ => exact Nat.zero_add _
  | ⟨2, _⟩ => exact Nat.zero_add _
  | ⟨3, _⟩ => exact Nat.zero_add _

theorem zero_word : (FloatOps.sitofp (F := Ideal) .f32 (0#32) : EReal) = 0 := by
  show (((0#32 : BitVec 32).toInt : ℝ) : EReal) = 0
  simp

theorem padded_at (x : FVec Ideal S16640x512 .bf16) (c : Fin 264) (r : Fin 64) (h : Fin 8) (l : Fin 64) :
    padded x (ix4 c r h l) = if hv : 512 ≤ c.val * 64 + r.val ∧ c.val * 64 + r.val - 512 < 16384 then
      x (ix2 ⟨c.val * 64 + r.val - 512, by omega⟩ ⟨h.val * 64 + l.val, by have := h.isLt; have := l.isLt; omega⟩) else (0 : EReal) := by
  rw [← zero_word]
  pointwise [padded]

/-- Row `j` of the band of row `s`'s chunk: a row of the sequence, or zeros before its start. -/
def bandRow (x : FVec Ideal S16640x512 .bf16) (s : Fin 16384) (h : Fin 8) (j : Fin 576) (l : Fin 64) : EReal :=
  if hv : 512 ≤ 64 * (s.val / 64) + j.val then
    x (ix2 ⟨64 * (s.val / 64) + j.val - 512, by have := s.isLt; have := j.isLt; omega⟩ ⟨64 * h.val + l.val, by have := h.isLt; have := l.isLt; omega⟩)
  else 0

theorem banded_at (x : FVec Ideal S16640x512 .bf16) (s : Fin 16384) (j : Fin 576) (h : Fin 8) (l : Fin 64) (c : Fin 256) (hc : c.val = s.val / 64) :
    banded x (ix4 c j h l) = bandRow x s h j l := by
  have hs := s.isLt
  have hj := j.isLt
  have hh := h.isLt
  have hl := l.isLt
  pointwise [banded]
  rw [take_chunks]
  have e : min (chunkSel (ix3 c ⟨j.val / 64, by omega⟩ 0)).toInt.toNat 263 = c.val + j.val / 64 := by
    rw [chunkSel_at]
    show min (Int.toNat ((c.val + j.val / 64 : ℕ) : ℤ)) 263 = _
    rw [Int.toNat_natCast]
    omega
  have e' : (⟨min (chunkSel (ix3 c ⟨j.val / 64, by omega⟩ 0)).toInt.toNat 263, by omega⟩ : Fin 264) = ⟨c.val + j.val / 64, by omega⟩ := Fin.ext e
  rw [e']
  rw [padded_at]
  unfold bandRow
  by_cases hv : 512 ≤ 64 * (s.val / 64) + j.val
  · rw [dif_pos hv, dif_pos (show 512 ≤ (c.val + j.val / 64) * 64 + j.val % 64 ∧ (c.val + j.val / 64) * 64 + j.val % 64 - 512 < 16384 by omega)]
    refine congrArg x ?_
    have p : ∀ (u u' : Fin 16640) (w w' : Fin 512), u.val = u'.val → w.val = w'.val → (ix2 u w : S16640x512.Idx) = ix2 u' w' := by
      intro u u' w w' h1 h2
      rw [Fin.ext h1, Fin.ext h2]
    refine p _ _ _ _ ?_ ?_
    · show (c.val + j.val / 64) * 64 + j.val % 64 - 512 = 64 * (s.val / 64) + j.val - 512
      omega
    · show h.val * 64 + l.val = 64 * h.val + l.val
      omega
  · rw [dif_neg hv, dif_neg]
    show ¬ (512 ≤ (c.val + j.val / 64) * 64 + j.val % 64 ∧ (c.val + j.val / 64) * 64 + j.val % 64 - 512 < 16384)
    omega

theorem relSel_at (i : Fin 64) (j : Fin 576) : min (relSel (ix3 i j 0)).toInt.toNat 256 = min 256 (640 + i.val - j.val) := by
  have hi := i.isLt
  have hj := j.isLt
  have ei : (BitVec.ofNat 32 i.val).toInt = i.val := toInt_small (by omega)
  have ej : (BitVec.ofNat 32 j.val).toInt = j.val := toInt_small (by omega)
  have k1 : (512#32).toInt = 512 := rfl
  have k2 : (128#32).toInt = 128 := rfl
  have k3 : (4294967168#32).toInt = -128 := rfl
  have e : (rel (ix2 i j)).toInt = min 128 (max (-128) (512 + (i.val : ℤ) - (j.val : ℤ))) + 128 := by
    pointwise [rel]
    show (IntOp.addi (IntOp.minsi (128#32) (IntOp.maxsi (4294967168#32)
          (IntOp.subi (IntOp.addi (512#32) (BitVec.ofNat 32 i.val)) (BitVec.ofNat 32 j.val)))) (128#32)).toInt = _
    have e1 : (IntOp.addi (512#32) (BitVec.ofNat 32 i.val)).toInt = 512 + (i.val : ℤ) := by
      rw [toInt_add _ _ (by omega), ei, k1]
    have e2 : (IntOp.subi (IntOp.addi (512#32) (BitVec.ofNat 32 i.val)) (BitVec.ofNat 32 j.val)).toInt = 512 + (i.val : ℤ) - (j.val : ℤ) := by
      rw [toInt_sub _ _ (by omega), e1, ej]
    have e3 : (IntOp.minsi (128#32) (IntOp.maxsi (4294967168#32)
          (IntOp.subi (IntOp.addi (512#32) (BitVec.ofNat 32 i.val)) (BitVec.ofNat 32 j.val)))).toInt = min 128 (max (-128) (512 + (i.val : ℤ) - (j.val : ℤ))) := by
      rw [toInt_min, toInt_max, e2, k2, k3]
    rw [toInt_add _ _ (by omega), e3, k2]
  pointwise [relSel]
  rw [wrap_id _ _ (by omega), e]
  omega

theorem take_bias {α : Type} (x : S8x257.Idx → α) (idx : IVec S64x576x1 32) (h : Fin 8) (i : Fin 64) (j : Fin 576) :
    Host.gather gather_S8x257_S64x576x1_S8x64x576_0_1_n_n_1_2_81 x idx (ix3 h i j)
      = x (ix2 h ⟨min (idx (ix3 i j 0)).toInt.toNat 256, by omega⟩) := by
  unfold Host.gather
  congr 1
  funext b
  refine Fin.ext ?_
  let d := gather_S8x257_S64x576x1_S8x64x576_0_1_n_n_1_2_81
  match b with
  | ⟨0, _⟩ => exact Nat.zero_add _
  | ⟨1, _⟩ =>
    show d.start _ _ (1 : Fin 2) + 0 + d.offCoord _ (1 : Fin 2) = _
    rw [GatherDims.offCoord_eq_zero _ _ _ (by decide)]
    unfold GatherDims.start
    rw [dif_pos (show (1 : Fin 2) ∈ d.startIndexMap by exact List.mem_singleton.mpr rfl)]
    have hsi : d.siIdx (ix3 h i j) ⟨List.idxOf (1 : Fin 2) d.startIndexMap, List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi]
    rfl

theorem valid_iff (c : Fin 256) (j : Fin 576) : valid (ix2 c j) = 1#1 ↔ 512 ≤ 64 * c.val + j.val := by
  have hc := c.isLt
  have hj := j.isLt
  have ec : (BitVec.ofNat 32 c.val).toInt = c.val := toInt_small (by omega)
  have ej : (BitVec.ofNat 32 j.val).toInt = j.val := toInt_small (by omega)
  have k1 : (8#32).toInt = 8 := rfl
  have k2 : (64#32).toInt = 64 := rfl
  have k3 : (0#32).toInt = 0 := rfl
  pointwise [valid]
  have e1 : (IntOp.subi (BitVec.ofNat 32 c.val) 8#32).toInt = c.val - 8 := by rw [toInt_sub _ _ (by omega), ec, k1]
  have e2 : (IntOp.muli (IntOp.subi (BitVec.ofNat 32 c.val) 8#32) 64#32).toInt = (c.val - 8) * 64 := by
    rw [toInt_mul _ _ (by rw [e1, k2]; omega), e1, k2]
  rw [ge_bit, toInt_add _ _ (by omega), e2, ej, k3]
  omega

/-- The masked score of row `s` against row `j` of its band. -/
def score (q : FVec Ideal S16640x8x64 .bf16) (k : FVec Ideal S16640x512 .bf16) (b : FVec Ideal S8x257 .f32) (s : Fin 16384) (h : Fin 8) (j : Fin 576) : EReal :=
  if 512 ≤ 64 * (s.val / 64) + j.val then
    (∑ l : Fin 64, q (ix3 ⟨s.val, by have := s.isLt; omega⟩ h l) * bandRow k s h j l) * Ideal.ofBits .f32 0x3E000000#32
      + b (ix2 h ⟨min 256 (640 + s.val % 64 - j.val), by omega⟩)
  else ⊥

theorem ofBits_bot : Ideal.ofBits .f32 0xFF800000#32 = ⊥ := by
  simp [Ideal.ofBits, Ideal.ieee]

theorem logits_at (q : FVec Ideal S16640x8x64 .bf16) (k : FVec Ideal S16640x512 .bf16) (b : FVec Ideal S8x257 .f32) (s : Fin 16384) (h : Fin 8) (j : Fin 576)
    (c : Fin 256) (hc : c.val = s.val / 64) (i : Fin 64) (hi : i.val = s.val % 64) :
    logits (chunked q) (banded k) (bias b) (ix4 c h i j) = score q k b s h j := by
  have hs := s.isLt
  pointwise [logits]
  have hq : ∀ l : Fin 64, chunked q (ix4 c i h l) = q (ix3 ⟨s.val, by omega⟩ h l) := by
    intro l
    pointwise [chunked]
    exact congrArg (fun u => q (ix3 u h l)) (Fin.ext (by show c.val * 64 + i.val = s.val; omega))
  have hb : bias b (ix3 h i j) = b (ix2 h ⟨min 256 (640 + s.val % 64 - j.val), by omega⟩) := by
    unfold bias
    rw [take_bias]
    exact congrArg (fun u => b (ix2 h u)) (Fin.ext (by show min _ 256 = _; rw [relSel_at, hi]))
  simp only [hq, hb, banded_at k s j h _ c hc]
  unfold Scalar.select score
  refine if_congr ((valid_iff c j).trans (by rw [hc])) rfl ?_
  exact ofBits_bot

theorem rowTop_at (x : FVec Ideal S256x8x64x576 .f32) (c : Fin 256) (h : Fin 8) (i : Fin 64) :
    rowTop x (ix3 c h i) = Finset.univ.fold max (Ideal.ofBits .f32 0xFF800000#32) fun j => x (ix4 c h i j) := by
  pointwise [rowTop]

theorem capped_at (t : FVec Ideal S256x8x64 .f32) (c : Fin 256) (h : Fin 8) (i : Fin 64) :
    capped t (ix3 c h i) = max (Ideal.ofBits .f32 0xFF800000#32) (t (ix3 c h i)) := by
  pointwise [capped]

/-- The largest score of row `s`. -/
theorem top_at (x : FVec Ideal S256x8x64x576 .f32) (c : Fin 256) (h : Fin 8) (i : Fin 64) :
    capped (rowTop x) (ix3 c h i) = rowMax fun j => x (ix4 c h i j) := by
  rw [capped_at, rowTop_at, ofBits_bot, Band.fold_eq_rowMax]
  exact max_eq_right bot_le

theorem powers_at (x : FVec Ideal S256x8x64x576 .f32) (t : FVec Ideal S256x8x64 .f32) (c : Fin 256) (h : Fin 8) (i : Fin 64) (j : Fin 576) :
    powers x t (ix4 c h i j) = Ideal.exp (x (ix4 c h i j) - along t (ix4 c h i j)) := rfl

theorem along_at (t : FVec Ideal S256x8x64 .f32) (c : Fin 256) (h : Fin 8) (i : Fin 64) (j : Fin 576) :
    along t (ix4 c h i j) = t (ix3 c h i) := by
  pointwise [along]

theorem weights_at (x : FVec Ideal S256x8x64x576 .f32) (c : Fin 256) (h : Fin 8) (i : Fin 64) (j : Fin 576) :
    weights x (ix4 c h i j) = expAt (rowMax fun j => x (ix4 c h i j)) (x (ix4 c h i j)) := by
  unfold weights expAt
  rw [powers_at, along_at, top_at]

/-- The reference's result at row `s` and column `y`, which is lane `y % 64` of head `y / 64`. -/
theorem outcome_at (q : FVec Ideal S16640x8x64 .bf16) (k v : FVec Ideal S16640x512 .bf16) (b : FVec Ideal S8x257 .f32) (s : Fin 16384) (y : Fin 512)
    (h : Fin 8) (hh : y.val / 64 = h.val) :
    outcome (banded v) (shares (weights (logits (chunked q) (banded k) (bias b)))) (ix2 s y)
      = ∑ j, bandRow v s h j ⟨y.val % 64, Nat.mod_lt _ (by decide)⟩
          * Ideal.div (expAt (rowMax (score q k b s h)) (score q k b s h j)) (∑ j, expAt (rowMax (score q k b s h)) (score q k b s h j)) := by
  have hs := s.isLt
  have hy := y.isLt
  pointwise [outcome]
  have hf : (⟨y.val / 64, by omega⟩ : Fin 8) = h := Fin.ext hh
  refine Finset.sum_congr rfl fun j _ => ?_
  rw [hf, banded_at v s j _ _ ⟨s.val / 64, by omega⟩ rfl]
  have hL : ∀ j, logits (chunked q) (banded k) (bias b) (ix4 ⟨s.val / 64, by omega⟩ h ⟨s.val % 64, by omega⟩ j)
      = score q k b s h j := fun j => logits_at q k b s _ j _ rfl _ rfl
  have hW : ∀ j, weights (logits (chunked q) (banded k) (bias b)) (ix4 ⟨s.val / 64, by omega⟩ h ⟨s.val % 64, by omega⟩ j)
      = expAt (rowMax (score q k b s h)) (score q k b s h j) := by
    intro j
    rw [weights_at]
    simp only [hL]
  have hS : shares (weights (logits (chunked q) (banded k) (bias b))) (ix4 ⟨s.val / 64, by omega⟩ h ⟨s.val % 64, by omega⟩ j)
      = Ideal.div (expAt (rowMax (score q k b s h)) (score q k b s h j))
        (∑ j, expAt (rowMax (score q k b s h)) (score q k b s h j)) := by
    pointwise [shares]
    simp only [hW]
  exact congrArg _ hS

end BandRef

end
-- ==== Proof.Band.Equation.lean ====
/-
  The kernel's result and the reference's, row by row: of finite queries, keys and bias they are the same extended reals.
-/
module
public import proofs.«01_k».proof.Proof.Band.Sweep
public import proofs.«01_k».proof.Proof.Band.Bias
public import proofs.«01_k».proof.Proof.Band.Ref

@[expose] public section

set_option maxRecDepth 16384

noncomputable section

open Idealize.ShloMosaic Cert.KernelIdeal Cert.KernelIdeal.Gen Cert.KernelIdeal.Value Idealize.ShloMosaic.TcCoe Idealize.SL.Sem

namespace Band

/-- An extended real that is a real. -/
def Finite (x : EReal) : Prop := ∃ r : ℝ, x = r

theorem Finite.add {x y : EReal} : Finite x → Finite y → Finite (x + y) := by
  rintro ⟨a, rfl⟩ ⟨b, rfl⟩
  exact ⟨a + b, by push_cast; rfl⟩

theorem Finite.mul {x y : EReal} : Finite x → Finite y → Finite (x * y) := by
  rintro ⟨a, rfl⟩ ⟨b, rfl⟩
  exact ⟨a * b, by push_cast; rfl⟩

theorem Finite.sum {n : ℕ} {f : Fin n → EReal} (h : ∀ i, Finite (f i)) : Finite (∑ i, f i) :=
  Finset.sum_induction f Finite (fun _ _ => Finite.add) ⟨0, rfl⟩ fun i _ => h i

theorem Finite.ne_top {x : EReal} : Finite x → x ≠ ⊤ := by
  rintro ⟨a, rfl⟩
  exact EReal.coe_ne_top a

theorem Finite.ne_bot {x : EReal} : Finite x → x ≠ ⊥ := by
  rintro ⟨a, rfl⟩
  exact EReal.coe_ne_bot a

theorem finite_eighth : Finite eighth := by
  refine ⟨1 / 8, ?_⟩
  unfold eighth
  simp [Ideal.ofBits, Ideal.ieee, -EReal.coe_mul]
  norm_num

/-- A product over a head's 64 lanes and 64 zeros is the product over the 64 lanes. -/
theorem sum_packed (p : Fin 8) (q : Fin 64 → EReal) (f k : Fin 128 → EReal) (w : Fin 64 → EReal)
    (hf : ∀ x, f x = if x.val / 64 = p.val % 2 then q ⟨x.val % 64, Nat.mod_lt _ (by decide)⟩ else 0)
    (hk : ∀ l : Fin 64, k ⟨64 * (p.val % 2) + l.val, by have := l.isLt; omega⟩ = w l) :
    (∑ x : Fin 128, f x * k x) = ∑ l, q l * w l := by
  simp only [hf]
  rw [Fin.sum_univ_add (a := 64) (b := 64)]
  have hp : p.val % 2 = 0 ∨ p.val % 2 = 1 := by omega
  rcases hp with hp | hp
  · have z : (∑ i : Fin 64, (if (Fin.natAdd 64 i).val / 64 = p.val % 2 then q ⟨(Fin.natAdd 64 i).val % 64, Nat.mod_lt _ (by decide)⟩ else 0)
        * k (Fin.natAdd 64 i)) = 0 := by
      refine Finset.sum_eq_zero fun i _ => ?_
      have := i.isLt
      rw [if_neg (by rw [Fin.val_natAdd]; omega), zero_mul]
    rw [z, add_zero]
    refine Finset.sum_congr rfl fun i _ => ?_
    have := i.isLt
    have e : (Fin.castAdd 64 i).val = i.val := rfl
    rw [if_pos (by rw [e]; omega), ← hk i]
    congr 2
    · exact Fin.ext (by show (Fin.castAdd 64 i).val % 64 = i.val; rw [e]; omega)
    · exact Fin.ext (by show (Fin.castAdd 64 i).val = 64 * (p.val % 2) + i.val; rw [e]; omega)
  · have z : (∑ i : Fin 64, (if (Fin.castAdd 64 i).val / 64 = p.val % 2 then q ⟨(Fin.castAdd 64 i).val % 64, Nat.mod_lt _ (by decide)⟩ else 0)
        * k (Fin.castAdd 64 i)) = 0 := by
      refine Finset.sum_eq_zero fun i _ => ?_
      have := i.isLt
      rw [if_neg (by show ¬ i.val / 64 = p.val % 2; omega), zero_mul]
    rw [z, zero_add]
    refine Finset.sum_congr rfl fun i _ => ?_
    have := i.isLt
    have e : (Fin.natAdd 64 i).val = 64 + i.val := rfl
    rw [if_pos (by rw [e]; omega), ← hk i]
    congr 2
    · exact Fin.ext (by show (Fin.natAdd 64 i).val % 64 = i.val; rw [e]; omega)
    · exact Fin.ext (by show (Fin.natAdd 64 i).val = 64 * (p.val % 2) + i.val; rw [e]; omega)

section Row

variable (m : (l : Loc nD τ sig) → Buf (Elt Ideal) l) (c : Dev nD)

/-- The arguments of the launch. -/
abbrev argQ : FVec Ideal S16640x8x64 .bf16 := m (c, Proc.tc.devRef main_arg0)
abbrev argK : FVec Ideal S16640x512 .bf16 := m (c, Proc.tc.devRef main_arg1)
abbrev argV : FVec Ideal S16640x512 .bf16 := m (c, Proc.tc.devRef main_arg2)
abbrev argB : FVec Ideal S8x257 .f32 := m (c, Proc.tc.devRef main_arg3)

variable (t : Fin cfg0.N) (r : Fin 512) (s : Fin 16384) (hs : s.val = 512 * t.val + r.val) (h : Fin 8)

/-- Two tiles side by side, row `x`: the row `512 t + x - 512` of the array. -/
theorem both_keys (p : Fin 4) (x : Fin 1024) (l : Fin 128) (a b : Vec Ideal S1x512x512 .bf16) (A : FVec Ideal S16640x512 .bf16)
    (ha : ∀ (r l : Fin 512) (s : Fin 16640), s.val = 512 * (t.val - 1) + r.val → a (ix3 0 r l) = (show EReal from A (ix2 s l)))
    (hb : ∀ (r l : Fin 512) (s : Fin 16640), s.val = 512 * t.val + r.val → b (ix3 0 r l) = (show EReal from A (ix2 s l)))
    (hx : ¬ (t.val = 0 ∧ x.val < 512)) (g : Fin 16640) (hg : g.val + 512 = 512 * t.val + x.val) (y : Fin 512) (hy : y.val = 128 * p.val + l.val) :
    both (lanes a p) (lanes b p) x l = (show EReal from A (ix2 g y)) := by
  have ht := point_lt t
  have hxl := x.isLt
  have ey : (⟨128 * p.val + l.val, by have := y.isLt; omega⟩ : Fin 512) = y := Fin.ext hy.symm
  unfold both lanes
  split_ifs with h
  · exact (congrArg (fun u => a (ix3 0 ⟨x.val, h⟩ u)) ey).trans (ha ⟨x.val, h⟩ y g (by show g.val = 512 * (t.val - 1) + x.val; omega))
  · exact (congrArg (fun u => b (ix3 0 ⟨x.val - 512, by omega⟩ u)) ey).trans (hb ⟨x.val - 512, by omega⟩ y g (by show g.val = 512 * t.val + (x.val - 512); omega))

include hs in
/-- Inside the band the kernel's masked score is the reference's. -/
theorem score_in (j : Fin 576) :
    score (t.val = 0) (lanes (X0_1 m c t) ⟨h.val / 2, by have := h.isLt; omega⟩) (lanes (X0_2 m c t) ⟨h.val / 2, by have := h.isLt; omega⟩)
      (queryHead (X0_0 m c t) h) (biasHead (biasOf (spread m c)) h) r (col (64 * (r.val / 64)) (by have := r.isLt; omega) j)
      = BandRef.score (argQ m c) (argK m c) (argB m c) s h j := by
  have ht := point_lt t
  have hr := r.isLt
  have hj := j.isLt
  have hh := h.isLt
  have hx : (col (64 * (r.val / 64)) (by omega) j).val = 64 * (r.val / 64) + j.val := rfl
  unfold score BandRef.score
  by_cases hv : 512 ≤ 64 * (s.val / 64) + j.val
  · rw [if_pos hv, if_neg (by rw [hx]; omega)]
    have eb : biasHead (biasOf (spread m c)) h (ix3 0 r (col (64 * (r.val / 64)) (by omega) j))
        = (show EReal from argB m c (ix2 h ⟨min 256 (640 + s.val % 64 - j.val), by omega⟩)) := by
      show biasOf (spread m c) (ix3 h r (col (64 * (r.val / 64)) (by omega) j)) = _
      rw [biasOf_at, if_pos (by rw [hx]; omega)]
      refine congrArg (fun u => argB m c (ix2 h u)) (Fin.ext ?_)
      show min 256 (1152 - (512 + (64 * (r.val / 64) + j.val) - r.val)) = min 256 (640 + s.val % 64 - j.val)
      omega
    have eq : ∀ k : Fin 128, queryHead (X0_0 m c t) h (ix3 0 r k) = (if k.val / 64 = h.val % 2
        then (fun l : Fin 64 => (argQ m c (ix3 ⟨s.val, by have := s.isLt; omega⟩ h l) : EReal)) ⟨k.val % 64, Nat.mod_lt _ (by decide)⟩ else (0 : EReal)) :=
      fun k => X_q m c t h r k ⟨s.val, by have := s.isLt; omega⟩ hs
    rw [eb, sum_packed h (fun l : Fin 64 => argQ m c (ix3 ⟨s.val, by have := s.isLt; omega⟩ h l)) _ _ (fun l => BandRef.bandRow (argK m c) s h j l) eq]
    · rfl
    · intro l
      have hl := l.isLt
      unfold BandRef.bandRow
      rw [dif_pos hv]
      exact both_keys t _ _ _ _ _ (argK m c) (X_k₁ m c t) (X_k₂ m c t) (by rw [hx]; omega) _ (by rw [hx]; show 64 * (s.val / 64) + j.val - 512 + 512 = _; omega) _
        (by show 64 * h.val + l.val = 128 * (h.val / 2) + (64 * (h.val % 2) + l.val); omega)
  · rw [if_neg hv, if_pos (by rw [hx]; omega)]

/-- Outside the band the kernel's score is `-∞`. -/
theorem score_out (x : Fin 1024) (hx : x.val < 64 * (r.val / 64) ∨ 64 * (r.val / 64) + 576 ≤ x.val) (a b q : Rows) :
    score (t.val = 0) a b q (biasHead (biasOf (spread m c)) h) r x = ⊥ := by
  unfold score
  split_ifs
  · rfl
  · have e : biasHead (biasOf (spread m c)) h (ix3 0 r x) = (⊥ : EReal) := by
      show biasOf (spread m c) (ix3 h r x) = _
      rw [biasOf_at, if_neg (by omega)]
    rw [e]
    exact EReal.add_bot _

/-- The reference's score of a row of the sequence is finite where queries, keys and bias are. -/
theorem score_finite (hq : ∀ i, Finite (argQ m c i)) (hk : ∀ i, Finite (argK m c i)) (hb : ∀ i, Finite (argB m c i)) (j : Fin 576)
    (hv : 512 ≤ 64 * (s.val / 64) + j.val) : Finite (BandRef.score (argQ m c) (argK m c) (argB m c) s h j) := by
  unfold BandRef.score
  rw [if_pos hv]
  refine Finite.add (Finite.mul (Finite.sum fun l => Finite.mul (hq _) ?_) finite_eighth) (hb _)
  unfold BandRef.bandRow
  rw [dif_pos hv]
  exact hk _

include hs in
/-- One row of the two programs. -/
theorem row (hq : ∀ i, Finite (argQ m c i)) (hk : ∀ i, Finite (argK m c i)) (hb : ∀ i, Finite (argB m c i)) (y : Fin 512) :
    (G6 m c : Vec Ideal S16384x512 .bf16) (ix2 s y)
      = BandRef.outcome (BandRef.banded (argV m c)) (BandRef.shares (BandRef.weights (BandRef.logits (BandRef.chunked (argQ m c)) (BandRef.banded (argK m c)) (BandRef.bias (argB m c)))))
        (ix2 s y) := by
  have ht := point_lt t
  have hr := r.isLt
  have hy := y.isLt
  have hsl := s.isLt
  rw [result_at m c t r y s hs, BandRef.outcome_at _ _ _ _ s y ⟨y.val / 64, by omega⟩ rfl]
  unfold blockAt attend
  have hp : (⟨y.val / 128, by omega⟩ : Fin 4) = ⟨(⟨y.val / 64, by omega⟩ : Fin 8).val / 2, by show y.val / 64 / 2 < 4; omega⟩ :=
    Fin.ext (by show y.val / 128 = y.val / 64 / 2; omega)
  rw [hp]
  refine row_eq _ _ _ _ (64 * (r.val / 64)) (by omega) (fun j => score_in m c t r s hs _ j) (fun x hx => score_out m c t r _ x hx _ _ _) ?_ ?_ ?_
  · intro j hj
    have hjl := j.isLt
    have hv : 512 ≤ 64 * (s.val / 64) + j.val := by
      by_contra hn
      exact hj (by unfold BandRef.score; rw [if_neg hn])
    unfold BandRef.bandRow
    rw [dif_pos hv]
    have hx : (col (64 * (r.val / 64)) (by omega) j).val = 64 * (r.val / 64) + j.val := rfl
    exact both_keys t _ _ _ _ _ (argV m c) (X_v₁ m c t) (X_v₂ m c t) (by rw [hx]; omega) _ (by rw [hx]; show 64 * (s.val / 64) + j.val - 512 + 512 = _; omega) _
      (by show 64 * (y.val / 64) + y.val % 64 = 128 * (y.val / 64 / 2) + y.val % 128; omega)
  · intro j
    by_cases hv : 512 ≤ 64 * (s.val / 64) + j.val
    · exact (score_finite m c s _ hq hk hb j hv).ne_top
    · unfold BandRef.score
      rw [if_neg hv]
      exact bot_ne_top
  · exact ⟨⟨512, by decide⟩, (score_finite m c s _ hq hk hb _ (by show 512 ≤ 64 * (s.val / 64) + 512; omega)).ne_bot⟩

end Row

/-- The two programs' results, of finite queries, keys and bias. -/
theorem equal (m : (l : Loc nD τ sig) → Buf (Elt Ideal) l) (c : Dev nD)
    (hq : ∀ i, Finite (argQ m c i)) (hk : ∀ i, Finite (argK m c i)) (hb : ∀ i, Finite (argB m c i)) :
    (G6 m c : Vec Ideal S16384x512 .bf16)
      = BandRef.outcome (BandRef.banded (argV m c)) (BandRef.shares (BandRef.weights (BandRef.logits (BandRef.chunked (argQ m c)) (BandRef.banded (argK m c)) (BandRef.bias (argB m c))))) := by
  funext i
  have hs : (i 0).val < 16384 := (i 0).isLt
  have e : i = ix2 (i 0) (i 1) := by
    funext d
    match d with
    | 0 => rfl
    | 1 => rfl
  rw [e]
  exact row m c ⟨(i 0).val / 512, by rw [show cfg0.N = 32 from N_0]; omega⟩ ⟨(i 0).val % 512, Nat.mod_lt _ (by decide)⟩ (i 0)
    (by show (i 0).val = 512 * ((i 0).val / 512) + (i 0).val % 512; omega) hq hk hb (i 1)

end Band

end
-- ==== Proof.Band.Given.lean ====
/-
  The precondition, read: where the magnitude of every element compares below `+∞`, every element is a real.
-/
module
public import proofs.«01_k».proof.Proof.Band.Equation
public import proofs.«01_k».proof.Pre_finite

@[expose] public section

set_option maxRecDepth 16384

noncomputable section

open Idealize.ShloMosaic Cert.Pre_finite

namespace Band

/-- A magnitude below `+∞` is a real's. -/
theorem finite_of_lt (x : EReal) (h : Ideal.cmp .olt (max x (-x)) (Ideal.ofBits .f32 0x7F800000#32) = 1#1) : Finite x := by
  have e : Ideal.ofBits .f32 0x7F800000#32 = ⊤ := by simp [Ideal.ofBits, Ideal.ieee]
  rw [e, Ideal.cmp_olt] at h
  have hl : max x (-x) < ⊤ := by
    by_contra hn
    rw [decide_eq_false hn] at h
    exact absurd h (by decide)
  induction x with
  | bot => exact absurd hl (by simp)
  | top => exact absurd hl (by simp)
  | coe r => exact ⟨r, rfl⟩

variable [Facts] (q : FVec Ideal S16640x8x64 .bf16) (k v : FVec Ideal S16640x512 .bf16) (b : FVec Ideal S8x257 .f32)

theorem given_q (h : (fn (F := Ideal) q k v b).1 = fun _ => 1#1) (i : S16640x8x64.Idx) : Finite (q i) :=
  finite_of_lt (q i) (congrFun h i)

theorem given_k (h : (fn (F := Ideal) q k v b).2.1 = fun _ => 1#1) (i : S16640x512.Idx) : Finite (k i) :=
  finite_of_lt (k i) (congrFun h i)

theorem given_b (h : (fn (F := Ideal) q k v b).2.2 = fun _ => 1#1) (i : S8x257.Idx) : Finite (b i) :=
  finite_of_lt (b i) (congrFun h i)

end Band

end
-- ==== Proof.Experts.Body.lean ====
/-
  One point of the experts' grid: what its body leaves in the two weight buffers and in the tile's block of the result.
-/
module
public import proofs.«01_k».proof.Proof.Gen.ExpertsIdeal
public import proofs.«01_k».proof.Proof.Gen.ExpertsIdeal.Launch
public import proofs.«01_k».proof.Proof.Gen.ExpertsIdeal.Skeleton
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.WritesUnit
public import Idealize.ShloMosaic.Lib.VecWindow
public import Idealize.ShloMosaic.Lib.ValueIdxCore
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Experts

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ (UR sig nD τ) ℕ

/-- The tiles' experts, the tiles' row counts, and the two buffers that hold an expert's weights. -/
abbrev tileM : Memref sig .tc .smem S162 .i32 := Memref.whole main_arg1
abbrev rowsM : Memref sig .tc .smem S162 .i32 := Memref.whole main_arg2
abbrev upM : Memref sig .tc .vmem S1024x2048 .bf16 := Memref.whole cc0_scratch0
abbrev downM : Memref sig .tc .vmem S1024x1024 .bf16 := Memref.whole cc0_scratch1

/-- A word of the first table at an offset. -/
abbrev wordA (T : S162.Idx → Elt F .i32) (off : Fin 1 → ℕ) (h : ∀ a, off a + S1.size a ≤ S162.size a) : Elt F .i32 :=
  View.readAt (Elt F) tileM.view (Rect.unit (s := S162) off S1.size h).toLoadRect T (Shape.Idx.first (numel1_S1.symm ▸ Nat.one_pos))

/-- A word of the second table at an offset. -/
abbrev wordB (T : S162.Idx → Elt F .i32) (off : Fin 1 → ℕ) (h : ∀ a, off a + S1.size a ≤ S162.size a) : Elt F .i32 :=
  View.readAt (Elt F) rowsM.view (Rect.unit (s := S162) off S1.size h).toLoadRect T (Shape.Idx.first (numel1_S1.symm ▸ Nat.one_pos))

/-- The tile's expert is not the one of the tile before, or there is no tile before. -/
abbrev Fresh (T : S162.Idx → Elt F .i32) (i : grid0.Coords) : Prop :=
  Scalar.cmpi .ne (Scalar.extui (Scalar.ori (Scalar.cmpi .eq (BitVec.ofNat 32 (i 0).val) 0#32)
    (Scalar.cmpi .ne (wordA T (k0_off1 i) (k0_off1_inb i)) (wordA T (k0_off2 i) (k0_off2_inb i))))) 0#32 = 1#1

/-- The tile holds rows. -/
abbrev Held (T : S162.Idx → Elt F .i32) (i : grid0.Coords) : Prop := k0_cond2 (wordB T (k0_off3 i) (k0_off3_inb i)) = 1#1

/-- The tile holds no row. -/
abbrev Bare (T : S162.Idx → Elt F .i32) (i : grid0.Coords) : Prop := k0_cond3 (wordB T (k0_off4 i) (k0_off4_inb i)) = 1#1

/-- 256 rows of one of the tile's eight slabs of 128 columns. -/
def slab (x0 : S512x8x128.Idx → Elt F .bf16) (off : Fin 3 → ℕ) (h : ∀ a, off a + S256x1x128.size a ≤ S512x8x128.size a) :
    Vec F S256x1x128 .bf16 :=
  fun y => x0 ((Rect.unit (s := S512x8x128) off S256x1x128.size h).toLoadRect.idx y)

/-- The tile's rows 0 to 255 through the expert: from the tile's rows, the biases and the expert's weights. -/
def topHalf (x0 : S512x8x128.Idx → Elt F .bf16) (x2 : S1x1x2048.Idx → Elt F .f32) (x4 : S1x1x1024.Idx → Elt F .f32)
    (u : S1024x2048.Idx → Elt F .bf16) (d : S1024x1024.Idx → Elt F .bf16) : FVec F S256x1024 .f32 :=
  k0_pay7
    (k0_pay5 (slab x0 ![0, 0, 0] inb_S512x8x128_S256x1x128_0_0_0) (slab x0 ![0, 1, 0] inb_S512x8x128_S256x1x128_0_1_0) (slab x0 ![0, 2, 0] inb_S512x8x128_S256x1x128_0_2_0) (slab x0 ![0, 3, 0] inb_S512x8x128_S256x1x128_0_3_0) (slab x0 ![0, 4, 0] inb_S512x8x128_S256x1x128_0_4_0) (slab x0 ![0, 5, 0] inb_S512x8x128_S256x1x128_0_5_0) (slab x0 ![0, 6, 0] inb_S512x8x128_S256x1x128_0_6_0) (slab x0 ![0, 7, 0] inb_S512x8x128_S256x1x128_0_7_0)
      u x2)
    (k0_pay6 (slab x0 ![0, 0, 0] inb_S512x8x128_S256x1x128_0_0_0) (slab x0 ![0, 1, 0] inb_S512x8x128_S256x1x128_0_1_0) (slab x0 ![0, 2, 0] inb_S512x8x128_S256x1x128_0_2_0) (slab x0 ![0, 3, 0] inb_S512x8x128_S256x1x128_0_3_0) (slab x0 ![0, 4, 0] inb_S512x8x128_S256x1x128_0_4_0) (slab x0 ![0, 5, 0] inb_S512x8x128_S256x1x128_0_5_0) (slab x0 ![0, 6, 0] inb_S512x8x128_S256x1x128_0_6_0) (slab x0 ![0, 7, 0] inb_S512x8x128_S256x1x128_0_7_0)
      u x2)
    (Scalar.ofBits .f32 0xC0E00000#32) (Scalar.ofBits .f32 0x40E00000#32) d x4

/-- The tile's rows 256 to 511 through the expert. -/
def lowHalf (x0 : S512x8x128.Idx → Elt F .bf16) (x2 : S1x1x2048.Idx → Elt F .f32) (x4 : S1x1x1024.Idx → Elt F .f32)
    (u : S1024x2048.Idx → Elt F .bf16) (d : S1024x1024.Idx → Elt F .bf16) : FVec F S256x1024 .f32 :=
  k0_pay14 (k0_pay8 (slab x0 ![256, 0, 0] inb_S512x8x128_S256x1x128_256_0_0)) (k0_pay9 (slab x0 ![256, 1, 0] inb_S512x8x128_S256x1x128_256_1_0)) (k0_pay10 (slab x0 ![256, 2, 0] inb_S512x8x128_S256x1x128_256_2_0)) (k0_pay11 (slab x0 ![256, 3, 0] inb_S512x8x128_S256x1x128_256_3_0)) (k0_pay12 (slab x0 ![256, 4, 0] inb_S512x8x128_S256x1x128_256_4_0)) (k0_pay13 (slab x0 ![256, 5, 0] inb_S512x8x128_S256x1x128_256_5_0)) (slab x0 ![256, 6, 0] inb_S512x8x128_S256x1x128_256_6_0) (slab x0 ![256, 7, 0] inb_S512x8x128_S256x1x128_256_7_0)
    u x2 d x4

/-- The block of a tile that holds rows. -/
def through (x0 : S512x8x128.Idx → Elt F .bf16) (x2 : S1x1x2048.Idx → Elt F .f32) (x4 : S1x1x1024.Idx → Elt F .f32)
    (u : S1024x2048.Idx → Elt F .bf16) (d : S1024x1024.Idx → Elt F .bf16) : S512x1024.Idx → Elt F .f32 :=
  fun y => if (y 0).val < 256 then topHalf x0 x2 x4 u d (ix2 ⟨(y 0).val % 256, Nat.mod_lt _ (by decide)⟩ (y 1))
    else lowHalf x0 x2 x4 u d (ix2 ⟨(y 0).val % 256, Nat.mod_lt _ (by decide)⟩ (y 1))

theorem slab_read (a3 : Memref sig .tc .vmem S512x8x128 .bf16) (x0 : S512x8x128.Idx → Elt F .bf16) (off : Fin 3 → ℕ)
    (h : ∀ a, off a + S256x1x128.size a ≤ S512x8x128.size a) :
    a3.view.readAt (Elt F) (Rect.unit (s := S512x8x128) off S256x1x128.size h).toLoadRect (a3.view.rep x0) = slab x0 off h :=
  View.readAt_rep _ _ _

/-- The two halves as they are stored, the later first. -/
def pieces (x0 : S512x8x128.Idx → Elt F .bf16) (x2 : S1x1x2048.Idx → Elt F .f32) (x4 : S1x1x1024.Idx → Elt F .f32)
    (u : S1024x2048.Idx → Elt F .bf16) (d : S1024x1024.Idx → Elt F .bf16) : List (View.Piece (Elt F) S512x1024 .f32) :=
  [⟨Rect.unit (s := S512x1024) ![256, 0] S256x1024.size inb_S512x1024_S256x1024_256_0, lowHalf x0 x2 x4 u d⟩,
    ⟨Rect.unit (s := S512x1024) ![0, 0] S256x1024.size inb_S512x1024_S256x1024_0_0, topHalf x0 x2 x4 u d⟩]

/-- Storing the two halves leaves the block. -/
theorem read_halves (a8 : Memref sig .tc .vmem S512x1024 .f32) (f : a8.view.ty.Contents (Elt F)) (x0 : S512x8x128.Idx → Elt F .bf16) (x2 : S1x1x2048.Idx → Elt F .f32)
    (x4 : S1x1x1024.Idx → Elt F .f32) (u : S1024x2048.Idx → Elt F .bf16) (d : S1024x1024.Idx → Elt F .bf16) :
    a8.view.read (Elt F) (a8.view.writes (Elt F) f (pieces x0 x2 x4 u d)) = through x0 x2 x4 u d := by
  funext y
  have hy : (y 0).val < 512 := (y 0).isLt
  unfold through pieces
  by_cases h : (y 0).val < 256
  · rw [if_pos h, View.read_writes_cons_rows_of_not_mem (d := ![512, 1024]) _ _ _ _ _ _ (o := 256) (W := 256) rfl rfl (Or.inl h)]
    exact View.read_writes_cons_rows_of_mem (d := ![512, 1024]) _ _ _ _ _ _ (ix2 ⟨(y 0).val % 256, Nat.mod_lt _ (by decide)⟩ (y 1)) (o := 0) rfl
      (by show (y 0).val = 0 + (y 0).val % 256; omega) rfl
  · rw [if_neg h]
    exact View.read_writes_cons_rows_of_mem (d := ![512, 1024]) _ _ _ _ _ _ (ix2 ⟨(y 0).val % 256, Nat.mod_lt _ (by decide)⟩ (y 1)) (o := 256) rfl
      (by show (y 0).val = 256 + (y 0).val % 256; omega) rfl

open Classical in
/-- The up-projection weights a point computes with: the block's, rounded, at a fresh expert, else those already held. -/
def upOf (T : S162.Idx → Elt F .i32) (i : grid0.Coords) (x1 : S1x1024x2048.Idx → Elt F .f32) (a : S1024x2048.Idx → Elt F .bf16) :
    S1024x2048.Idx → Elt F .bf16 := if Fresh T i then k0_pay1 x1 else a

open Classical in
/-- The down-projection weights a point computes with. -/
def downOf (T : S162.Idx → Elt F .i32) (i : grid0.Coords) (x3 : S1x1024x1024.Idx → Elt F .f32) (a : S1024x1024.Idx → Elt F .bf16) :
    S1024x1024.Idx → Elt F .bf16 := if Fresh T i then k0_pay2 x3 else a

open Classical in
/-- What a point leaves in its block of the result. -/
def left (T1 : S162.Idx → Elt F .i32) (i : grid0.Coords) (x0 : S512x8x128.Idx → Elt F .bf16) (x2 : S1x1x2048.Idx → Elt F .f32)
    (x4 : S1x1x1024.Idx → Elt F .f32) (u : S1024x2048.Idx → Elt F .bf16) (d : S1024x1024.Idx → Elt F .bf16) : S512x1024.Idx → Elt F .f32 :=
  if Held T1 i then through x0 x2 x4 u d else k0_pay3

/-- A store of the whole first weight buffer is all it holds. -/
theorem up_stored (f : S1024x2048.Idx → Elt F .bf16) (w : S1024x2048.Idx → Elt F .bf16) :
    upM.view.writes (Elt F) f [⟨Rect.unit (s := S1024x2048) ![0, 0] S1024x2048.size inb_S1024x2048_S1024x2048_0_0, w⟩] = w := by
  have h := View.read_writes_full (Val := Elt F) upM.view f inb_S1024x2048_S1024x2048_0_0 w []
  have e : ∀ g : S1024x2048.Idx → Elt F .bf16, upM.view.read (Elt F) g = g := fun _ => rfl
  rwa [e] at h

/-- A store of the whole second weight buffer is all it holds. -/
theorem down_stored (f : S1024x1024.Idx → Elt F .bf16) (w : S1024x1024.Idx → Elt F .bf16) :
    downM.view.writes (Elt F) f [⟨Rect.unit (s := S1024x1024) ![0, 0] S1024x1024.size inb_S1024x1024_S1024x1024_0_0, w⟩] = w := by
  have h := View.read_writes_full (Val := Elt F) downM.view f inb_S1024x1024_S1024x1024_0_0 w []
  have e : ∀ g : S1024x1024.Idx → Elt F .bf16, downM.view.read (Elt F) g = g := fun _ => rfl
  rwa [e] at h

/-- A load of all the first weight buffer. -/
theorem up_read (f : S1024x2048.Idx → Elt F .bf16) :
    upM.view.readAt (Elt F) (Rect.unit (s := S1024x2048) ![0, 0] S1024x2048.size inb_S1024x2048_S1024x2048_0_0).toLoadRect f = f :=
  View.readAt_full _ _ _

/-- A load of all the second weight buffer. -/
theorem down_read (f : S1024x1024.Idx → Elt F .bf16) :
    downM.view.readAt (Elt F) (Rect.unit (s := S1024x1024) ![0, 0] S1024x1024.size inb_S1024x1024_S1024x1024_0_0).toLoadRect f = f :=
  View.readAt_full _ _ _

/-- A load of all the bias rows. -/
theorem bias_up_read (a5 : Memref sig .tc .vmem S1x1x2048 .f32) (x : S1x1x2048.Idx → Elt F .f32) :
    a5.view.readAt (Elt F) (Rect.unit (s := S1x1x2048) ![0, 0, 0] S1x1x2048.size inb_S1x1x2048_S1x1x2048_0_0_0).toLoadRect (a5.view.rep x) = x :=
  View.readAt_rep_full _ _ _

theorem bias_down_read (a7 : Memref sig .tc .vmem S1x1x1024 .f32) (x : S1x1x1024.Idx → Elt F .f32) :
    a7.view.readAt (Elt F) (Rect.unit (s := S1x1x1024) ![0, 0, 0] S1x1x1024.size inb_S1x1x1024_S1x1x1024_0_0_0).toLoadRect (a7.view.rep x) = x :=
  View.readAt_rep_full _ _ _

set_option maxHeartbeats 8000000 in
theorem body_run (c : Dev nD) (i : grid0.Coords) (arg3 : Memref sig .tc .vmem S512x8x128 .bf16) (harg3 : arg3.IsWhole)
    (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole)
    (arg8 : Memref sig .tc .vmem S512x1024 .f32) (harg8 : arg8.IsWhole) (T0 T1 : S162.Idx → Elt F .i32)
    (x0 : S512x8x128.Idx → Elt F .bf16) (x1 : S1x1024x2048.Idx → Elt F .f32) (x2 : S1x1x2048.Idx → Elt F .f32)
    (x3 : S1x1024x1024.Idx → Elt F .f32) (x4 : S1x1x1024.Idx → Elt F .f32)
    (a0 : Buf (Elt F) ((c : Thread nD τ).loc cc0_scratch0)) (a1 : Buf (Elt F) ((c : Thread nD τ).loc cc0_scratch1))
    (h0 : Held T1 i → ¬ Bare T1 i) (h1 : ¬ Held T1 i → Bare T1 i) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (arg7.view.loc (c : Thread nD τ) ↦[arg7.view.set]{fullShare} arg7.view.rep x4)
      ∗ (tileM.view.loc (c : Thread nD τ) ↦{fullShare.right} T0)
      ∗ (rowsM.view.loc (c : Thread nD τ) ↦{fullShare.right} T1)
      ∗ (∃ d, owns (c : Thread nD τ) arg8 fullShare d)
      ∗ (upM.view.loc (c : Thread nD τ) ↦{fullShare} a0)
      ∗ (downM.view.loc (c : Thread nD τ) ↦{fullShare} a1)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tileM.view.loc (c : Thread nD τ) ↦{fullShare.right} T0)
          ∗ (rowsM.view.loc (c : Thread nD τ) ↦{fullShare.right} T1)
          ∗ owns (c : Thread nD τ) arg8 fullShare (left T1 i x0 x2 x4 (upOf T0 i x1 a0) (downOf T0 i x3 a1))
          ∗ (upM.view.loc (c : Thread nD τ) ↦{fullShare} upOf T0 i x1 a0)
          ∗ (downM.view.loc (c : Thread nD τ) ↦{fullShare} downOf T0 i x3 a1)) -∗ K ⟨⟩))
      ⊢ wp frame (wpE (defs₀ (F := F)) Variants.none c none) Set.univ (cc0_experts i tileM (Memref.isWhole_whole _) rowsM (Memref.isWhole_whole _) arg3 harg3 arg4 harg4 arg5 harg5 arg6 harg6 arg7 harg7 arg8 harg8 upM (Memref.isWhole_whole _) downM (Memref.isWhole_whole _)) K := by
  unfold owns
  rw [cc0_experts_eq_skeleton]; unfold cc0_experts_skel
  have hS0 : upM.IsWhole := Memref.isWhole_whole _
  have hS1 : downM.IsWhole := Memref.isWhole_whole _
  have hT0 : tileM.IsWhole := Memref.isWhole_whole _
  have hT1 : rowsM.IsWhole := Memref.isWhole_whole _
  iintro ⟨H0, H1, H2, H3, H4, HT0, HT1, ⟨%d5, %f5, -, HO5⟩, HS0, HS1, Hk⟩
  by_cases hc0 : Fresh T0 i
  · rw [show upOf T0 i x1 a0 = k0_pay1 x1 from if_pos hc0, show downOf T0 i x3 a1 = k0_pay2 x3 from if_pos hc0]
    by_cases k0_h2 : Held T1 i
    · have k0_h3 := h0 k0_h2
      rw [show left T1 i x0 x2 x4 (k0_pay1 x1) (k0_pay2 x3) = through x0 x2 x4 (k0_pay1 x1) (k0_pay2 x3) from if_pos k0_h2]
      sl_exec! (disch := first | (guard_target = Scalar.cmpi = _; exact hc0) | (guard_target = k0_cond2 _ = _; exact k0_h2) | (guard_target = ¬(k0_cond3 _ = _); exact k0_h3))
      sl_step
      iapply Hk
      have eu : body_run.sl.v38 arg4 x1 = k0_pay1 x1 :=
        (View.readCov_full (Val := Elt F) upM.view _ inb_S1024x2048_S1024x2048_0_0 _ _).trans
          (congrArg k0_pay1 (View.readAt_rep_full arg4.view x1 _))
      have ed : body_run.sl.v60 arg6 x3 = k0_pay2 x3 :=
        (View.readCov_full (Val := Elt F) downM.view _ inb_S1024x1024_S1024x1024_0_0 _ _).trans
          (congrArg k0_pay2 (View.readAt_rep_full arg6.view x3 _))
      have e5 : body_run.sl.HO5_2 arg3 arg4 arg5 arg6 arg7 x0 x1 x2 x3 x4 = pieces x0 x2 x4 (k0_pay1 x1) (k0_pay2 x3) := by
        unfold body_run.sl.HO5_2 pieces lowHalf topHalf
        rw [eu, ed, bias_up_read, bias_down_read]
        unfold body_run.sl.r_3 body_run.sl.r_4 body_run.sl.r_5 body_run.sl.r_6 body_run.sl.r_7 body_run.sl.r_8 body_run.sl.r_9 body_run.sl.r_10 body_run.sl.cst_28 body_run.sl.cst_29
        rw [eu, bias_up_read]
        repeat rw [slab_read]
      have es0 : upM.view.writes (Elt F) upM.view.junk (body_run.sl.HS0_1 arg4 x1) = k0_pay1 x1 :=
        (up_stored _ _).trans (congrArg k0_pay1 (View.readAt_rep_full arg4.view x1 _))
      have es1 : downM.view.writes (Elt F) downM.view.junk (body_run.sl.HS1_1 arg6 x3) = k0_pay2 x3 :=
        (down_stored _ _).trans (congrArg k0_pay2 (View.readAt_rep_full arg6.view x3 _))
      rw [e5, es0, es1]
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HO5]
      · iexists _; isplitr; swap
        · iexact HO5
        · ipureintro; exact read_halves _ _ _ _ _ _ _
      isplitl [HS0]; · iexact HS0
      iexact HS1
    · have k0_h3 := h1 k0_h2
      rw [show left T1 i x0 x2 x4 (k0_pay1 x1) (k0_pay2 x3) = k0_pay3 from if_neg k0_h2]
      sl_exec! (disch := first | (guard_target = Scalar.cmpi = _; exact hc0) | (guard_target = ¬(k0_cond2 _ = _); exact k0_h2) | (guard_target = k0_cond3 _ = _; exact k0_h3))
      sl_step
      iapply Hk
      have es0 : upM.view.writes (Elt F) upM.view.junk (body_run.sl.HS0_1_1 arg4 x1) = k0_pay1 x1 :=
        (up_stored _ _).trans (congrArg k0_pay1 (View.readAt_rep_full arg4.view x1 _))
      have es1 : downM.view.writes (Elt F) downM.view.junk (body_run.sl.HS1_1_1 arg6 x3) = k0_pay2 x3 :=
        (down_stored _ _).trans (congrArg k0_pay2 (View.readAt_rep_full arg6.view x3 _))
      rw [es0, es1]
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HO5]
      · iexists _; isplitr; swap
        · iexact HO5
        · ipureintro; exact View.read_writes_full _ _ _ _ _
      isplitl [HS0]; · iexact HS0
      iexact HS1
  · rw [show upOf T0 i x1 a0 = a0 from if_neg hc0, show downOf T0 i x3 a1 = a1 from if_neg hc0]
    by_cases k0_h2 : Held T1 i
    · have k0_h3 := h0 k0_h2
      rw [show left T1 i x0 x2 x4 a0 a1 = through x0 x2 x4 a0 a1 from if_pos k0_h2]
      sl_exec! (disch := first | (guard_target = ¬(Scalar.cmpi _ _ _ = _); exact hc0) | (guard_target = k0_cond2 _ = _; exact k0_h2) | (guard_target = ¬(k0_cond3 _ = _); exact k0_h3))
      sl_step
      iapply Hk
      have e5 : body_run.sl.HO5_2_1 c arg3 arg5 arg7 x0 x2 x4 a0 a1 = pieces x0 x2 x4 a0 a1 := by
        unfold body_run.sl.HO5_2_1 pieces lowHalf topHalf
        rw [up_read, down_read, bias_up_read, bias_down_read]
        unfold body_run.sl.r_19 body_run.sl.r_20 body_run.sl.r_21 body_run.sl.r_22 body_run.sl.r_23 body_run.sl.r_24 body_run.sl.r_25 body_run.sl.r_26 body_run.sl.cst_28_1 body_run.sl.cst_29_1
        rw [up_read, bias_up_read]
        repeat rw [slab_read]
      rw [e5]
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HO5]
      · iexists _; isplitr; swap
        · iexact HO5
        · ipureintro; exact read_halves _ _ _ _ _ _ _
      isplitl [HS0]; · iexact HS0
      iexact HS1
    · have k0_h3 := h1 k0_h2
      rw [show left T1 i x0 x2 x4 a0 a1 = k0_pay3 from if_neg k0_h2]
      sl_exec! (disch := first | (guard_target = ¬(Scalar.cmpi _ _ _ = _); exact hc0) | (guard_target = ¬(k0_cond2 _ = _); exact k0_h2) | (guard_target = k0_cond3 _ = _; exact k0_h3))
      sl_step
      iapply Hk
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HO5]
      · iexists _; isplitr; swap
        · iexact HO5
        · ipureintro; exact View.read_writes_full _ _ _ _ _
      isplitl [HS0]; · iexact HS0
      iexact HS1

end Experts
end
-- ==== Proof.Experts.Words.lean ====
/-
  The words of the two tables that a point reads, and what its conditions say of them.
-/
module
public import proofs.«01_k».proof.Proof.Experts.Body
public import Idealize.ShloMosaic.Lib.WordCmp

@[expose] public section

set_option maxRecDepth 16384

noncomputable section

namespace Experts

open Cert.ExpertsIdeal Cert.ExpertsIdeal.Gen
open Idealize.ShloMosaic Idealize.ShloMosaic.TcCoe Idealize.ShloMosaic.Tactic
open Idealize.ShloMosaic.ValueIdx (ix2)

variable {F : FTy → Type} [FloatOps F]

/-- A table's entry. -/
def entry (T : S162.Idx → BitVec 32) (n : ℕ) (h : n < 162) : BitVec 32 := T (fun | ⟨0, _⟩ => ⟨n, h⟩)

theorem point_lt (i : grid0.Coords) : (i 0).val < 162 := (i 0).isLt

theorem off_tile : ∀ i : grid0.Coords, cc0_transform_0 i = ![(i 0).val, 0, 0] := by decide +kernel
theorem off_out : ∀ i : grid0.Coords, cc0_transform_5 i = ![(i 0).val, 0] := by decide +kernel
theorem off1_eq : ∀ i : grid0.Coords, k0_off1 i = ![(i 0).val] := by decide +kernel
theorem off2_eq : ∀ i : grid0.Coords, k0_off2 i = ![(i 0).val - 1] := by decide +kernel
theorem off3_eq : ∀ i : grid0.Coords, k0_off3 i = ![(i 0).val] := by decide +kernel
theorem off4_eq : ∀ i : grid0.Coords, k0_off4 i = ![(i 0).val] := by decide +kernel

/-- A load at an offset reads the entry there. -/
theorem wordA_eq (T : S162.Idx → BitVec 32) (off : Fin 1 → ℕ) (h : ∀ a, off a + S1.size a ≤ S162.size a) (n : ℕ) (hn : n < 162)
    (e : off = ![n]) : wordA (F := F) T off h = entry T n hn := by
  subst e
  show T _ = T _
  congr 1
  funext a
  match a with
  | ⟨0, _⟩ => exact Fin.ext (by show n + 1 * 0 = n; omega)

theorem wordB_eq (T : S162.Idx → BitVec 32) (off : Fin 1 → ℕ) (h : ∀ a, off a + S1.size a ≤ S162.size a) (n : ℕ) (hn : n < 162)
    (e : off = ![n]) : wordB (F := F) T off h = entry T n hn := by
  subst e
  show T _ = T _
  congr 1
  funext a
  match a with
  | ⟨0, _⟩ => exact Fin.ext (by show n + 1 * 0 = n; omega)

/-- A condition carried through a word. -/
theorem bit_word : ∀ b : BitVec 1, Scalar.cmpi .ne (Scalar.extui b : BitVec 32) 0#32 = 1#1 ↔ b = 1#1 := by decide

theorem or_bit : ∀ a b : BitVec 1, Scalar.ori a b = 1#1 ↔ a = 1#1 ∨ b = 1#1 := by decide

theorem bit_eq (a b : BitVec 32) : Scalar.cmpi .eq a b = 1#1 ↔ a = b := by
  show IntOp.cmpi .eq a b = 1#1 ↔ a = b
  rw [WordCmp.cmpi_eq_eq]; by_cases h : a = b <;> simp [h]

theorem bit_ne (a b : BitVec 32) : Scalar.cmpi .ne a b = 1#1 ↔ a ≠ b := by
  show IntOp.cmpi .ne a b = 1#1 ↔ a ≠ b
  rw [WordCmp.cmpi_ne_eq]; by_cases h : a = b <;> simp [h]

theorem bit_gt (a : BitVec 32) : Scalar.cmpi .sgt a 0#32 = 1#1 ↔ 0 < a.toInt := by
  show BitVec.ofBool ((0#32).slt a) = 1#1 ↔ 0 < a.toInt
  rw [BitVec.slt_eq_decide]; by_cases h : 0 < a.toInt <;> simp [h]

theorem fresh_iff (T : S162.Idx → BitVec 32) (i : grid0.Coords) : Fresh (F := F) T i ↔
    BitVec.ofNat 32 (i 0).val = 0#32 ∨ entry T (i 0).val (point_lt i) ≠ entry T ((i 0).val - 1) (by have := point_lt i; omega) := by
  unfold Fresh
  rw [wordA_eq T _ _ _ (point_lt i) (off1_eq i), wordA_eq T _ _ _ (by have := point_lt i; omega) (off2_eq i), bit_word, or_bit, bit_eq, bit_ne]

/-- Where the weights are not reloaded there is a tile before, of the same expert. -/
theorem not_fresh (T : S162.Idx → BitVec 32) (i : grid0.Coords) (h : ¬ Fresh (F := F) T i) :
    (i 0).val ≠ 0 ∧ entry T (i 0).val (point_lt i) = entry T ((i 0).val - 1) (by have := point_lt i; omega) := by
  rw [fresh_iff, not_or, not_ne_iff] at h
  exact ⟨fun e => h.1 (by rw [e]), h.2⟩

theorem held_iff (T : S162.Idx → BitVec 32) (i : grid0.Coords) : Held (F := F) T i ↔ 0 < (entry T (i 0).val (point_lt i)).toInt := by
  unfold Held
  rw [wordB_eq T _ _ _ (point_lt i) (off3_eq i)]
  exact (bit_word _).trans (bit_gt _)

theorem bare_iff (T : S162.Idx → BitVec 32) (i : grid0.Coords) : Bare (F := F) T i ↔ entry T (i 0).val (point_lt i) = 0#32 := by
  unfold Bare
  rw [wordB_eq T _ _ _ (point_lt i) (off4_eq i)]
  exact (bit_word _).trans (bit_eq _ _)

/-- Row counts that are not negative. -/
def Counts (T : S162.Idx → BitVec 32) : Prop := ∀ n h, 0 ≤ (entry T n h).toInt

/-- Experts between 0 and 31. -/
def Chosen (T : S162.Idx → BitVec 32) : Prop := ∀ n h, (entry T n h).toNat < 32

theorem not_bare_of_held (T : S162.Idx → BitVec 32) (i : grid0.Coords) (h : Held (F := F) T i) : ¬ Bare (F := F) T i := by
  rw [held_iff] at h
  rw [bare_iff]
  intro e
  rw [e] at h
  exact absurd h (by decide)

theorem bare_of_not_held (T : S162.Idx → BitVec 32) (hT : Counts T) (i : grid0.Coords) (h : ¬ Held (F := F) T i) : Bare (F := F) T i := by
  rw [held_iff] at h
  rw [bare_iff]
  have h0 := hT _ (point_lt i)
  exact BitVec.eq_of_toInt_eq (by rw [show (0#32 : BitVec 32).toInt = 0 from by decide]; omega)

end Experts
end
-- ==== Proof.Experts.Blocks.lean ====
/-
  The pipeline at the tables the memory holds, and the block each window stages at a point.
-/
module
public import proofs.«01_k».proof.Proof.Experts.Words

@[expose] public section

set_option maxRecDepth 16384

noncomputable section

namespace Experts

open Cert.ExpertsIdeal Cert.ExpertsIdeal.Gen
open Idealize.ShloMosaic Idealize.ShloMosaic.TcCoe Idealize.ShloMosaic.Tactic
open Idealize.ShloMosaic.ValueIdx (ix1 ix2 ix3)

variable {F : FTy → Type} [FloatOps F]

/-! ## The index maps that read the table -/

theorem expert_ix1 (pf : pre0.Contents (Elt F)) (i : grid0.Coords) :
    cc0_transform_1 k0_off1_inb numel1_S1 pf i = ![(entry (pf 0) (i 0).val (point_lt i)).toNat, 0, 0] := by
  rw [← wordA_eq (F := F) (pf 0) (k0_off1 i) (k0_off1_inb i) _ (point_lt i) (off1_eq i)]
  rfl

theorem expert_ix2 (pf : pre0.Contents (Elt F)) (i : grid0.Coords) :
    cc0_transform_2 k0_off1_inb numel1_S1 pf i = ![(entry (pf 0) (i 0).val (point_lt i)).toNat, 0, 0] := expert_ix1 pf i

theorem expert_ix3 (pf : pre0.Contents (Elt F)) (i : grid0.Coords) :
    cc0_transform_3 k0_off1_inb numel1_S1 pf i = ![(entry (pf 0) (i 0).val (point_lt i)).toNat, 0, 0] := expert_ix1 pf i

theorem expert_ix4 (pf : pre0.Contents (Elt F)) (i : grid0.Coords) :
    cc0_transform_4 k0_off1_inb numel1_S1 pf i = ![(entry (pf 0) (i 0).val (point_lt i)).toNat, 0, 0] := expert_ix1 pf i

/-- A block of one matrix, inside a stack of 32. -/
theorem stack_inb (e a b : ℕ) (he : e < 32) : ∀ k : Fin 3, ((![e, 0, 0] : Fin 3 → ℕ) k + 1) * (![1, a, b] : Fin 3 → ℕ) k ≤ (![32, a, b] : Fin 3 → ℕ) k
  | ⟨0, _⟩ => by show (e + 1) * 1 ≤ 32; omega
  | ⟨1, _⟩ => by show (0 + 1) * a ≤ a; omega
  | ⟨2, _⟩ => by show (0 + 1) * b ≤ b; omega

/-- With experts between 0 and 31 every block lies in its array. -/
theorem ok_of_chosen (pf : pre0.Contents (Elt F)) (h : Chosen (pf 0)) : ok0 pf :=
  ⟨fun i => ⟨by rw [expert_ix1]; exact stack_inb _ 1024 2048 (h _ _), .inl rfl⟩,
    fun i => ⟨by rw [expert_ix2]; exact stack_inb _ 1 2048 (h _ _), .inl rfl⟩,
    fun i => ⟨by rw [expert_ix3]; exact stack_inb _ 1024 1024 (h _ _), .inl rfl⟩,
    fun i => ⟨by rw [expert_ix4]; exact stack_inb _ 1 1024 (h _ _), .inl rfl⟩⟩

/-! ## The memory's tables -/

variable (m : (l : Loc nD τ sig) → Buf (Elt F) l)

/-- The two tables the memory holds. -/
def tile : S162.Idx → BitVec 32 := m (((0 : Dev nD) : Thread nD τ).loc main_arg1)
def rows : S162.Idx → BitVec 32 := m (((0 : Dev nD) : Thread nD τ).loc main_arg2)

/-- The tables are an expert for each tile and a number of rows. -/
structure Good : Prop where
  chosen : Chosen (tile m)
  counts : Counts (rows m)

/-- The tables as the pipeline reads them. -/
def tabs : pre0.Contents (Elt F) := fun | ⟨0, _⟩ => tile m | ⟨1, _⟩ => rows m | ⟨_ + 2, h⟩ => absurd h (by simp)

variable {m} (g : Good m)

def adm : (pcfg0 (F := F)).Adm := ⟨tabs m, ok_of_chosen _ g.chosen⟩
abbrev cfgA : Pipeline.Cfg sig Λ₀ := cfg0 (F := F) (adm g)
abbrev pcs : Fin 1 → Pipeline.Cfg sig Λ₀ := Pipeline.pin (pcfgs (F := F)) fun _ => adm g

/-- A point's coordinates. -/
abbrev crd (t : Fin (cfgA g).N) : grid0.Coords := (cfgA g).grid.coords t

theorem crd_val : ∀ t : Fin grid0.N, (grid0.coords t 0).val = t.val := by decide +kernel

theorem one_dev (c : Dev nD) : c = 0 := Subsingleton.elim _ _

/-- Window `w`'s block at point `t`. -/
def iblk (c : Dev nD) (w : Fin (cfgA g).W) (t : Fin (cfgA g).N) : (((cfgA g).win w).xblock (crd g t)).Idx → Elt F ((cfgA g).win w).elt :=
  (((cfgA g).win w).blk t).view.read (Elt F) (m (((cfgA g).win w).arr.view.loc (c : Thread nD τ)))

/-- The expert of a point. -/
def expert (t : Fin (cfgA g).N) : Fin 32 := ⟨(entry (tile m) (crd g t 0).val (point_lt _)).toNat, g.chosen _ _⟩

theorem block0 (c : Dev nD) (t : Fin (cfgA g).N) (y : S512x8x128.Idx) : iblk g c (0 : Fin 6) t y
    = m ((c : Thread nD τ).loc main_arg0) (ix3 ⟨512 * (crd g t 0).val + (y 0).val, by have := point_lt (crd g t); have : (y 0).val < 512 := (y 0).isLt; omega⟩ (y 1) (y 2)) := by
  unfold iblk
  show m _ _ = m _ _
  congr 1
  funext a
  have e : cc0_transform_0 (crd g t) = ![(crd g t 0).val, 0, 0] := off_tile _
  match a with
  | ⟨0, _⟩ => exact Fin.ext (by show cc0_transform_0 (crd g t) 0 * 512 + 1 * (y 0).val = _; rw [e]; show (crd g t 0).val * 512 + 1 * (y 0).val = 512 * (crd g t 0).val + (y 0).val; omega)
  | ⟨1, _⟩ => exact Fin.ext (by show cc0_transform_0 (crd g t) 1 * 8 + 1 * (y 1).val = _; rw [e]; show 0 * 8 + 1 * (y 1).val = (y 1).val; omega)
  | ⟨2, _⟩ => exact Fin.ext (by show cc0_transform_0 (crd g t) 2 * 128 + 1 * (y 2).val = _; rw [e]; show 0 * 128 + 1 * (y 2).val = (y 2).val; omega)

/-- An element of a block of one matrix, in the stack of 32. -/
theorem stack_emb {a b : ℕ} (f : Fin 3 → ℕ) (e : Fin 32) (hf : f = ![e.val, 0, 0]) (y : (⟨3, ![1, a, b]⟩ : Shape).Idx)
    (z : (⟨3, ![32, a, b]⟩ : Shape).Idx) (hz : ∀ k : Fin 3, (z k).val = f k * (![1, a, b] : Fin 3 → ℕ) k + 1 * (y k).val) :
    z = ix3 e (y 1) (y 2) := by
  subst hf
  have h0 : (y 0).val < 1 := (y 0).isLt
  funext k
  match k with
  | ⟨0, _⟩ => exact Fin.ext ((hz 0).trans (by show e.val * 1 + 1 * (y 0).val = e.val; omega))
  | ⟨1, _⟩ => exact Fin.ext ((hz 1).trans (by show 0 * a + 1 * (y 1).val = (y 1).val; omega))
  | ⟨2, _⟩ => exact Fin.ext ((hz 2).trans (by show 0 * b + 1 * (y 2).val = (y 2).val; omega))

/-- The weights' and biases' blocks are the expert's. -/
theorem block1 (c : Dev nD) (t : Fin (cfgA g).N) (y : S1x1024x2048.Idx) : iblk g c (1 : Fin 6) t y
    = m ((c : Thread nD τ).loc main_arg3) (ix3 (expert g t) (y 1) (y 2)) :=
  congrArg (m ((c : Thread nD τ).loc main_arg3)) (stack_emb _ _ (expert_ix1 (tabs m) (crd g t)) y _ fun _ => rfl)

theorem block2 (c : Dev nD) (t : Fin (cfgA g).N) (y : S1x1x2048.Idx) : iblk g c (2 : Fin 6) t y
    = m ((c : Thread nD τ).loc main_arg4) (ix3 (expert g t) (y 1) (y 2)) :=
  congrArg (m ((c : Thread nD τ).loc main_arg4)) (stack_emb _ _ (expert_ix2 (tabs m) (crd g t)) y _ fun _ => rfl)

theorem block3 (c : Dev nD) (t : Fin (cfgA g).N) (y : S1x1024x1024.Idx) : iblk g c (3 : Fin 6) t y
    = m ((c : Thread nD τ).loc main_arg5) (ix3 (expert g t) (y 1) (y 2)) :=
  congrArg (m ((c : Thread nD τ).loc main_arg5)) (stack_emb _ _ (expert_ix3 (tabs m) (crd g t)) y _ fun _ => rfl)

theorem block4 (c : Dev nD) (t : Fin (cfgA g).N) (y : S1x1x1024.Idx) : iblk g c (4 : Fin 6) t y
    = m ((c : Thread nD τ).loc main_arg6) (ix3 (expert g t) (y 1) (y 2)) :=
  congrArg (m ((c : Thread nD τ).loc main_arg6)) (stack_emb _ _ (expert_ix4 (tabs m) (crd g t)) y _ fun _ => rfl)

/-! ## What a point computes with -/

/-- The tile, the biases and the rounded weights of a point, at their literal types. -/
def xT (c : Dev nD) (t : Fin (cfgA g).N) : S512x8x128.Idx → Elt F .bf16 := iblk g c (0 : Fin 6) t
def wU (c : Dev nD) (t : Fin (cfgA g).N) : S1x1024x2048.Idx → Elt F .f32 := iblk g c (1 : Fin 6) t
def bU (c : Dev nD) (t : Fin (cfgA g).N) : S1x1x2048.Idx → Elt F .f32 := iblk g c (2 : Fin 6) t
def wD (c : Dev nD) (t : Fin (cfgA g).N) : S1x1024x1024.Idx → Elt F .f32 := iblk g c (3 : Fin 6) t
def bD (c : Dev nD) (t : Fin (cfgA g).N) : S1x1x1024.Idx → Elt F .f32 := iblk g c (4 : Fin 6) t

/-- What a point leaves in the result: its own weights' block. -/
def outT (c : Dev nD) (t : Fin (cfgA g).N) : S512x1024.Idx → Elt F .f32 :=
  left (rows m) (crd g t) (xT g c t) (bU g c t) (bD g c t) (k0_pay1 (wU g c t)) (k0_pay2 (wD g c t))

/-- The point before. -/
abbrev before (t : Fin (cfgA g).N) : Fin (cfgA g).N := ⟨t.val - 1, by omega⟩

/-- Without a reload the expert is the point before's. -/
theorem expert_before (t : Fin (cfgA g).N) (h : ¬ Fresh (F := F) (tile m) (crd g t)) : t.val ≠ 0 ∧ expert g t = expert g (before g t) := by
  obtain ⟨h0, he⟩ := not_fresh _ _ h
  have e : (crd g t 0).val = t.val := crd_val t
  have e' : (crd g (before g t) 0).val = t.val - 1 := crd_val (before g t)
  refine ⟨by omega, Fin.ext ?_⟩
  show (entry _ _ _).toNat = (entry _ _ _).toNat
  rw [he]
  simp only [e, e']

theorem wU_before (c : Dev nD) (t : Fin (cfgA g).N) (h : ¬ Fresh (F := F) (tile m) (crd g t)) : wU g c t = wU g c (before g t) := by
  funext y
  exact (block1 g c t y).trans ((congrArg (fun e => m ((c : Thread nD τ).loc main_arg3) (ix3 e (y 1) (y 2))) (expert_before g t h).2).trans (block1 g c (before g t) y).symm)

theorem wD_before (c : Dev nD) (t : Fin (cfgA g).N) (h : ¬ Fresh (F := F) (tile m) (crd g t)) : wD g c t = wD g c (before g t) := by
  funext y
  exact (block3 g c t y).trans ((congrArg (fun e => m ((c : Thread nD τ).loc main_arg5) (ix3 e (y 1) (y 2))) (expert_before g t h).2).trans (block3 g c (before g t) y).symm)

/-- What the weight buffers hold before a point. -/
def Kept (c : Dev nD) (n : ℕ) (a0 : S1024x2048.Idx → Elt F .bf16) (a1 : S1024x1024.Idx → Elt F .bf16) : Prop :=
  ∀ h : n - 1 < (cfgA g).N, n ≠ 0 → a0 = k0_pay1 (wU g c ⟨n - 1, h⟩) ∧ a1 = k0_pay2 (wD g c ⟨n - 1, h⟩)

/-- The point computes with its own expert's weights, loaded there or kept. -/
theorem up_now (c : Dev nD) (t : Fin (cfgA g).N) (a0 : S1024x2048.Idx → Elt F .bf16) (a1 : S1024x1024.Idx → Elt F .bf16)
    (h : Kept g c t.val a0 a1) : upOf (tile m) (crd g t) (wU g c t) a0 = k0_pay1 (wU g c t) := by
  unfold upOf
  split
  · rfl
  · rename_i hf
    rw [wU_before g c t hf]
    exact (h _ (expert_before g t hf).1).1

theorem down_now (c : Dev nD) (t : Fin (cfgA g).N) (a0 : S1024x2048.Idx → Elt F .bf16) (a1 : S1024x1024.Idx → Elt F .bf16)
    (h : Kept g c t.val a0 a1) : downOf (tile m) (crd g t) (wD g c t) a1 = k0_pay2 (wD g c t) := by
  unfold downOf
  split
  · rfl
  · rename_i hf
    rw [wD_before g c t hf]
    exact (h _ (expert_before g t hf).1).2

theorem kept_next (c : Dev nD) (t : Fin (cfgA g).N) : Kept g c (t.val + 1) (k0_pay1 (wU g c t)) (k0_pay2 (wD g c t)) :=
  fun _ _ => ⟨rfl, rfl⟩

end Experts
end
-- ==== Proof.Experts.Frame.lean ====
/-
  The experts' run: the proof data of the pipeline, its body at every point, and the launch.
-/
module
public import proofs.«01_k».proof.Proof.Experts.Blocks

@[expose] public section

set_option maxRecDepth 16384
set_option Elab.async false

noncomputable section

namespace Experts

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

abbrev EP : Emb (UR sig nD τ) 𝕄 := emb₁

variable {m : (l : Loc nD τ sig) → Buf (Elt F) l} (g : Good m)

/-- The staging buffers at a point. -/
abbrev st0 (t : Fin (cfgA g).N) : Memref sig .tc .vmem S512x8x128 .bf16 := spec0_0.stage ((cfgA g).slots t (0 : Fin 6))
abbrev hst0 (t : Fin (cfgA g).N) : (st0 g t).IsWhole := hstage0_0 (((cfgA g).slots t (0 : Fin 6)).cast nbuf0_0)
abbrev st1 (t : Fin (cfgA g).N) : Memref sig .tc .vmem S1x1024x2048 .f32 := spec0_1.stage ((cfgA g).slots t (1 : Fin 6))
abbrev hst1 (t : Fin (cfgA g).N) : (st1 g t).IsWhole := hstage0_1 (((cfgA g).slots t (1 : Fin 6)).cast nbuf0_1)
abbrev st2 (t : Fin (cfgA g).N) : Memref sig .tc .vmem S1x1x2048 .f32 := spec0_2.stage ((cfgA g).slots t (2 : Fin 6))
abbrev hst2 (t : Fin (cfgA g).N) : (st2 g t).IsWhole := hstage0_2 (((cfgA g).slots t (2 : Fin 6)).cast nbuf0_2)
abbrev st3 (t : Fin (cfgA g).N) : Memref sig .tc .vmem S1x1024x1024 .f32 := spec0_3.stage ((cfgA g).slots t (3 : Fin 6))
abbrev hst3 (t : Fin (cfgA g).N) : (st3 g t).IsWhole := hstage0_3 (((cfgA g).slots t (3 : Fin 6)).cast nbuf0_3)
abbrev st4 (t : Fin (cfgA g).N) : Memref sig .tc .vmem S1x1x1024 .f32 := spec0_4.stage ((cfgA g).slots t (4 : Fin 6))
abbrev hst4 (t : Fin (cfgA g).N) : (st4 g t).IsWhole := hstage0_4 (((cfgA g).slots t (4 : Fin 6)).cast nbuf0_4)
abbrev st5 (t : Fin (cfgA g).N) : Memref sig .tc .vmem S512x1024 .f32 := spec0_5.stage ((cfgA g).slots t (5 : Fin 6))
abbrev hst5 (t : Fin (cfgA g).N) : (st5 g t).IsWhole := hstage0_5 (((cfgA g).slots t (5 : Fin 6)).cast nbuf0_5)

/-! ## The result's window: stored, and written back, at every point -/

/-- What the pipeline takes for the row count at an offset is what the body reads there. -/
theorem atD_rows (i : grid0.Coords) (off : Fin 1 → ℕ) (h : ∀ a, off a + S1.size a ≤ S162.size a) (pf : pre0.Contents (Elt F))
    (e : off = ![(i 0).val]) : pf.atD 1 off = wordB (F := F) (pf 1) off h := by
  rw [wordB_eq (F := F) (pf 1) off h _ (point_lt i) e]
  subst e
  have hb : ∀ a, (![(i 0).val] : Fin 1 → ℕ) a + 1 ≤ S162.size a := fun a => match a with | ⟨0, _⟩ => point_lt i
  refine (dif_pos hb).trans ?_
  refine congrArg (pf 1) (funext fun a => ?_)
  match a with
  | ⟨0, _⟩ => rfl

theorem out_live (t : Fin (cfgA g).N) : (cfgA g).idle (5 : Fin 6) ((cfgA g).grid.coords t) = false := by
  show (!(k0_cond2 ((tabs m).atD 1 (k0_off3 (crd g t))) == 1#1) && !(k0_cond3 ((tabs m).atD 1 (k0_off4 (crd g t))) == 1#1)) = false
  have e3 : (tabs m).atD 1 (k0_off3 (crd g t)) = wordB (F := F) (rows m) (k0_off3 (crd g t)) (k0_off3_inb _) := atD_rows _ _ _ _ (off3_eq _)
  have e4 : (tabs m).atD 1 (k0_off4 (crd g t)) = wordB (F := F) (rows m) (k0_off4 (crd g t)) (k0_off4_inb _) := atD_rows _ _ _ _ (off4_eq _)
  rw [e3, e4]
  by_cases h : Held (F := F) (rows m) (crd g t)
  · rw [show k0_cond2 (wordB (F := F) (rows m) (k0_off3 (crd g t)) (k0_off3_inb _)) = 1#1 from h]; rfl
  · rw [show k0_cond3 (wordB (F := F) (rows m) (k0_off4 (crd g t)) (k0_off4_inb _)) = 1#1 from bare_of_not_held _ g.counts _ h]
    exact Bool.and_false _

theorem out_flush (t : Fin (cfgA g).N) : ((cfgA g).win (5 : Fin 6)).flush t = true := by
  have ht : t.val < grid0.N := t.isLt
  show (true && (decide (t.val + 1 = grid0.N) || decide (∃ h : t.val + 1 < grid0.N, cc0_transform_5 (grid0.coords ⟨t.val + 1, h⟩) ≠ cc0_transform_5 (grid0.coords t)))) = true
  rw [Bool.true_and, Bool.or_eq_true, decide_eq_true_iff, decide_eq_true_iff]
  by_cases e : t.val + 1 = grid0.N
  · exact Or.inl e
  · refine Or.inr ⟨by omega, fun h => ?_⟩
    rw [off_out, off_out] at h
    have h1 := congrFun h 0
    have e1 : (grid0.coords ⟨t.val + 1, by omega⟩ 0).val = t.val + 1 := crd_val _
    have e2 : (grid0.coords t 0).val = t.val := crd_val t
    have h2 : (grid0.coords ⟨t.val + 1, by omega⟩ 0).val = (grid0.coords t 0).val := h1
    omega

/-! ## The proof data -/

/-- Before point `t`: the weight buffers hold the weights of the point before, and the body has its half of the tables. -/
def Phi (c : Dev nD) (t : Fin ((cfgA g).N + 1)) : sProp 𝕄 :=
  iprop((∃ a0 a1, ⌜Kept g c t.val a0 a1⌝ ∗ (upM.view.loc (c : Thread nD τ) ↦{fullShare} a0) ∗ (downM.view.loc (c : Thread nD τ) ↦{fullShare} a1))
    ∗ (tileM.view.loc (c : Thread nD τ) ↦{fullShare.right} tile m) ∗ (rowsM.view.loc (c : Thread nD τ) ↦{fullShare.right} rows m))

def dats (_ : Fin 1) (c : Dev nD) : Dat τ (Elt F) Unit ℕ (UR sig nD τ) ℕ (cfgA g) c where
  A w := m (((cfgA g).win w).arr.view.loc (c : Thread nD τ))
  after w t := match w with
    | ⟨0, _⟩ => xT g c t
    | ⟨1, _⟩ => wU g c t
    | ⟨2, _⟩ => bU g c t
    | ⟨3, _⟩ => wD g c t
    | ⟨4, _⟩ => bD g c t
    | ⟨5, _⟩ => outT g c t
  Φ t := Phi g c t
  q _ := fullShare
  owed _ := 0

theorem staged0 (c : Dev nD) (t : Fin (cfgA g).N) (d) : (dats g 0 c).before (0 : Fin 6) t d = xT g c t :=
  ((dats g 0 c).before_in_eq_fetched (0 : Fin 6) rfl (fun _ => rfl) (fun _ _ _ => rfl) (fun t => by unfold Dat.blockOf; rfl) t d).trans
    (by unfold Dat.fetched Dat.blockOf; rfl)

theorem staged1 (c : Dev nD) (t : Fin (cfgA g).N) (d) : (dats g 0 c).before (1 : Fin 6) t d = wU g c t :=
  ((dats g 0 c).before_in_eq_fetched (1 : Fin 6) rfl (fun _ => rfl) (fun _ _ _ => rfl) (fun t => by unfold Dat.blockOf; rfl) t d).trans
    (by unfold Dat.fetched Dat.blockOf; rfl)

theorem staged2 (c : Dev nD) (t : Fin (cfgA g).N) (d) : (dats g 0 c).before (2 : Fin 6) t d = bU g c t :=
  ((dats g 0 c).before_in_eq_fetched (2 : Fin 6) rfl (fun _ => rfl) (fun _ _ _ => rfl) (fun t => by unfold Dat.blockOf; rfl) t d).trans
    (by unfold Dat.fetched Dat.blockOf; rfl)

theorem staged3 (c : Dev nD) (t : Fin (cfgA g).N) (d) : (dats g 0 c).before (3 : Fin 6) t d = wD g c t :=
  ((dats g 0 c).before_in_eq_fetched (3 : Fin 6) rfl (fun _ => rfl) (fun _ _ _ => rfl) (fun t => by unfold Dat.blockOf; rfl) t d).trans
    (by unfold Dat.fetched Dat.blockOf; rfl)

theorem staged4 (c : Dev nD) (t : Fin (cfgA g).N) (d) : (dats g 0 c).before (4 : Fin 6) t d = bD g c t :=
  ((dats g 0 c).before_in_eq_fetched (4 : Fin 6) rfl (fun _ => rfl) (fun _ _ _ => rfl) (fun t => by unfold Dat.blockOf; rfl) t d).trans
    (by unfold Dat.fetched Dat.blockOf; rfl)

/-- The body at point `t`, as the pipeline calls it. -/
abbrev bodyAt (t : Fin (cfgA g).N) : Prog (TpuEff nD τ sig (Elt F) Λ₀ .tc) PUnit :=
  cc0_experts (crd g t) tileM (Memref.isWhole_whole _) rowsM (Memref.isWhole_whole _) (st0 g t) (hst0 g t) (st1 g t) (hst1 g t) (st2 g t) (hst2 g t) (st3 g t) (hst3 g t) (st4 g t) (hst4 g t) (st5 g t) (hst5 g t) upM (Memref.isWhole_whole _) downM (Memref.isWhole_whole _)

set_option maxHeartbeats 4000000 in
/-- The body at point `t` keeps the invariant and leaves the point's block. -/
theorem sound_body (c : Dev nD) (t : Fin (cfgA g).N) :
    iprop((dats g 0 c).Φ t.castSucc ∗ (dats g 0 c).owesAt () t.castSucc
        ∗ (∃ d, owns (c : Thread nD τ) (st0 g t) fullShare ((dats g 0 c).before (0 : Fin 6) t d))
        ∗ (∃ d, owns (c : Thread nD τ) (st1 g t) fullShare ((dats g 0 c).before (1 : Fin 6) t d))
        ∗ (∃ d, owns (c : Thread nD τ) (st2 g t) fullShare ((dats g 0 c).before (2 : Fin 6) t d))
        ∗ (∃ d, owns (c : Thread nD τ) (st3 g t) fullShare ((dats g 0 c).before (3 : Fin 6) t d))
        ∗ (∃ d, owns (c : Thread nD τ) (st4 g t) fullShare ((dats g 0 c).before (4 : Fin 6) t d))
        ∗ (∃ d, owns (c : Thread nD τ) (st5 g t) fullShare ((dats g 0 c).before (5 : Fin 6) t d)))
      ⊢ wp frame (wpE (defs₀ (F := F)) Variants.none c none) Set.univ (bodyAt g t) fun _ =>
          iprop((dats g 0 c).Φ t.succ ∗ (dats g 0 c).owesAt () t.succ
            ∗ bigSep Finset.univ fun w : Fin (cfgA g).W =>
                match (cfgA g).idle w ((cfgA g).grid.coords t) with
                | true =>
                  match ((cfgA g).win w).flush t with
                  | false => iprop(∃ d, owns (c : Thread nD τ) (((cfgA g).win w).stage ((cfgA g).slots t w)) fullShare ((dats g 0 c).before w t d))
                  | true => owns (c : Thread nD τ) (((cfgA g).win w).stage ((cfgA g).slots t w)) fullShare ((dats g 0 c).after w t)
                | false => owns (c : Thread nD τ) (((cfgA g).win w).stage ((cfgA g).slots t w)) fullShare ((dats g 0 c).after w t)) := by
  rw [bigSep_W0]
  rewrite [out_live g t]
  simp only [staged0, staged1, staged2, staged3, staged4]
  rewrite [show (dats g 0 c).Φ t.succ = Phi g c t.succ from rfl, show (dats g 0 c).Φ t.castSucc = Phi g c t.castSucc from rfl,
    show (dats g 0 c).owesAt () t.succ = (dats g 0 c).owesAt () t.castSucc from rfl]
  unfold Phi
  iintro ⟨⟨⟨%a0, %a1, %hk, HS0, HS1⟩, HT0, HT1⟩, Ho, ⟨%d0, H0⟩, ⟨%d1, H1⟩, ⟨%d2, H2⟩, ⟨%d3, H3⟩, ⟨%d4, H4⟩, ⟨%d5, H5⟩⟩
  iapply (body_run c (crd g t) (st0 g t) (hst0 g t) (st1 g t) (hst1 g t) (st2 g t) (hst2 g t) (st3 g t) (hst3 g t) (st4 g t) (hst4 g t) (st5 g t) (hst5 g t) (tile m) (rows m) (xT g c t) (wU g c t) (bU g c t) (wD g c t) (bD g c t) a0 a1
    (not_bare_of_held _ _) (bare_of_not_held _ g.counts _) _)
  rw [up_now g c t a0 a1 hk, down_now g c t a0 a1 hk]
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [H5]; · iexists _; iexact H5
  isplitl [HS0]; · iexact HS0
  isplitl [HS1]; · iexact HS1
  iintro ⟨H0, H1, H2, H3, H4, HT0, HT1, H5, HS0, HS1⟩
  isplitl [HS0 HS1 HT0 HT1]
  · isplitl [HS0 HS1]
    · iexists _; iexists _
      isplitr; swap
      · isplitl [HS0]
        · iexact HS0
        iexact HS1
      · ipureintro; exact kept_next g c t
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  iexact H5

theorem body_obligation (c : Dev nD) : BodyObligation (dats g 0 c) (defs₀ (F := F)) Variants.none () Set.univ := fun t => by
  rw [bigSep_W0]
  exact sound_body g c t

/-! ## The launch -/

/-- The launch element of the pipeline's transfers. -/
def u₀ : UR sig nD τ :=
  initOf (Pipeline.cells (pcs g) ((launch0 (F := F)).cellOf_inj fun _ => adm g))
    (Pipeline.launchToks (pcs g) ((launch0 (F := F)).cellOf_inj fun _ => adm g))

theorem share_eq (c : Dev nD) (w : Fin (cfgA g).W) : (dats g 0 c).share w = fullShare := by unfold Dat.share; split <;> rfl

/-- The two tables, one by one. -/
theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide, bigSep_insert (by decide), bigSep_singleton]
  rfl

/-- The invariant at the first point. -/
theorem phi_first (c : Dev nD) :
    iprop(BI.emp ∗ Pipeline.prefHeld pre0 c (fun _ => fullShare.right) (adm g).1 ∗ Pipeline.scopedRest spec0 c) ⊢ (dats g 0 c).Φ 0 := by
  rw [tables_held, scopedRest0_eq, show (dats g 0 c).Φ 0 = Phi g c 0 from rfl]
  unfold Phi
  iintro ⟨-, ⟨HT0, HT1⟩, ⟨%a0, HS0⟩, ⟨%a1, HS1⟩⟩
  isplitl [HS0 HS1]
  · iexists a0; iexists a1
    isplitr; swap
    · isplitl [HS0]
      · iexact HS0
      iexact HS1
    · ipureintro; exact fun _ h => absurd rfl h
  isplitl [HT0]
  · iexact HT0
  iexact HT1

/-- The weight buffers given back at the last. -/
theorem phi_last (c : Dev nD) : (dats g 0 c).Φ (Fin.last (cfgA g).N) ⊢ iprop(BI.emp ∗ Pipeline.scopedRest spec0 c) := by
  rw [scopedRest0_eq, show (dats g 0 c).Φ (Fin.last (cfgA g).N) = Phi g c (Fin.last _) from rfl]
  unfold Phi
  iintro ⟨⟨%a0, %a1, -, HS0, HS1⟩, -, -⟩
  isplitr; · iempintro
  isplitl [HS0]
  · iexists a0; iexact HS0
  iexists a1; iexact HS1

/-- Every array at what the points wrote back, every table as it was. -/
def Ends (r : PUnit × MemSt nD τ sig (Elt F)) : Prop :=
  ∀ c : Dev nD, (∀ w : Fin (cfgA g).W, r.2.mem (((cfgA g).win w).arr.view.loc (c : Thread nD τ)) = (dats g 0 c).arrAt w (cfgA g).N)
    ∧ ∀ j, r.2.mem ((c : Thread nD τ).loc (pre0.ref j)) = (adm g).1 j

theorem table_mem (c : Dev nD) (j : Fin 2) : m ((c : Thread nD τ).loc (pre0.ref j)) = (adm g).1 j := by
  rw [one_dev c]
  fin_cases j <;> rfl

set_option backward.isDefEq.respectTransparency.types false in
set_option maxHeartbeats 4000000 in
/-- Every run terminates without a fault, with the arrays as computed and every semaphore at zero. -/
theorem run_ends (ρ : Dev nD → PrngReg) : θ_run (defs (F := F)) (onTc (τ := τ) (main (F := F))) ⟨m, fun _ => 0, ρ⟩ (fun r => Ends g r ∧ r.2.sem = fun _ => 0) :=
  Pipeline.θ_run_region_noSem_pf_quiescent pcfgs (fun _ => adm g) (dats g) () ((launch0 (F := F)).cellOf_inj fun _ => adm g) (0 : Fin 1)
    (launch0 (F := F)).win.to₀ (launch0 (F := F)).pre EP defs₀ Variants.none m ρ main
    (hbody := fun c => (body_obligation g c).loose) (hne := (launch0 (F := F)).block_pos)
    (harr := (launch0 (F := F)).arr_whole) (hstage := (launch0 (F := F)).stage_whole) (howed := fun _ _ => rfl)
    (u₀ := u₀ g) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs g) (dats g) 0 (launch0 (F := F)).win.arr_inj c (launch0 (F := F)).arr_whole
      (share_eq g c) _ _ fun _ => rfl)
    (hpf := table_mem g)
    (X := fun _ => iprop(emp)) (Y := fun _ => iprop(emp)) (Z := fun _ => iprop(emp))
    (hX := fun c => by rw [unscopedRestP0_eq]; iintro -; isplitr <;> iempintro)
    (hin := phi_first g)
    (hout := phi_last g)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments are as they were. -/
def Same (m : (l : Loc nD τ sig) → Buf (Elt F) l) (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)

theorem same_of_ends (r : PUnit × MemSt nD τ sig (Elt F)) (h : Ends g r) (c : Dev nD) : Same m r c :=
  ⟨((h c).1 (0 : Fin 6)).trans ((dats g 0 c).arrAt_in (0 : Fin 6) rfl _), ((h c).2 0).trans (table_mem g c 0).symm,
    ((h c).2 1).trans (table_mem g c 1).symm, ((h c).1 (1 : Fin 6)).trans ((dats g 0 c).arrAt_in (1 : Fin 6) rfl _),
    ((h c).1 (2 : Fin 6)).trans ((dats g 0 c).arrAt_in (2 : Fin 6) rfl _), ((h c).1 (3 : Fin 6)).trans ((dats g 0 c).arrAt_in (3 : Fin 6) rfl _),
    ((h c).1 (4 : Fin 6)).trans ((dats g 0 c).arrAt_in (4 : Fin 6) rfl _)⟩

/-- The frame: from a memory whose tables are good, every run ends with the arguments as they were and every semaphore at zero. -/
theorem frame (g : Good m) (ρ : Dev nD → PrngReg) : θ_run (defs (F := F)) (onTc (τ := τ) (main (F := F))) ⟨m, fun _ => 0, ρ⟩ (fun r => (∀ c, Same m r c) ∧ r.2.sem = fun _ => 0) :=
  (θ_run _ _ _).mono (fun r h => ⟨same_of_ends g r h.1, h.2⟩) (run_ends g ρ)

end Experts
end
-- ==== Proof.Experts.Given.lean ====
/-
  From the two tables' precondition to `Good`: each tile names one of the 32 experts and holds no negative number of rows.
  And the frames of both printed programs, the machine's and the ideal one, which are the same text.
-/
module
public import proofs.«01_k».proof.Proof.Experts.Frame
public import proofs.«01_k».proof.Proof.Gen.Experts
public import proofs.«01_k».proof.Proof.Gen.Pre_tables
public import proofs.«01_k».proof.Defs
public import Idealize.ShloMosaic.Lib.WordCmp

@[expose] public section

set_option maxRecDepth 16384

noncomputable section

open Idealize.ShloMosaic Idealize.SL.Sem
open Idealize.ShloMosaic.ValueIdx (ix1 ix2 ix3)

namespace Experts

/-! ## The precondition -/

/-- A word that is at least zero and below 32, read signed, is below 32. -/
theorem word_lt (w : BitVec 32) (h0 : IntOp.cmpi .sge w 0#32 = 1#1) (h1 : IntOp.cmpi .slt w 32#32 = 1#1) : w.toNat < 32 := by
  have e0 : (0#32).toInt ≤ w.toInt := by
    rw [WordCmp.cmpi_sge_eq] at h0
    by_contra e; rw [decide_eq_false e] at h0; exact absurd h0 (by decide)
  have e1 : w.toInt < (32#32).toInt := by
    rw [WordCmp.cmpi_slt_eq] at h1
    by_contra e; rw [decide_eq_false e] at h1; exact absurd h1 (by decide)
  have e2 := BitVec.toInt_eq_toNat_cond w
  have e3 : (32#32).toInt = 32 := by decide
  have e4 : (0#32).toInt = 0 := by decide
  have := w.isLt
  split at e2 <;> omega

/-- A word that is at least zero, read signed. -/
theorem word_nonneg (w : BitVec 32) (h0 : IntOp.cmpi .sge w 0#32 = 1#1) : 0 ≤ w.toInt := by
  have e0 : (0#32).toInt ≤ w.toInt := by
    rw [WordCmp.cmpi_sge_eq] at h0
    by_contra e; rw [decide_eq_false e] at h0; exact absurd h0 (by decide)
  have e4 : (0#32).toInt = 0 := by decide
  omega

variable {F : FTy → Type} [FloatOps F]

attribute [local instance] Cert.Pre_tables.Gen.facts

/-- What the precondition says of the tile's expert. -/
theorem chosen_of_given (x0 : FVec F Cert.Pre_tables.S82944x8x128 .bf16) (x1 x2 : IVec Cert.Pre_tables.S162 32)
    (x3 : FVec F Cert.Pre_tables.S32x1024x2048 .f32) (x4 : FVec F Cert.Pre_tables.S32x1x2048 .f32) (x5 : FVec F Cert.Pre_tables.S32x1024x1024 .f32) (x6 : FVec F Cert.Pre_tables.S32x1x1024 .f32)
    (h : (Cert.Pre_tables.fn (F := F) x0 x1 x2 x3 x4 x5 x6).1 = (fun _ => 1#1)) (h' : (Cert.Pre_tables.fn (F := F) x0 x1 x2 x3 x4 x5 x6).2.1 = (fun _ => 1#1)) (n : Fin 162) :
    (x1 (ix1 n)).toNat < 32 :=
  word_lt _ (congrFun h (ix1 n)) (congrFun h' (ix1 n))

/-- What it says of the tile's rows. -/
theorem counts_of_given (x0 : FVec F Cert.Pre_tables.S82944x8x128 .bf16) (x1 x2 : IVec Cert.Pre_tables.S162 32)
    (x3 : FVec F Cert.Pre_tables.S32x1024x2048 .f32) (x4 : FVec F Cert.Pre_tables.S32x1x2048 .f32) (x5 : FVec F Cert.Pre_tables.S32x1024x1024 .f32) (x6 : FVec F Cert.Pre_tables.S32x1x1024 .f32)
    (h : (Cert.Pre_tables.fn (F := F) x0 x1 x2 x3 x4 x5 x6).2.2 = (fun _ => 1#1)) (n : Fin 162) : 0 ≤ (x2 (ix1 n)).toInt :=
  word_nonneg _ (congrFun h (ix1 n))

/-- A word of a table, by its index. -/
theorem entry_ix (T : Cert.ExpertsIdeal.S162.Idx → BitVec 32) (n : ℕ) (h : n < 162) : entry T n h = T (ix1 ⟨n, h⟩) :=
  congrArg T (funext fun a => match a with | ⟨0, _⟩ => rfl)

end Experts

namespace Cert.Proof

variable {F : FTy → Type} [FloatOps F]

/-- One grid point's body is the same in both programs. -/
theorem body_same (i) : @Cert.Experts.cc0_experts F _ _ i = @Cert.ExpertsIdeal.cc0_experts F _ _ i := rfl

/-- And so is the table of bodies. -/
theorem bodies_same : @Cert.Experts.defs₀ F _ _ = @Cert.ExpertsIdeal.defs₀ F _ _ := by
  refine congrArg Defs.onTc (funext fun l => funext fun a => ?_)
  match l, a with
  | ⟨0, _⟩, (t, s) => rfl
  | ⟨n + 1, h⟩, _ => exact absurd h (Nat.not_lt.2 (Nat.le_add_left _ _))

theorem defs_same : @Cert.Experts.defs F _ _ = @Cert.ExpertsIdeal.defs F _ _ :=
  congrArg (Pipeline.defs (@Cert.ExpertsIdeal.pcfgs F _ _)) bodies_same

/-- The precondition gives good tables: the machine's program. -/
theorem good_bits (m : (l : Loc Cert.ExpertsIdeal.nD Cert.ExpertsIdeal.τ Cert.ExpertsIdeal.sig) → Buf (Elt Bits) l)
    (h : Cert.Pre_Experts (hPre_tables := Cert.Pre_tables.Gen.facts) m) : Experts.Good m where
  chosen := fun n hn => by
    have e := Experts.chosen_of_given _ _ _ _ _ _ _ (h 0).1 (h 0).2.1 ⟨n, hn⟩
    rwa [Experts.entry_ix]
  counts := fun n hn => by
    have e := Experts.counts_of_given _ _ _ _ _ _ _ (h 0).2.2 ⟨n, hn⟩
    rwa [Experts.entry_ix]

/-- And the ideal one. -/
theorem good_ideal (m : (l : Loc Cert.ExpertsIdeal.nD Cert.ExpertsIdeal.τ Cert.ExpertsIdeal.sig) → Buf (Elt Ideal) l)
    (h : Cert.Pre_ExpertsIdeal (hPre_tables := Cert.Pre_tables.Gen.facts) m) : Experts.Good m where
  chosen := fun n hn => by
    have e := Experts.chosen_of_given _ _ _ _ _ _ _ (h 0).1 (h 0).2.1 ⟨n, hn⟩
    rwa [Experts.entry_ix]
  counts := fun n hn => by
    have e := Experts.counts_of_given _ _ _ _ _ _ _ (h 0).2.2 ⟨n, hn⟩
    rwa [Experts.entry_ix]

/-- The experts' frame, on the machine. -/
theorem experts_frame : Cert.quiescent_Experts (hExperts := Cert.Experts.Gen.facts) (hPre_tables := Cert.Pre_tables.Gen.facts) := by
  intro m ρ h
  rw [defs_same]
  exact Experts.frame (good_bits m h) ρ

/-- The experts' frame, ideal. -/
theorem experts_ideal_frame : Cert.quiescent_ExpertsIdeal (hExpertsIdeal := Cert.ExpertsIdeal.Gen.facts) (hPre_tables := Cert.Pre_tables.Gen.facts) :=
  fun m ρ h => Experts.frame (good_ideal m h) ρ

end Cert.Proof

end
-- ==== Proof.Experts.Gate.lean ====
/-
  One row through one expert, as a formula: the up-projection, the clipped gated unit, the down-projection.
-/
module
public import Idealize.ShloMosaic.PureOps
public import Idealize.ShloMosaic.Lib.IdealHost

@[expose] public section

noncomputable section

namespace Experts

open Idealize.ShloMosaic

/-- The gated unit of a gate `a` and a linear part `b`: with `g = min a 7` it is `g · logistic (1.702 g) · (min 7 (max (-7) b) + 1)`. -/
def gate (a b : EReal) : EReal :=
  min a (Ideal.ofBits .f32 0x40E00000#32)
    * Ideal.logistic (Ideal.ofBits .f32 0x3FD9DB23#32 * min a (Ideal.ofBits .f32 0x40E00000#32))
    * (min (Ideal.ofBits .f32 0x40E00000#32) (max (Ideal.ofBits .f32 0xC0E00000#32) b) + 1)

/-- Column `f` of a row's up-projection. -/
def up (x : Fin 1024 → EReal) (w : Fin 1024 → Fin 2048 → EReal) (b : Fin 2048 → EReal) (f : Fin 2048) : EReal :=
  (∑ d : Fin 1024, x d * w d f) + b f

/-- Hidden unit `f` of a row. -/
def hidden (x : Fin 1024 → EReal) (w : Fin 1024 → Fin 2048 → EReal) (b : Fin 2048 → EReal) (f : Fin 1024) : EReal :=
  gate (up x w b ⟨f.val, by have := f.isLt; omega⟩) (up x w b ⟨1024 + f.val, by have := f.isLt; omega⟩)

/-- Column `j` of a row's answer by an expert. -/
def answer (x : Fin 1024 → EReal) (w : Fin 1024 → Fin 2048 → EReal) (b : Fin 2048 → EReal) (w' : Fin 1024 → Fin 1024 → EReal) (b' : Fin 1024 → EReal)
    (j : Fin 1024) : EReal :=
  (∑ f : Fin 1024, hidden x w b f * w' f j) + b' j

end Experts
end
-- ==== Proof.Experts.Half.lean ====
/-
  What the body stores, read at an index: a row of the tile through the expert whose weights it holds.
-/
module
public import proofs.«01_k».proof.Proof.Experts.Blocks
public import proofs.«01_k».proof.Proof.Experts.Gate
public import Idealize.ShloMosaic.Lib.Pointwise
public import Idealize.ShloMosaic.Lib.Pipeline.Value

@[expose] public section

set_option maxRecDepth 16384

noncomputable section

namespace Experts

open Cert.ExpertsIdeal Cert.ExpertsIdeal.Gen
open Idealize.ShloMosaic Idealize.ShloMosaic.TcCoe

/-- Eight slabs of 128 columns side by side. -/
def glued (s : Fin 8 → Vec Ideal S256x1x128 .bf16) : FVec Ideal S256x1024 .bf16 :=
  concatenate S256x1024 1 (List.ofFn fun n : Fin 8 => (⟨S256x128, shapeCast S256x128 (s n) shapeCasts_S256x1x128_S256x128⟩ : (t : Shape) × (t.Idx → Elt Ideal .bf16)))
    concatenates_S256x128_S256x128_S256x128_S256x128_S256x128_S256x128_S256x128_S256x128_S256x1024_d1

/-- The up-projection of 256 rows. -/
def ups (x : FVec Ideal S256x1024 .bf16) (u : FVec Ideal S1024x2048 .bf16) (b : Vec Ideal S1x1x2048 .f32) : FVec Ideal S256x2048 .f32 :=
  addf (matmul dot_S256x1024_S1024x2048_S256x2048_1_0_0_1_n_n none x u (constant S256x2048 .f32 0x00000000#32))
    (broadcastTo S256x2048 (shapeCast S1x2048 b shapeCasts_S1x1x2048_S1x2048) broadcasts_S1x2048_S256x2048)

/-- 256 rows through the expert, from their up-projections. -/
def downs (p : FVec Ideal S256x2048 .f32) (d : Vec Ideal S1024x1024 .bf16) (b : Vec Ideal S1x1x1024 .f32) : FVec Ideal S256x1024 .f32 :=
  k0_pay7 (minimumf (extractStridedSlice S256x1024 ![0, 0] p slices_S256x2048_o0_0_S256x1024) (broadcast S256x1024 (Scalar.ofBits .f32 0x40E00000#32)))
    (extractStridedSlice S256x1024 ![0, 1024] p slices_S256x2048_o0_1024_S256x1024) (Scalar.ofBits .f32 0xC0E00000#32) (Scalar.ofBits .f32 0x40E00000#32) d b

theorem glued_at (s : Fin 8 → Vec Ideal S256x1x128 .bf16) (r : Fin 256) (k : Fin 1024) :
    glued s (ix2 r k) = s ⟨k.val / 128, by have := k.isLt; omega⟩ (ix3 r 0 ⟨k.val % 128, Nat.mod_lt _ (by decide)⟩) := by
  unfold glued
  refine (concatenate_ofFn_apply (t := S256x1024) (s₁ := S256x128) 1 (fun n => shapeCast S256x128 (s n) shapeCasts_S256x1x128_S256x128) _ rfl 128 rfl (ix2 r k : S256x1024.Idx)
    ⟨k.val / 128, by have := k.isLt; omega⟩ rfl (ix2 r (⟨k.val % 128, Nat.mod_lt _ (by decide)⟩ : Fin 128)) rfl
    (fun b hb => match b with | ⟨0, _⟩ => rfl | ⟨1, _⟩ => absurd rfl hb)).trans ?_
  pointwise

theorem ups_at (x : FVec Ideal S256x1024 .bf16) (u : FVec Ideal S1024x2048 .bf16) (b : Vec Ideal S1x1x2048 .f32) (r : Fin 256) (f : Fin 2048) :
    ups x u b (ix2 r f) = up (fun k => x (ix2 r k)) (fun k f => u (ix2 k f)) (fun f => b (ix3 0 0 f)) f := by
  unfold up
  pointwise [ups]

theorem downs_at (p : FVec Ideal S256x2048 .f32) (d : Vec Ideal S1024x1024 .bf16) (b : Vec Ideal S1x1x1024 .f32) (r : Fin 256) (j : Fin 1024) :
    downs p d b (ix2 r j) = (∑ f : Fin 1024, gate (p (ix2 r ⟨f.val, by have := f.isLt; omega⟩)) (p (ix2 r ⟨1024 + f.val, by have := f.isLt; omega⟩)) * d (ix2 f j)) + b (ix3 0 0 j) := by
  unfold gate
  pointwise [downs, k0_pay7]

/-- The eight slabs of the tile's rows 0 to 255, and of its rows 256 to 511. -/
def topSlabs (x0 : S512x8x128.Idx → Elt Ideal .bf16) (n : Fin 8) : Vec Ideal S256x1x128 .bf16 :=
  slab x0 ![0, n.val, 0] ((by decide : ∀ n : Fin 8, ∀ a, (![0, n.val, 0] : Fin 3 → ℕ) a + S256x1x128.size a ≤ S512x8x128.size a) n)

def lowSlabs (x0 : S512x8x128.Idx → Elt Ideal .bf16) (n : Fin 8) : Vec Ideal S256x1x128 .bf16 :=
  slab x0 ![256, n.val, 0] ((by decide : ∀ n : Fin 8, ∀ a, (![256, n.val, 0] : Fin 3 → ℕ) a + S256x1x128.size a ≤ S512x8x128.size a) n)

/-- The two halves, in these parts. -/
theorem top_eq (x0 : S512x8x128.Idx → Elt Ideal .bf16) (x2 : S1x1x2048.Idx → Elt Ideal .f32) (x4 : S1x1x1024.Idx → Elt Ideal .f32)
    (u : S1024x2048.Idx → Elt Ideal .bf16) (d : S1024x1024.Idx → Elt Ideal .bf16) :
    topHalf x0 x2 x4 u d = downs (ups (glued (topSlabs x0)) u x2) d x4 := rfl

theorem low_eq (x0 : S512x8x128.Idx → Elt Ideal .bf16) (x2 : S1x1x2048.Idx → Elt Ideal .f32) (x4 : S1x1x1024.Idx → Elt Ideal .f32)
    (u : S1024x2048.Idx → Elt Ideal .bf16) (d : S1024x1024.Idx → Elt Ideal .bf16) :
    lowHalf x0 x2 x4 u d = downs (ups (glued (lowSlabs x0)) u x2) d x4 := rfl

/-- An element of a slab. -/
theorem slab_at (x0 : S512x8x128.Idx → Elt Ideal .bf16) (off : Fin 3 → ℕ) (h : ∀ a, off a + S256x1x128.size a ≤ S512x8x128.size a)
    (o : ℕ) (n : Fin 8) (e : off = ![o, n.val, 0]) (r : Fin 256) (l : Fin 128) (q : Fin 512) (hq : q.val = o + r.val) :
    slab x0 off h (ix3 r 0 l) = x0 (ix3 q n l) := by
  subst e
  refine congrArg x0 (funext fun a => ?_)
  match a with
  | ⟨0, _⟩ => exact Fin.ext (by show o + 1 * r.val = q.val; omega)
  | ⟨1, _⟩ => exact Fin.ext (by show n.val + 1 * 0 = n.val; omega)
  | ⟨2, _⟩ => exact Fin.ext (by show 0 + 1 * l.val = l.val; omega)

theorem topSlabs_at (x0 : S512x8x128.Idx → Elt Ideal .bf16) (n : Fin 8) (r : Fin 256) (l : Fin 128) (q : Fin 512) (hq : q.val = 0 + r.val) :
    topSlabs x0 n (ix3 r 0 l) = x0 (ix3 q n l) := by
  exact slab_at x0 _ _ 0 n rfl r l q hq

theorem lowSlabs_at (x0 : S512x8x128.Idx → Elt Ideal .bf16) (n : Fin 8) (r : Fin 256) (l : Fin 128) (q : Fin 512) (hq : q.val = 256 + r.val) :
    lowSlabs x0 n (ix3 r 0 l) = x0 (ix3 q n l) := by
  exact slab_at x0 _ _ 256 n rfl r l q hq

/-- Column `k` of row `q` of the tile. -/
def cell (x0 : S512x8x128.Idx → Elt Ideal .bf16) (q : Fin 512) (k : Fin 1024) : EReal :=
  x0 (ix3 q ⟨k.val / 128, by have := k.isLt; omega⟩ ⟨k.val % 128, Nat.mod_lt _ (by decide)⟩)

/-- The block a point leaves, read at a row and a column: the row through the expert. -/
theorem through_at (x0 : S512x8x128.Idx → Elt Ideal .bf16) (x2 : S1x1x2048.Idx → Elt Ideal .f32) (x4 : S1x1x1024.Idx → Elt Ideal .f32)
    (u : S1024x2048.Idx → Elt Ideal .bf16) (d : S1024x1024.Idx → Elt Ideal .bf16) (q : Fin 512) (j : Fin 1024) :
    through x0 x2 x4 u d (ix2 q j) = answer (cell x0 q) (fun k f => u (ix2 k f)) (fun f => x2 (ix3 0 0 f)) (fun f j => d (ix2 f j)) (fun j => x4 (ix3 0 0 j)) j := by
  have hq := q.isLt
  unfold through answer hidden
  show (if q.val < 256 then topHalf x0 x2 x4 u d (ix2 ⟨q.val % 256, _⟩ j) else lowHalf x0 x2 x4 u d (ix2 ⟨q.val % 256, _⟩ j)) = _
  split
  · rename_i h
    rw [top_eq, downs_at]
    have e : ∀ f, ups (glued (topSlabs x0)) u x2 (ix2 ⟨q.val % 256, Nat.mod_lt _ (by decide)⟩ f) = up (cell x0 q) (fun k f => u (ix2 k f)) (fun f => x2 (ix3 0 0 f)) f := fun f =>
      (ups_at _ u x2 _ f).trans (congrArg (fun z => up z _ _ f) (funext fun k =>
        (glued_at _ _ k).trans (topSlabs_at x0 _ _ _ q (by show q.val = 0 + q.val % 256; omega))))
    simp only [e]
  · rename_i h
    rw [low_eq, downs_at]
    have e : ∀ f, ups (glued (lowSlabs x0)) u x2 (ix2 ⟨q.val % 256, Nat.mod_lt _ (by decide)⟩ f) = up (cell x0 q) (fun k f => u (ix2 k f)) (fun f => x2 (ix3 0 0 f)) f := fun f =>
      (ups_at _ u x2 _ f).trans (congrArg (fun z => up z _ _ f) (funext fun k =>
        (glued_at _ _ k).trans (lowSlabs_at x0 _ _ _ q (by show q.val = 256 + q.val % 256; omega))))
    simp only [e]

/-- The rounded weights are the block's, exactly. -/
theorem up_weights_at (w : Vec Ideal S1x1024x2048 .f32) (k : Fin 1024) (f : Fin 2048) : k0_pay1 w (ix2 k f) = w (ix3 0 k f) := by
  pointwise [k0_pay1]

theorem down_weights_at (w : Vec Ideal S1x1024x1024 .f32) (k : Fin 1024) (f : Fin 1024) : k0_pay2 w (ix2 k f) = w (ix3 0 k f) := by
  pointwise [k0_pay2]

theorem bare_at (q : Fin 512) (j : Fin 1024) : k0_pay3 (F := Ideal) (ix2 q j) = 0 := by
  pointwise [k0_pay3]

end Experts
end
-- ==== Proof.Experts.Ref.lean ====
/-
  The reference's result in named parts, and its value at an index: the row through each expert, the chosen one kept.
-/
module
public import proofs.«01_k».proof.Proof.Gen.ExpertsReferenceIdeal.Run
public import proofs.«01_k».proof.Proof.Experts.Gate
public import Idealize.ShloMosaic.Lib.Pointwise
public import Idealize.ShloMosaic.Lib.WordCmp
public import Idealize.ShloMosaic.Lib.Claim
public import Idealize.ShloMosaic.Lib.Tactic.CleanTypes

@[expose] public section

set_option maxRecDepth 16384

noncomputable section

namespace ExpertsRef

open Cert.ExpertsReferenceIdeal Cert.ExpertsReferenceIdeal.Gen Idealize.ShloMosaic Idealize.ShloMosaic.TcCoe Idealize.SL.Sem Idealize.ShloMosaic.StableHlo
open Experts (up gate hidden answer)

/-- Every row's up-projection by every expert. -/
def ups (x : FVec Ideal S82944x8x128 .bf16) (w : FVec Ideal S32x1024x2048 .f32) (b : FVec Ideal S32x1x2048 .f32) : FVec Ideal S82944x32x2048 .f32 :=
  addf (Host.dotGeneral (F := Ideal) dot_S82944x1024_S32x1024x2048_S82944x32x2048_1_1_0_02_n_n none (extf .f32 (shapeCast S82944x1024 x shapeCasts_S82944x8x128_S82944x1024) bitsLt_bf16_f32) w)
    (broadcastInDim S82944x32x2048 ![0, 1, 2] bcast_S1x32x2048_S82944x32x2048_0_1_2 (broadcastInDim S1x32x2048 ![1, 2] bcast_S32x2048_S1x32x2048_1_2 (shapeCast S32x2048 b shapeCasts_S32x1x2048_S32x2048)))

def scalarTo (b : BitVec 32) : FVec Ideal S82944x32x1024 .f32 := broadcastInDim S82944x32x1024 ![] bcast_S_S82944x32x1024 (constant S_ .f32 b)

/-- The clipped gate, and the linear part. -/
def gates (p : FVec Ideal S82944x32x2048 .f32) : FVec Ideal S82944x32x1024 .f32 :=
  minimumf (extractStridedSlice S82944x32x1024 ![0, 0, 0] p slices_S82944x32x2048_S82944x32x1024_0_0_0) (scalarTo 0x40E00000#32)

def lins (p : FVec Ideal S82944x32x2048 .f32) : FVec Ideal S82944x32x1024 .f32 :=
  addf (minimumf (scalarTo 0x40E00000#32) (maximumf (scalarTo 0xC0E00000#32) (extractStridedSlice S82944x32x1024 ![0, 0, 1024] p slices_S82944x32x2048_S82944x32x1024_0_0_1024)))
    (scalarTo 0x3F800000#32)

def sigmoids (a : FVec Ideal S82944x32x1024 .f32) : FVec Ideal S82944x32x1024 .f32 :=
  Host.divf (scalarTo 0x3F800000#32) (addf (scalarTo 0x3F800000#32) (Host.exp (Host.negf (mulf (scalarTo 0x3FD9DB23#32) a))))

/-- Every row's hidden units. -/
def hiddens (p : FVec Ideal S82944x32x2048 .f32) : FVec Ideal S82944x32x1024 .f32 :=
  mulf (mulf (gates p) (sigmoids (gates p))) (lins p)

/-- Every row's answer by every expert. -/
def answers (h : FVec Ideal S82944x32x1024 .f32) (w : FVec Ideal S32x1024x1024 .f32) (b : FVec Ideal S32x1x1024 .f32) : FVec Ideal S82944x32x1024 .f32 :=
  addf (transpose S82944x32x1024 [2, 0, 1] (Host.dotGeneral (F := Ideal) dot_S32x1024x1024_S82944x32x1024_S32x1024x82944_1_2_2_0_0_1 none w h) transposes_S32x1024x82944_S82944x32x1024_2_0_1)
    (broadcastInDim S82944x32x1024 ![0, 1, 2] bcast_S1x32x1024_S82944x32x1024_0_1_2 (broadcastInDim S1x32x1024 ![1, 2] bcast_S32x1024_S1x32x1024_1_2 (shapeCast S32x1024 b shapeCasts_S32x1x1024_S32x1024)))

/-- A table's word for each row. -/
def spread (x : IVec S162 32) : IVec S82944 32 :=
  shapeCast S82944 (broadcastInDim S162x512 ![0, 1] bcast_S162x1_S162x512_0_1 (broadcastInDim S162x1 ![0] bcast_S162_S162x1_0 x)) shapeCasts_S162x512_S82944

/-- Whether the row's tile names the expert and holds rows. -/
def picked (te rows : IVec S162 32) : IVec S82944x32 1 :=
  andi (cmpi .eq (broadcastInDim S82944x32 ![0, 1] bcast_S82944x1_S82944x32_0_1 (broadcastInDim S82944x1 ![0] bcast_S82944_S82944x1_0 (spread te)))
      (broadcastInDim S82944x32 ![0, 1] bcast_S1x32_S82944x32_0_1 (broadcastInDim S1x32 ![1] bcast_S32_S1x32_1 (iotaInDim S32 32 0))))
    (broadcastInDim S82944x32 ![0, 1] bcast_S82944x1_S82944x32_0_1 (broadcastInDim S82944x1 ![0] bcast_S82944_S82944x1_0
      (cmpi .sgt (spread rows) (broadcastInDim S82944 ![] bcast_S_S82944 (constantI S_ 32 0#32)))))

/-- One for the row's expert, zero for the others. -/
def weights (c : IVec S82944x32 1) : FVec Ideal S82944x32 .f32 :=
  select c (broadcastInDim S82944x32 ![] bcast_S_S82944x32 (constant S_ .f32 0x3F800000#32)) (broadcastInDim S82944x32 ![] bcast_S_S82944x32 (constant S_ .f32 0x00000000#32))

/-- The rows' answers, each by its own expert. -/
def outcome (c : IVec S82944x32 1) (y : FVec Ideal S82944x32x1024 .f32) : FVec Ideal S82944x1024 .f32 :=
  Host.reduceAdd (mulf (broadcastInDim S82944x32x1024 ![0, 1, 2] bcast_S82944x32x1_S82944x32x1024_0_1_2 (broadcastInDim S82944x32x1 ![0, 1] bcast_S82944x32_S82944x32x1_0_1 (weights c))) y)
    (constant S_ .f32 0x00000000#32) reducesTo_S82944x32x1024_S82944x1024_d1 h_S_

/-- The reference's result is these parts put together. -/
theorem result_eq (m : (ℓ : Loc nD τ sig) → Buf (Elt Ideal) ℓ) (c : Dev nD) :
    Cert.ExpertsReferenceIdeal.Value.res_out0 m c
      = outcome (picked (m ((c.tc : Thread nD τ).loc main_arg1)) (m ((c.tc : Thread nD τ).loc main_arg2)))
          (answers (hiddens (ups (m ((c.tc : Thread nD τ).loc main_arg0)) (m ((c.tc : Thread nD τ).loc main_arg3)) (m ((c.tc : Thread nD τ).loc main_arg4))))
            (m ((c.tc : Thread nD τ).loc main_arg5)) (m ((c.tc : Thread nD τ).loc main_arg6))) := by
  with_unfolding_all rfl

/-- Column `k` of row `n`. -/
def cell (x : FVec Ideal S82944x8x128 .bf16) (n : Fin 82944) (k : Fin 1024) : EReal :=
  x (ix3 n ⟨k.val / 128, by have := k.isLt; omega⟩ ⟨k.val % 128, Nat.mod_lt _ (by decide)⟩)

theorem ups_at (x : FVec Ideal S82944x8x128 .bf16) (w : FVec Ideal S32x1024x2048 .f32) (b : FVec Ideal S32x1x2048 .f32) (n : Fin 82944) (e : Fin 32) (f : Fin 2048) :
    ups x w b (ix3 n e f) = up (cell x n) (fun k f => w (ix3 e k f)) (fun f => b (ix3 e 0 f)) f := by
  unfold up cell
  pointwise [ups]

theorem hiddens_at (p : FVec Ideal S82944x32x2048 .f32) (n : Fin 82944) (e : Fin 32) (f : Fin 1024) :
    hiddens p (ix3 n e f) = gate (p (ix3 n e ⟨f.val, by have := f.isLt; omega⟩)) (p (ix3 n e ⟨1024 + f.val, by have := f.isLt; omega⟩)) := by
  unfold gate Ideal.logistic
  pointwise [hiddens, gates, lins, sigmoids, scalarTo]

theorem answers_at (h : FVec Ideal S82944x32x1024 .f32) (w : FVec Ideal S32x1024x1024 .f32) (b : FVec Ideal S32x1x1024 .f32) (n : Fin 82944) (e : Fin 32) (j : Fin 1024) :
    answers h w b (ix3 n e j) = (∑ f : Fin 1024, h (ix3 n e f) * w (ix3 e f j)) + b (ix3 e 0 j) := by
  pointwise [answers]
  congr 1
  exact Finset.sum_congr rfl fun f _ => mul_comm _ _

theorem spread_at (x : IVec S162 32) (n : Fin 82944) : spread x (ix1 n) = x (ix1 ⟨n.val / 512, by have := n.isLt; omega⟩) := by
  pointwise [spread]

/-- A row's tile. -/
def tileOf (n : Fin 82944) : Fin 162 := ⟨n.val / 512, by have := n.isLt; omega⟩

theorem picked_iff (te rows : IVec S162 32) (n : Fin 82944) (e : Fin 32) : picked te rows (ix2 n e) = 1#1 ↔
    (te (ix1 (tileOf n))).toNat = e.val ∧ 0 < (rows (ix1 (tileOf n))).toInt := by
  have he : (BitVec.ofNat 32 e.val).toNat = e.val := WordCmp.toNat_ofNat_of_lt (by have := e.isLt; omega)
  have hz : (0#32).toInt = 0 := by decide
  pointwise [picked]
  rw [spread_at, spread_at, WordCmp.cmpi_eq_eq_toNat, WordCmp.cmpi_sgt_eq, WordCmp.andi_ofBool, WordCmp.ofBool_eq_one_iff, Bool.and_eq_true,
    decide_eq_true_iff, decide_eq_true_iff, he, hz]
  exact Iff.rfl

theorem outcome_at (c : IVec S82944x32 1) (y : FVec Ideal S82944x32x1024 .f32) (n : Fin 82944) (j : Fin 1024) :
    outcome c y (ix2 n j) = ∑ e : Fin 32, if c (ix2 n e) = 1#1 then y (ix3 n e j) else 0 := by
  pointwise [outcome, weights]
  refine Finset.sum_congr rfl fun e _ => ?_
  unfold Scalar.select
  split <;> simp_all

/-- The reference at row `n` and column `j`, for a tile whose expert is `E`: the row through that expert, or zero in a tile without rows. -/
theorem result_at (x : FVec Ideal S82944x8x128 .bf16) (te rows : IVec S162 32) (w : FVec Ideal S32x1024x2048 .f32) (b : FVec Ideal S32x1x2048 .f32)
    (w' : FVec Ideal S32x1024x1024 .f32) (b' : FVec Ideal S32x1x1024 .f32) (n : Fin 82944) (j : Fin 1024) (E : Fin 32) (hE : (te (ix1 (tileOf n))).toNat = E.val) :
    outcome (picked te rows) (answers (hiddens (ups x w b)) w' b') (ix2 n j)
      = if 0 < (rows (ix1 (tileOf n))).toInt then
          answer (cell x n) (fun k f => w (ix3 E k f)) (fun f => b (ix3 E 0 f)) (fun f j => w' (ix3 E f j)) (fun j => b' (ix3 E 0 j)) j
        else 0 := by
  rw [outcome_at, Finset.sum_eq_single E]
  · simp only [picked_iff, hE, true_and]
    split
    · rw [answers_at]
      unfold answer Experts.hidden
      simp only [hiddens_at, ups_at]
    · rfl
  · intro e _ hne
    rw [if_neg]
    rw [picked_iff, hE]
    exact fun h => hne (Fin.ext h.1.symm)
  · exact fun h => absurd (Finset.mem_univ _) h

end ExpertsRef
end
-- ==== Proof.Experts.Value.lean ====
/-
  The experts' array after the run: every row through its tile's expert; and that it is the reference's.
-/
module
public import proofs.«01_k».proof.Proof.Experts.Frame
public import proofs.«01_k».proof.Proof.Experts.Half
public import proofs.«01_k».proof.Proof.Experts.Ref

@[expose] public section

set_option maxRecDepth 16384

noncomputable section

namespace Experts

open Cert.ExpertsIdeal Cert.ExpertsIdeal.Gen
open Idealize.ShloMosaic Idealize.ShloMosaic.TcCoe Idealize.SL.Sem
open Idealize.ShloMosaic.Pipeline (Window)

variable {m : (l : Loc nD τ sig) → Buf (Elt Ideal) l} (g : Good m)

theorem tile_lt {n : ℕ} (h : n < 82944) : n / 512 < 162 := by omega

/-- A tile's expert. -/
def expertAt (n : ℕ) (h : n < 162) : Fin 32 := ⟨(entry (tile m) n h).toNat, g.chosen n h⟩

/-- A row of the arguments through an expert. -/
def rowOut (m : (l : Loc nD τ sig) → Buf (Elt Ideal) l) (c : Dev nD) (E : Fin 32) (n : Fin 82944) (j : Fin 1024) : EReal :=
  answer (fun k : Fin 1024 => (m ((c : Thread nD τ).loc main_arg0) : S82944x8x128.Idx → EReal) (ix3 n ⟨k.val / 128, by have := k.isLt; omega⟩ ⟨k.val % 128, Nat.mod_lt _ (by decide)⟩))
    (fun k f => (m ((c : Thread nD τ).loc main_arg3) : S32x1024x2048.Idx → EReal) (ix3 E k f))
    (fun f => (m ((c : Thread nD τ).loc main_arg4) : S32x1x2048.Idx → EReal) (ix3 E 0 f))
    (fun f j => (m ((c : Thread nD τ).loc main_arg5) : S32x1024x1024.Idx → EReal) (ix3 E f j))
    (fun j => (m ((c : Thread nD τ).loc main_arg6) : S32x1x1024.Idx → EReal) (ix3 E 0 j)) j

/-- What the run leaves: each row through its tile's expert, zero where the tile holds no rows. -/
def G (c : Dev nD) : S82944x1024.Idx → EReal := fun i =>
  if 0 < (entry (rows m) ((i 0).val / 512) (tile_lt (i 0).isLt)).toInt then rowOut m c (expertAt g _ (tile_lt (i 0).isLt)) (i 0) (i 1) else 0

/-- A point's block at row `q` and column `j`. -/
theorem outT_at (c : Dev nD) (t : Fin (cfgA g).N) (q : Fin 512) (j : Fin 1024) (n : Fin 82944) (hn : n.val = 512 * (crd g t 0).val + q.val) :
    outT g c t (ix2 q j) = G g c (ix2 n j) := by
  have hq := q.isLt
  have hd : n.val / 512 = (crd g t 0).val := by omega
  have hG : G g c (ix2 n j) = if 0 < (entry (rows m) (crd g t 0).val (point_lt _)).toInt then rowOut m c (expert g t) n j else 0 := by
    unfold G expert
    show (if 0 < (entry (rows m) (n.val / 512) _).toInt then rowOut m c (expertAt g (n.val / 512) _) n j else 0) = _
    unfold expertAt
    simp only [hd]
  rw [hG]
  unfold outT left
  by_cases h : 0 < (entry (rows m) (crd g t 0).val (point_lt _)).toInt
  · rw [if_pos ((held_iff (F := Ideal) _ _).2 h), if_pos h, through_at]
    unfold rowOut
    simp only [up_weights_at, down_weights_at]
    congr 1
    · funext k
      refine (block0 g c t _).trans (congrArg (m ((c : Thread nD τ).loc main_arg0)) ?_)
      exact congrArg (fun z => ix3 z _ _) (Fin.ext hn.symm)
    · funext k f; exact block1 g c t _
    · funext f; exact block2 g c t _
    · funext f j; exact block3 g c t _
    · funext j; exact block4 g c t _
  · rw [if_neg (fun e => h ((held_iff (F := Ideal) _ _).1 e)), if_neg h, bare_at]

/-- A point's block begins at its tile's first row. -/
theorem out_index (t : Fin (cfgA g).N) : ((cfgA g).win (5 : Fin 6)).index t = ![(crd g t 0).val, 0] := off_out _

theorem mem_out (t : Fin (cfgA g).N) (i : S82944x1024.Idx) : i ∈ (((cfgA g).win (5 : Fin 6)).blk t).view.set ↔
    ∀ a : Fin 2, ((cfgA g).win (5 : Fin 6)).index t a * S512x1024.size a ≤ (i a).val ∧ (i a).val < ((cfgA g).win (5 : Fin 6)).index t a * S512x1024.size a + S512x1024.size a := by
  show i ∈ ((View.whole main_v0).slice (((cfgA g).win (5 : Fin 6)).rect t)).set ↔ _
  rw [View.set_slice_whole, Rect.mem_set_unit]
  exact Iff.rfl

theorem covered (i : S82944x1024.Idx) : ∃ t : Fin (cfgA g).N, ((cfgA g).win (5 : Fin 6)).flush t = true ∧ i ∈ (((cfgA g).win (5 : Fin 6)).blk t).view.set := by
  have h0 : (i 0).val < 82944 := (i 0).isLt
  have h1 : (i 1).val < 1024 := (i 1).isLt
  have hN : (i 0).val / 512 < grid0.N := by show _ < 162; omega
  refine ⟨⟨(i 0).val / 512, hN⟩, out_flush g _, ?_⟩
  have e : (crd g ⟨(i 0).val / 512, hN⟩ 0).val = (i 0).val / 512 := crd_val _
  rw [mem_out, out_index, e]
  intro a
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

theorem flushed_out (c : Dev nD) (t : Fin (cfgA g).N) (hf : ((cfgA g).win (5 : Fin 6)).flush t = true) :
    (dats g 0 c).flushed (5 : Fin 6) t = (((cfgA g).win (5 : Fin 6)).blk t).view.read (Elt Ideal) (G g c) := by
  funext y
  have hp := point_lt (crd g t)
  have hy0 : (y 0).val < 512 := (y 0).isLt
  have hy1 : (y 1).val < 1024 := (y 1).isLt
  have ho : cc0_transform_5 (crd g t) = ![(crd g t 0).val, 0] := off_out _
  have h1 : (dats g 0 c).flushed (5 : Fin 6) t y = outT g c t (ix2 (y 0) (y 1)) :=
    congrArg (outT g c t) (funext fun a => match a with | ⟨0, _⟩ => rfl | ⟨1, _⟩ => rfl)
  refine h1.trans ((outT_at g c t (y 0) (y 1) ⟨512 * (crd g t 0).val + (y 0).val, by omega⟩ rfl).trans ?_)
  refine congrArg (G g c) (funext fun a => ?_)
  match a with
  | ⟨0, _⟩ =>
    refine Fin.ext ?_
    show 512 * (crd g t 0).val + (y 0).val = cc0_transform_5 (crd g t) 0 * 512 + 1 * (y 0).val
    rw [ho]
    show _ = (crd g t 0).val * 512 + _
    omega
  | ⟨1, _⟩ =>
    refine Fin.ext ?_
    show (y 1).val = cc0_transform_5 (crd g t) 1 * 1024 + 1 * (y 1).val
    rw [ho]
    show _ = 0 * 1024 + _
    omega

/-- The array after the run. -/
theorem final_out (c : Dev nD) : (dats g 0 c).arrAt (5 : Fin 6) (cfgA g).N = G g c :=
  (dats g 0 c).arrAt_eq_of_cover (5 : Fin 6) (G g c) (fun t hf => flushed_out g c t hf) (covered g)

/-- The run, its result named. -/
theorem run_out (ρ : Dev nD → PrngReg) : θ_run (defs (F := Ideal)) (onTc (τ := τ) (main (F := Ideal))) ⟨m, fun _ => 0, ρ⟩
    (fun r => ∀ c : Dev nD, r.2.mem ((c : Thread nD τ).loc main_v0) = G g c ∧ Same m r c) :=
  (θ_run _ _ _).mono (fun r h c => ⟨((h.1 c).1 (5 : Fin 6)).trans (final_out g c), same_of_ends g r h.1 c⟩) (run_ends g ρ)

/-- The array after the run is the reference's result. -/
theorem equal (c : Dev nD) :
    ExpertsRef.outcome (ExpertsRef.picked (m ((c : Thread nD τ).loc main_arg1)) (m ((c : Thread nD τ).loc main_arg2)))
      (ExpertsRef.answers (ExpertsRef.hiddens (ExpertsRef.ups (m ((c : Thread nD τ).loc main_arg0)) (m ((c : Thread nD τ).loc main_arg3)) (m ((c : Thread nD τ).loc main_arg4))))
        (m ((c : Thread nD τ).loc main_arg5)) (m ((c : Thread nD τ).loc main_arg6))) = G g c := by
  obtain rfl := one_dev c
  funext i
  obtain ⟨n, j, rfl⟩ : ∃ (n : Fin 82944) (j : Fin 1024), i = ix2 n j := ⟨i 0, i 1, by funext a; match a with | ⟨0, _⟩ => rfl | ⟨1, _⟩ => rfl⟩
  have hn := tile_lt n.isLt
  have e1 : tile m (ix1 (ExpertsRef.tileOf n)) = entry (tile m) (n.val / 512) hn := congrArg (tile m) (funext fun a => match a with | ⟨0, _⟩ => rfl)
  have e2 : rows m (ix1 (ExpertsRef.tileOf n)) = entry (rows m) (n.val / 512) hn := congrArg (rows m) (funext fun a => match a with | ⟨0, _⟩ => rfl)
  refine (ExpertsRef.result_at _ (tile m) (rows m) _ _ _ _ n j (expertAt g (n.val / 512) hn) (by rw [e1]; rfl)).trans ?_
  rw [e2]
  rfl

end Experts
end
-- ==== Proof.Inputs.Body.lean ====
/-
  One tile of the projection call: its body runs, and leaves in each of the fourteen blocks what the tile's rows decide.
-/
module
public import proofs.«01_k».proof.Proof.Gen.InputsIdeal.Frame.Runs
public import Idealize.ShloMosaic.Lib.VecWindow

@[expose] public section

set_option maxRecDepth 16384
set_option Elab.async false

noncomputable section

namespace Inputs

open Cert.InputsIdeal Cert.InputsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What a tile leaves in its blocks. -/
structure Leaves (F : FTy → Type) [FloatOps F] where
  q : Vec F S8x256x128 .bf16
  qi : Vec F S8x256x128 .bf16
  wi : Vec F S256x128 .f32
  ka : Vec F S256x128 .f32
  va : Vec F S256x128 .f32
  ki : Vec F S256x128 .f32
  kab : Vec F S256x128 .bf16
  vab : Vec F S256x128 .bf16
  ki2 : Vec F S256x128 .bf16
  qb : Vec F S8x256x128 .bf16
  kb : Vec F S256x512 .f32
  vb : Vec F S256x512 .f32
  kbb : Vec F S256x512 .bf16
  vbb : Vec F S256x512 .bf16

open Classical in
/-- The tile's rows: the prompt's, or in the last tile the samples'. -/
def tileRows (i : grid0.Coords) (x0 x1 : Vec F S256x1024 .f32) : FVec F S256x1024 .f32 :=
  if cond0_0 i then k0_pay4 x0 else k0_pay5 x1

/-- The columns of the weights that give the first attention's values. -/
def colsVa (x3 : Vec F S1024x3584 .bf16) : Vec F S1024x128 .bf16 :=
  fun y => x3 ((Rect.unit (s := S1024x3584) ![0, 1152] S1024x128.size inb_S1024x3584_S1024x128_0_1152).toLoadRect.idx y)

/-- The columns of the weights that give the second attention's values. -/
def colsVb (x3 : Vec F S1024x3584 .bf16) : Vec F S1024x512 .bf16 :=
  fun y => x3 ((Rect.unit (s := S1024x3584) ![0, 3072] S1024x512.size inb_S1024x3584_S1024x512_0_3072).toLoadRect.idx y)

/-- A block of a window that the tile's stores tile reads as those stores do over nothing. -/
theorem tiled {s : Shape} {e : EltTy} (a : Memref sig .tc .vmem s e) (f : a.view.ty.Contents (Elt F)) (L : List (View.Piece (Elt F) s e)) (sz : Fin s.rank → ℕ)
    (h : View.Piece.tiledL L sz = true) : a.view.read (Elt F) (a.view.writes (Elt F) f L) = a.view.read (Elt F) (a.view.writes (Elt F) a.view.junk L) :=
  View.read_writes_of_cover _ _ _ _ _ (View.cover_of_tiledL L sz h)

set_option maxHeartbeats 12000000 in
/-- The body of a tile, from whole staging buffers: it gives the inputs back, and leaves in each output block stores that tile it. -/
theorem body_pieces (c : Dev nD) (i : grid0.Coords)
  (a0 : Memref sig .tc .vmem S256x1024 .f32) (h0 : a0.IsWhole)
  (a1 : Memref sig .tc .vmem S256x1024 .f32) (h1 : a1.IsWhole)
  (a2 : Memref sig .tc .vmem S1x1024 .f32) (h2 : a2.IsWhole)
  (a3 : Memref sig .tc .vmem S1024x3584 .bf16) (h3 : a3.IsWhole)
  (a4 : Memref sig .tc .vmem S1x128 .f32) (h4 : a4.IsWhole)
  (a5 : Memref sig .tc .vmem S1x128 .f32) (h5 : a5.IsWhole)
  (a6 : Memref sig .tc .vmem S1x128 .f32) (h6 : a6.IsWhole)
  (a7 : Memref sig .tc .vmem S1x128 .f32) (h7 : a7.IsWhole)
  (a8 : Memref sig .tc .vmem S1x128 .f32) (h8 : a8.IsWhole)
  (a9 : Memref sig .tc .vmem S1x1x128 .f32) (h9 : a9.IsWhole)
  (a10 : Memref sig .tc .vmem S1x1x128 .f32) (h10 : a10.IsWhole)
  (a11 : Memref sig .tc .vmem S1x256x128 .f32) (h11 : a11.IsWhole)
  (a12 : Memref sig .tc .vmem S1x256x128 .f32) (h12 : a12.IsWhole)
  (a13 : Memref sig .tc .vmem S1x1x128 .f32) (h13 : a13.IsWhole)
  (a14 : Memref sig .tc .vmem S1x1x128 .f32) (h14 : a14.IsWhole)
  (a15 : Memref sig .tc .vmem S1x256x128 .f32) (h15 : a15.IsWhole)
  (a16 : Memref sig .tc .vmem S1x256x128 .f32) (h16 : a16.IsWhole)
  (a17 : Memref sig .tc .vmem S8x256x128 .bf16) (h17 : a17.IsWhole)
  (a18 : Memref sig .tc .vmem S8x256x128 .bf16) (h18 : a18.IsWhole)
  (a19 : Memref sig .tc .vmem S256x128 .f32) (h19 : a19.IsWhole)
  (a20 : Memref sig .tc .vmem S256x128 .f32) (h20 : a20.IsWhole)
  (a21 : Memref sig .tc .vmem S256x128 .f32) (h21 : a21.IsWhole)
  (a22 : Memref sig .tc .vmem S256x128 .f32) (h22 : a22.IsWhole)
  (a23 : Memref sig .tc .vmem S256x128 .bf16) (h23 : a23.IsWhole)
  (a24 : Memref sig .tc .vmem S256x128 .bf16) (h24 : a24.IsWhole)
  (a25 : Memref sig .tc .vmem S256x128 .bf16) (h25 : a25.IsWhole)
  (a26 : Memref sig .tc .vmem S8x256x128 .bf16) (h26 : a26.IsWhole)
  (a27 : Memref sig .tc .vmem S256x512 .f32) (h27 : a27.IsWhole)
  (a28 : Memref sig .tc .vmem S256x512 .f32) (h28 : a28.IsWhole)
  (a29 : Memref sig .tc .vmem S256x512 .bf16) (h29 : a29.IsWhole)
  (a30 : Memref sig .tc .vmem S256x512 .bf16) (h30 : a30.IsWhole)
  (hx : cond0_0 i ↔ ¬ cond0_1 i)
  (x0 : Vec F S256x1024 .f32) (x1 : Vec F S256x1024 .f32) (x2 : Vec F S1x1024 .f32) (x3 : Vec F S1024x3584 .bf16) (x4 : Vec F S1x128 .f32)
  (x5 : Vec F S1x128 .f32) (x6 : Vec F S1x128 .f32) (x7 : Vec F S1x128 .f32) (x8 : Vec F S1x128 .f32) (x9 : Vec F S1x1x128 .f32)
  (x10 : Vec F S1x1x128 .f32) (x11 : Vec F S1x256x128 .f32) (x12 : Vec F S1x256x128 .f32) (x13 : Vec F S1x1x128 .f32) (x14 : Vec F S1x1x128 .f32)
  (x15 : Vec F S1x256x128 .f32) (x16 : Vec F S1x256x128 .f32) :
    ∃ (L17 : List (View.Piece (Elt F) S8x256x128 .bf16)) (L18 : List (View.Piece (Elt F) S8x256x128 .bf16)) (L19 : List (View.Piece (Elt F) S256x128 .f32)) (L20 : List (View.Piece (Elt F) S256x128 .f32)) (L21 : List (View.Piece (Elt F) S256x128 .f32)) (L22 : List (View.Piece (Elt F) S256x128 .f32)) (L23 : List (View.Piece (Elt F) S256x128 .bf16)) (L24 : List (View.Piece (Elt F) S256x128 .bf16)) (L25 : List (View.Piece (Elt F) S256x128 .bf16)) (L26 : List (View.Piece (Elt F) S8x256x128 .bf16)) (L27 : List (View.Piece (Elt F) S256x512 .f32)) (L28 : List (View.Piece (Elt F) S256x512 .f32)) (L29 : List (View.Piece (Elt F) S256x512 .bf16)) (L30 : List (View.Piece (Elt F) S256x512 .bf16)),
      View.Piece.tiledL L17 S1x256x128.size = true
      ∧ View.Piece.tiledL L18 S1x256x128.size = true
      ∧ View.Piece.tiledL L19 S256x128.size = true
      ∧ View.Piece.tiledL L20 S256x128.size = true
      ∧ View.Piece.tiledL L21 S256x128.size = true
      ∧ View.Piece.tiledL L22 S256x128.size = true
      ∧ View.Piece.tiledL L23 S256x128.size = true
      ∧ View.Piece.tiledL L24 S256x128.size = true
      ∧ View.Piece.tiledL L25 S256x128.size = true
      ∧ View.Piece.tiledL L26 S1x256x128.size = true
      ∧ View.Piece.tiledL L27 S256x128.size = true
      ∧ View.Piece.tiledL L28 S256x512.size = true
      ∧ View.Piece.tiledL L29 S256x128.size = true
      ∧ View.Piece.tiledL L30 S256x512.size = true
      ∧ a21.view.read (Elt F) (a21.view.writes (Elt F) a21.view.junk L21) = k0_pay37 (k0_pay6 (tileRows i x0 x1) x2) (colsVa x3)
      ∧ a28.view.read (Elt F) (a28.view.writes (Elt F) a28.view.junk L28) = k0_pay2 (k0_pay6 (tileRows i x0 x1) x2) (colsVb x3)
      ∧ ∀ K : PUnit → sProp 𝕄,
    iprop(owns (c : Thread nD τ) a0 fullShare x0
      ∗ owns (c : Thread nD τ) a1 fullShare x1
      ∗ owns (c : Thread nD τ) a2 fullShare x2
      ∗ owns (c : Thread nD τ) a3 fullShare x3
      ∗ owns (c : Thread nD τ) a4 fullShare x4
      ∗ owns (c : Thread nD τ) a5 fullShare x5
      ∗ owns (c : Thread nD τ) a6 fullShare x6
      ∗ owns (c : Thread nD τ) a7 fullShare x7
      ∗ owns (c : Thread nD τ) a8 fullShare x8
      ∗ owns (c : Thread nD τ) a9 fullShare x9
      ∗ owns (c : Thread nD τ) a10 fullShare x10
      ∗ owns (c : Thread nD τ) a11 fullShare x11
      ∗ owns (c : Thread nD τ) a12 fullShare x12
      ∗ owns (c : Thread nD τ) a13 fullShare x13
      ∗ owns (c : Thread nD τ) a14 fullShare x14
      ∗ owns (c : Thread nD τ) a15 fullShare x15
      ∗ owns (c : Thread nD τ) a16 fullShare x16
      ∗ (∃ d, owns (c : Thread nD τ) a17 fullShare d)
      ∗ (∃ d, owns (c : Thread nD τ) a18 fullShare d)
      ∗ (∃ d, owns (c : Thread nD τ) a19 fullShare d)
      ∗ (∃ d, owns (c : Thread nD τ) a20 fullShare d)
      ∗ (∃ d, owns (c : Thread nD τ) a21 fullShare d)
      ∗ (∃ d, owns (c : Thread nD τ) a22 fullShare d)
      ∗ (∃ d, owns (c : Thread nD τ) a23 fullShare d)
      ∗ (∃ d, owns (c : Thread nD τ) a24 fullShare d)
      ∗ (∃ d, owns (c : Thread nD τ) a25 fullShare d)
      ∗ (∃ d, owns (c : Thread nD τ) a26 fullShare d)
      ∗ (∃ d, owns (c : Thread nD τ) a27 fullShare d)
      ∗ (∃ d, owns (c : Thread nD τ) a28 fullShare d)
      ∗ (∃ d, owns (c : Thread nD τ) a29 fullShare d)
      ∗ (∃ d, owns (c : Thread nD τ) a30 fullShare d)
      ∗ (∃ d, owns (c : Thread nD τ) scM0_0 fullShare d)
      ∗ (iprop(owns (c : Thread nD τ) a0 fullShare x0
      ∗ owns (c : Thread nD τ) a1 fullShare x1
      ∗ owns (c : Thread nD τ) a2 fullShare x2
      ∗ owns (c : Thread nD τ) a3 fullShare x3
      ∗ owns (c : Thread nD τ) a4 fullShare x4
      ∗ owns (c : Thread nD τ) a5 fullShare x5
      ∗ owns (c : Thread nD τ) a6 fullShare x6
      ∗ owns (c : Thread nD τ) a7 fullShare x7
      ∗ owns (c : Thread nD τ) a8 fullShare x8
      ∗ owns (c : Thread nD τ) a9 fullShare x9
      ∗ owns (c : Thread nD τ) a10 fullShare x10
      ∗ owns (c : Thread nD τ) a11 fullShare x11
      ∗ owns (c : Thread nD τ) a12 fullShare x12
      ∗ owns (c : Thread nD τ) a13 fullShare x13
      ∗ owns (c : Thread nD τ) a14 fullShare x14
      ∗ owns (c : Thread nD τ) a15 fullShare x15
      ∗ owns (c : Thread nD τ) a16 fullShare x16
      ∗ (∃ f, a17.view.loc (c : Thread nD τ) ↦[a17.view.set]{fullShare} a17.view.writes (Elt F) f L17)
      ∗ (∃ f, a18.view.loc (c : Thread nD τ) ↦[a18.view.set]{fullShare} a18.view.writes (Elt F) f L18)
      ∗ (∃ f, a19.view.loc (c : Thread nD τ) ↦[a19.view.set]{fullShare} a19.view.writes (Elt F) f L19)
      ∗ (∃ f, a20.view.loc (c : Thread nD τ) ↦[a20.view.set]{fullShare} a20.view.writes (Elt F) f L20)
      ∗ (∃ f, a21.view.loc (c : Thread nD τ) ↦[a21.view.set]{fullShare} a21.view.writes (Elt F) f L21)
      ∗ (∃ f, a22.view.loc (c : Thread nD τ) ↦[a22.view.set]{fullShare} a22.view.writes (Elt F) f L22)
      ∗ (∃ f, a23.view.loc (c : Thread nD τ) ↦[a23.view.set]{fullShare} a23.view.writes (Elt F) f L23)
      ∗ (∃ f, a24.view.loc (c : Thread nD τ) ↦[a24.view.set]{fullShare} a24.view.writes (Elt F) f L24)
      ∗ (∃ f, a25.view.loc (c : Thread nD τ) ↦[a25.view.set]{fullShare} a25.view.writes (Elt F) f L25)
      ∗ (∃ f, a26.view.loc (c : Thread nD τ) ↦[a26.view.set]{fullShare} a26.view.writes (Elt F) f L26)
      ∗ (∃ f, a27.view.loc (c : Thread nD τ) ↦[a27.view.set]{fullShare} a27.view.writes (Elt F) f L27)
      ∗ (∃ f, a28.view.loc (c : Thread nD τ) ↦[a28.view.set]{fullShare} a28.view.writes (Elt F) f L28)
      ∗ (∃ f, a29.view.loc (c : Thread nD τ) ↦[a29.view.set]{fullShare} a29.view.writes (Elt F) f L29)
      ∗ (∃ f, a30.view.loc (c : Thread nD τ) ↦[a30.view.set]{fullShare} a30.view.writes (Elt F) f L30)
      ∗ (∃ d, owns (c : Thread nD τ) scM0_0 fullShare d)) -∗ K ⟨⟩))
      ⊢ wp frame (wpE (defs₀ (F := F)) Variants.none c none) Set.univ (cc0_proj i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 scM0_0 (Memref.isWhole_whole _)) K := by
  have hc : (cond0_0 i ∧ ¬ cond0_1 i) ∨ (¬ cond0_0 i ∧ cond0_1 i) := by tauto
  rcases hc with ⟨hc0, hc1⟩ | ⟨hc0, hc1⟩
  all_goals
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, fun K => ?_⟩
    rotate_left 30
    ·
      simp only [cc0_proj_eq_skeleton]; unfold cc0_proj_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
      unfold owns
      iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%ds, %fs, -, HS⟩, Hk⟩
      obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h16.eq_unread e16
      sl_exec (disch := first | sl_exact hc0 | sl_exact hc1)
      sl_step
      iapply Hk
      isplitl [H0]; · (iexists _; isplitr; (· ipureintro; exact h0.read_unread _); iexact H0)
      isplitl [H1]; · (iexists _; isplitr; (· ipureintro; exact h1.read_unread _); iexact H1)
      isplitl [H2]; · (iexists _; isplitr; (· ipureintro; exact h2.read_unread _); iexact H2)
      isplitl [H3]; · (iexists _; isplitr; (· ipureintro; exact h3.read_unread _); iexact H3)
      isplitl [H4]; · (iexists _; isplitr; (· ipureintro; exact h4.read_unread _); iexact H4)
      isplitl [H5]; · (iexists _; isplitr; (· ipureintro; exact h5.read_unread _); iexact H5)
      isplitl [H6]; · (iexists _; isplitr; (· ipureintro; exact h6.read_unread _); iexact H6)
      isplitl [H7]; · (iexists _; isplitr; (· ipureintro; exact h7.read_unread _); iexact H7)
      isplitl [H8]; · (iexists _; isplitr; (· ipureintro; exact h8.read_unread _); iexact H8)
      isplitl [H9]; · (iexists _; isplitr; (· ipureintro; exact h9.read_unread _); iexact H9)
      isplitl [H10]; · (iexists _; isplitr; (· ipureintro; exact h10.read_unread _); iexact H10)
      isplitl [H11]; · (iexists _; isplitr; (· ipureintro; exact h11.read_unread _); iexact H11)
      isplitl [H12]; · (iexists _; isplitr; (· ipureintro; exact h12.read_unread _); iexact H12)
      isplitl [H13]; · (iexists _; isplitr; (· ipureintro; exact h13.read_unread _); iexact H13)
      isplitl [H14]; · (iexists _; isplitr; (· ipureintro; exact h14.read_unread _); iexact H14)
      isplitl [H15]; · (iexists _; isplitr; (· ipureintro; exact h15.read_unread _); iexact H15)
      isplitl [H16]; · (iexists _; isplitr; (· ipureintro; exact h16.read_unread _); iexact H16)
      isplitl [H17]; · (iexists _; iexact H17)
      isplitl [H18]; · (iexists _; iexact H18)
      isplitl [H19]; · (iexists _; iexact H19)
      isplitl [H20]; · (iexists _; iexact H20)
      isplitl [H21]; · (iexists _; iexact H21)
      isplitl [H22]; · (iexists _; iexact H22)
      isplitl [H23]; · (iexists _; iexact H23)
      isplitl [H24]; · (iexists _; iexact H24)
      isplitl [H25]; · (iexists _; iexact H25)
      isplitl [H26]; · (iexists _; iexact H26)
      isplitl [H27]; · (iexists _; iexact H27)
      isplitl [H28]; · (iexists _; iexact H28)
      isplitl [H29]; · (iexists _; iexact H29)
      isplitl [H30]; · (iexists _; iexact H30)
      iexists _; iexists _; isplitr; swap; (· iexact HS); ipureintro; rfl
    iterate 14 sl_kernel_rfl
    · refine (View.read_writes_full _ _ _ _ _).trans (congrArg₂ k0_pay37 (congrArg₂ k0_pay6 ?_ ?_) ?_)
      · refine (View.readCov_full _ _ _ _ _).trans ?_
        unfold tileRows
        first
        | exact (congrArg k0_pay4 ((View.readAt_full _ _ _).trans (h0.read_unread x0))).trans (if_pos hc0).symm
        | exact (congrArg k0_pay5 ((View.readAt_full _ _ _).trans (h1.read_unread x1))).trans (if_neg hc0).symm
      · exact (View.readAt_full _ _ _).trans (h2.read_unread x2)
      · exact funext fun y => congrFun (h3.read_unread x3) _
    · refine (View.read_writes_full _ _ _ _ _).trans (congrArg₂ k0_pay2 (congrArg₂ k0_pay6 ?_ ?_) ?_)
      · refine (View.readCov_full _ _ _ _ _).trans ?_
        unfold tileRows
        first
        | exact (congrArg k0_pay4 ((View.readAt_full _ _ _).trans (h0.read_unread x0))).trans (if_pos hc0).symm
        | exact (congrArg k0_pay5 ((View.readAt_full _ _ _).trans (h1.read_unread x1))).trans (if_neg hc0).symm
      · exact (View.readAt_full _ _ _).trans (h2.read_unread x2)
      · exact funext fun y => congrFun (h3.read_unread x3) _

set_option maxHeartbeats 3200000 in
/-- The body of a tile, from whole staging buffers: it gives the inputs back, and leaves its blocks. -/
theorem body_run (c : Dev nD) (i : grid0.Coords)
  (a0 : Memref sig .tc .vmem S256x1024 .f32) (h0 : a0.IsWhole)
  (a1 : Memref sig .tc .vmem S256x1024 .f32) (h1 : a1.IsWhole)
  (a2 : Memref sig .tc .vmem S1x1024 .f32) (h2 : a2.IsWhole)
  (a3 : Memref sig .tc .vmem S1024x3584 .bf16) (h3 : a3.IsWhole)
  (a4 : Memref sig .tc .vmem S1x128 .f32) (h4 : a4.IsWhole)
  (a5 : Memref sig .tc .vmem S1x128 .f32) (h5 : a5.IsWhole)
  (a6 : Memref sig .tc .vmem S1x128 .f32) (h6 : a6.IsWhole)
  (a7 : Memref sig .tc .vmem S1x128 .f32) (h7 : a7.IsWhole)
  (a8 : Memref sig .tc .vmem S1x128 .f32) (h8 : a8.IsWhole)
  (a9 : Memref sig .tc .vmem S1x1x128 .f32) (h9 : a9.IsWhole)
  (a10 : Memref sig .tc .vmem S1x1x128 .f32) (h10 : a10.IsWhole)
  (a11 : Memref sig .tc .vmem S1x256x128 .f32) (h11 : a11.IsWhole)
  (a12 : Memref sig .tc .vmem S1x256x128 .f32) (h12 : a12.IsWhole)
  (a13 : Memref sig .tc .vmem S1x1x128 .f32) (h13 : a13.IsWhole)
  (a14 : Memref sig .tc .vmem S1x1x128 .f32) (h14 : a14.IsWhole)
  (a15 : Memref sig .tc .vmem S1x256x128 .f32) (h15 : a15.IsWhole)
  (a16 : Memref sig .tc .vmem S1x256x128 .f32) (h16 : a16.IsWhole)
  (a17 : Memref sig .tc .vmem S8x256x128 .bf16) (h17 : a17.IsWhole)
  (a18 : Memref sig .tc .vmem S8x256x128 .bf16) (h18 : a18.IsWhole)
  (a19 : Memref sig .tc .vmem S256x128 .f32) (h19 : a19.IsWhole)
  (a20 : Memref sig .tc .vmem S256x128 .f32) (h20 : a20.IsWhole)
  (a21 : Memref sig .tc .vmem S256x128 .f32) (h21 : a21.IsWhole)
  (a22 : Memref sig .tc .vmem S256x128 .f32) (h22 : a22.IsWhole)
  (a23 : Memref sig .tc .vmem S256x128 .bf16) (h23 : a23.IsWhole)
  (a24 : Memref sig .tc .vmem S256x128 .bf16) (h24 : a24.IsWhole)
  (a25 : Memref sig .tc .vmem S256x128 .bf16) (h25 : a25.IsWhole)
  (a26 : Memref sig .tc .vmem S8x256x128 .bf16) (h26 : a26.IsWhole)
  (a27 : Memref sig .tc .vmem S256x512 .f32) (h27 : a27.IsWhole)
  (a28 : Memref sig .tc .vmem S256x512 .f32) (h28 : a28.IsWhole)
  (a29 : Memref sig .tc .vmem S256x512 .bf16) (h29 : a29.IsWhole)
  (a30 : Memref sig .tc .vmem S256x512 .bf16) (h30 : a30.IsWhole)
  (hx : cond0_0 i ↔ ¬ cond0_1 i)
  (x0 : Vec F S256x1024 .f32) (x1 : Vec F S256x1024 .f32) (x2 : Vec F S1x1024 .f32) (x3 : Vec F S1024x3584 .bf16) (x4 : Vec F S1x128 .f32)
  (x5 : Vec F S1x128 .f32) (x6 : Vec F S1x128 .f32) (x7 : Vec F S1x128 .f32) (x8 : Vec F S1x128 .f32) (x9 : Vec F S1x1x128 .f32)
  (x10 : Vec F S1x1x128 .f32) (x11 : Vec F S1x256x128 .f32) (x12 : Vec F S1x256x128 .f32) (x13 : Vec F S1x1x128 .f32) (x14 : Vec F S1x1x128 .f32)
  (x15 : Vec F S1x256x128 .f32) (x16 : Vec F S1x256x128 .f32) :
    ∃ O : Leaves F, O.va = k0_pay37 (k0_pay6 (tileRows i x0 x1) x2) (colsVa x3) ∧ O.vb = k0_pay2 (k0_pay6 (tileRows i x0 x1) x2) (colsVb x3) ∧
    ∀ K : PUnit → sProp 𝕄,
    iprop(owns (c : Thread nD τ) a0 fullShare x0
      ∗ owns (c : Thread nD τ) a1 fullShare x1
      ∗ owns (c : Thread nD τ) a2 fullShare x2
      ∗ owns (c : Thread nD τ) a3 fullShare x3
      ∗ owns (c : Thread nD τ) a4 fullShare x4
      ∗ owns (c : Thread nD τ) a5 fullShare x5
      ∗ owns (c : Thread nD τ) a6 fullShare x6
      ∗ owns (c : Thread nD τ) a7 fullShare x7
      ∗ owns (c : Thread nD τ) a8 fullShare x8
      ∗ owns (c : Thread nD τ) a9 fullShare x9
      ∗ owns (c : Thread nD τ) a10 fullShare x10
      ∗ owns (c : Thread nD τ) a11 fullShare x11
      ∗ owns (c : Thread nD τ) a12 fullShare x12
      ∗ owns (c : Thread nD τ) a13 fullShare x13
      ∗ owns (c : Thread nD τ) a14 fullShare x14
      ∗ owns (c : Thread nD τ) a15 fullShare x15
      ∗ owns (c : Thread nD τ) a16 fullShare x16
      ∗ (∃ d, owns (c : Thread nD τ) a17 fullShare d)
      ∗ (∃ d, owns (c : Thread nD τ) a18 fullShare d)
      ∗ (∃ d, owns (c : Thread nD τ) a19 fullShare d)
      ∗ (∃ d, owns (c : Thread nD τ) a20 fullShare d)
      ∗ (∃ d, owns (c : Thread nD τ) a21 fullShare d)
      ∗ (∃ d, owns (c : Thread nD τ) a22 fullShare d)
      ∗ (∃ d, owns (c : Thread nD τ) a23 fullShare d)
      ∗ (∃ d, owns (c : Thread nD τ) a24 fullShare d)
      ∗ (∃ d, owns (c : Thread nD τ) a25 fullShare d)
      ∗ (∃ d, owns (c : Thread nD τ) a26 fullShare d)
      ∗ (∃ d, owns (c : Thread nD τ) a27 fullShare d)
      ∗ (∃ d, owns (c : Thread nD τ) a28 fullShare d)
      ∗ (∃ d, owns (c : Thread nD τ) a29 fullShare d)
      ∗ (∃ d, owns (c : Thread nD τ) a30 fullShare d)
      ∗ (∃ d, owns (c : Thread nD τ) scM0_0 fullShare d)
      ∗ (iprop(owns (c : Thread nD τ) a0 fullShare x0
      ∗ owns (c : Thread nD τ) a1 fullShare x1
      ∗ owns (c : Thread nD τ) a2 fullShare x2
      ∗ owns (c : Thread nD τ) a3 fullShare x3
      ∗ owns (c : Thread nD τ) a4 fullShare x4
      ∗ owns (c : Thread nD τ) a5 fullShare x5
      ∗ owns (c : Thread nD τ) a6 fullShare x6
      ∗ owns (c : Thread nD τ) a7 fullShare x7
      ∗ owns (c : Thread nD τ) a8 fullShare x8
      ∗ owns (c : Thread nD τ) a9 fullShare x9
      ∗ owns (c : Thread nD τ) a10 fullShare x10
      ∗ owns (c : Thread nD τ) a11 fullShare x11
      ∗ owns (c : Thread nD τ) a12 fullShare x12
      ∗ owns (c : Thread nD τ) a13 fullShare x13
      ∗ owns (c : Thread nD τ) a14 fullShare x14
      ∗ owns (c : Thread nD τ) a15 fullShare x15
      ∗ owns (c : Thread nD τ) a16 fullShare x16
      ∗ owns (c : Thread nD τ) a17 fullShare O.q
      ∗ owns (c : Thread nD τ) a18 fullShare O.qi
      ∗ owns (c : Thread nD τ) a19 fullShare O.wi
      ∗ owns (c : Thread nD τ) a20 fullShare O.ka
      ∗ owns (c : Thread nD τ) a21 fullShare O.va
      ∗ owns (c : Thread nD τ) a22 fullShare O.ki
      ∗ owns (c : Thread nD τ) a23 fullShare O.kab
      ∗ owns (c : Thread nD τ) a24 fullShare O.vab
      ∗ owns (c : Thread nD τ) a25 fullShare O.ki2
      ∗ owns (c : Thread nD τ) a26 fullShare O.qb
      ∗ owns (c : Thread nD τ) a27 fullShare O.kb
      ∗ owns (c : Thread nD τ) a28 fullShare O.vb
      ∗ owns (c : Thread nD τ) a29 fullShare O.kbb
      ∗ owns (c : Thread nD τ) a30 fullShare O.vbb
      ∗ (∃ d, owns (c : Thread nD τ) scM0_0 fullShare d)) -∗ K ⟨⟩))
      ⊢ wp frame (wpE (defs₀ (F := F)) Variants.none c none) Set.univ (cc0_proj i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 scM0_0 (Memref.isWhole_whole _)) K := by
  obtain ⟨L17, L18, L19, L20, L21, L22, L23, L24, L25, L26, L27, L28, L29, L30, t17, t18, t19, t20, t21, t22, t23, t24, t25, t26, t27, t28, t29, t30, hva, hvb, hrun⟩ :=
    body_pieces (F := F) c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 hx x0 x1 x2 x3 x4 x5 x6 x7 x8 x9 x10 x11 x12 x13 x14 x15 x16
  refine ⟨⟨a17.view.read (Elt F) (a17.view.writes (Elt F) a17.view.junk L17), a18.view.read (Elt F) (a18.view.writes (Elt F) a18.view.junk L18), a19.view.read (Elt F) (a19.view.writes (Elt F) a19.view.junk L19), a20.view.read (Elt F) (a20.view.writes (Elt F) a20.view.junk L20), a21.view.read (Elt F) (a21.view.writes (Elt F) a21.view.junk L21), a22.view.read (Elt F) (a22.view.writes (Elt F) a22.view.junk L22), a23.view.read (Elt F) (a23.view.writes (Elt F) a23.view.junk L23), a24.view.read (Elt F) (a24.view.writes (Elt F) a24.view.junk L24), a25.view.read (Elt F) (a25.view.writes (Elt F) a25.view.junk L25), a26.view.read (Elt F) (a26.view.writes (Elt F) a26.view.junk L26), a27.view.read (Elt F) (a27.view.writes (Elt F) a27.view.junk L27), a28.view.read (Elt F) (a28.view.writes (Elt F) a28.view.junk L28), a29.view.read (Elt F) (a29.view.writes (Elt F) a29.view.junk L29), a30.view.read (Elt F) (a30.view.writes (Elt F) a30.view.junk L30)⟩, hva, hvb, fun K => ?_⟩
  iintro ⟨H0, H1, H2, H3, H4, H5, H6, H7, H8, H9, H10, H11, H12, H13, H14, H15, H16, H17, H18, H19, H20, H21, H22, H23, H24, H25, H26, H27, H28, H29, H30, HS, Hk⟩
  iapply (hrun K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [HS]; · iexact HS
  iintro ⟨H0, H1, H2, H3, H4, H5, H6, H7, H8, H9, H10, H11, H12, H13, H14, H15, H16, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, HS⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · (unfold owns; iexists _; isplitr; swap; (· iexact H17); ipureintro; exact tiled _ _ _ _ t17)
  isplitl [H18]; · (unfold owns; iexists _; isplitr; swap; (· iexact H18); ipureintro; exact tiled _ _ _ _ t18)
  isplitl [H19]; · (unfold owns; iexists _; isplitr; swap; (· iexact H19); ipureintro; exact tiled _ _ _ _ t19)
  isplitl [H20]; · (unfold owns; iexists _; isplitr; swap; (· iexact H20); ipureintro; exact tiled _ _ _ _ t20)
  isplitl [H21]; · (unfold owns; iexists _; isplitr; swap; (· iexact H21); ipureintro; exact tiled _ _ _ _ t21)
  isplitl [H22]; · (unfold owns; iexists _; isplitr; swap; (· iexact H22); ipureintro; exact tiled _ _ _ _ t22)
  isplitl [H23]; · (unfold owns; iexists _; isplitr; swap; (· iexact H23); ipureintro; exact tiled _ _ _ _ t23)
  isplitl [H24]; · (unfold owns; iexists _; isplitr; swap; (· iexact H24); ipureintro; exact tiled _ _ _ _ t24)
  isplitl [H25]; · (unfold owns; iexists _; isplitr; swap; (· iexact H25); ipureintro; exact tiled _ _ _ _ t25)
  isplitl [H26]; · (unfold owns; iexists _; isplitr; swap; (· iexact H26); ipureintro; exact tiled _ _ _ _ t26)
  isplitl [H27]; · (unfold owns; iexists _; isplitr; swap; (· iexact H27); ipureintro; exact tiled _ _ _ _ t27)
  isplitl [H28]; · (unfold owns; iexists _; isplitr; swap; (· iexact H28); ipureintro; exact tiled _ _ _ _ t28)
  isplitl [H29]; · (unfold owns; iexists _; isplitr; swap; (· iexact H29); ipureintro; exact tiled _ _ _ _ t29)
  isplitl [H30]; · (unfold owns; iexists _; isplitr; swap; (· iexact H30); ipureintro; exact tiled _ _ _ _ t30)
  iexact HS

end Inputs
end
-- ==== Proof.Inputs.Frame.lean ====
/-
  The projection call runs: every tile's body gives its inputs back and leaves its fourteen blocks, so the call terminates, its
  arguments end unchanged and no semaphore is left raised.
-/
module
public import proofs.«01_k».proof.Proof.Inputs.Body
public import Idealize.ShloMosaic.Lib.Claim

@[expose] public section

set_option maxRecDepth 16384

noncomputable section

namespace Inputs

open Cert.InputsIdeal Cert.InputsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A tile is either one of the prompt's or the samples'. -/
theorem one_case (t : Fin cfg0.N) : cond0_0 (grid0.coords t) ↔ ¬ cond0_1 (grid0.coords t) := by
  rw [hcond0_0 t, hcond0_1 t]
  have hN : t.val < 65 := lt_of_lt_of_eq t.isLt (show cfg0.N = 65 from N_0)
  omega

/-- The run of tile `t`'s body over its inputs' blocks. -/
abbrev tile (c : Dev nD) (t : Fin cfg0.N) :=
  body_run (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (one_case t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- What tile `t` leaves in its blocks. -/
def leaves (c : Dev nD) (t : Fin cfg0.N) : Leaves F := (tile m c t).choose

/-- What the arrays hold when the call starts, and what each tile's body leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (leaves m c t).q
    | ⟨18, _⟩ => (leaves m c t).qi
    | ⟨19, _⟩ => (leaves m c t).wi
    | ⟨20, _⟩ => (leaves m c t).ka
    | ⟨21, _⟩ => (leaves m c t).va
    | ⟨22, _⟩ => (leaves m c t).ki
    | ⟨23, _⟩ => (leaves m c t).kab
    | ⟨24, _⟩ => (leaves m c t).vab
    | ⟨25, _⟩ => (leaves m c t).ki2
    | ⟨26, _⟩ => (leaves m c t).qb
    | ⟨27, _⟩ => (leaves m c t).kb
    | ⟨28, _⟩ => (leaves m c t).vb
    | ⟨29, _⟩ => (leaves m c t).kbb
    | ⟨30, _⟩ => (leaves m c t).vbb
    | ⟨_ + 31, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-- What a tile's body is given. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t))

set_option maxHeartbeats 6400000 in
/-- The body at any tile: `body_run` over the inputs' blocks. -/
theorem sound_body (c : Dev nD) (t : Fin cfg0.N) :
    bodyPre m c t ⊢ wp frame (wpE (defs₀ (F := F)) Variants.none c none) Set.univ (bodyAt0 t) (fun _ => bodyPost m c t) := by
  have hrun := (tile m c t).choose_spec.2.2
  change ∀ K : PUnit → sProp 𝕄, _ at hrun
  unfold bodyPre bodyPost bodyAt0
  simp only [before0_0_of m (dats m 0 c) (A_eq m c 0) (fun _ => by dsimp only [dats]) t, before0_1_of m (dats m 0 c) (A_eq m c 1) (fun _ => by dsimp only [dats]) t, before0_2_of m (dats m 0 c) (A_eq m c 2) (fun _ => by dsimp only [dats]) t, before0_3_of m (dats m 0 c) (A_eq m c 3) (fun _ => by dsimp only [dats]) t, before0_4_of m (dats m 0 c) (A_eq m c 4) (fun _ => by dsimp only [dats]) t, before0_5_of m (dats m 0 c) (A_eq m c 5) (fun _ => by dsimp only [dats]) t, before0_6_of m (dats m 0 c) (A_eq m c 6) (fun _ => by dsimp only [dats]) t, before0_7_of m (dats m 0 c) (A_eq m c 7) (fun _ => by dsimp only [dats]) t, before0_8_of m (dats m 0 c) (A_eq m c 8) (fun _ => by dsimp only [dats]) t, before0_9_of m (dats m 0 c) (A_eq m c 9) (fun _ => by dsimp only [dats]) t, before0_10_of m (dats m 0 c) (A_eq m c 10) (fun _ => by dsimp only [dats]) t, before0_11_of m (dats m 0 c) (A_eq m c 11) (fun _ => by dsimp only [dats]) t, before0_12_of m (dats m 0 c) (A_eq m c 12) (fun _ => by dsimp only [dats]) t, before0_13_of m (dats m 0 c) (A_eq m c 13) (fun _ => by dsimp only [dats]) t, before0_14_of m (dats m 0 c) (A_eq m c 14) (fun _ => by dsimp only [dats]) t, before0_15_of m (dats m 0 c) (A_eq m c 15) (fun _ => by dsimp only [dats]) t, before0_16_of m (dats m 0 c) (A_eq m c 16) (fun _ => by dsimp only [dats]) t]
  rw [show (dats m 0 c).Φ t.succ = (dats m 0 c).Φ t.castSucc from rfl,
    show (dats m 0 c).owesAt () t.succ = (dats m 0 c).owesAt () t.castSucc from rfl,
    show (dats m 0 c).after 0 t = iblk m c 0 t from by dsimp only [dats], show (dats m 0 c).after 1 t = iblk m c 1 t from by dsimp only [dats], show (dats m 0 c).after 2 t = iblk m c 2 t from by dsimp only [dats], show (dats m 0 c).after 3 t = iblk m c 3 t from by dsimp only [dats], show (dats m 0 c).after 4 t = iblk m c 4 t from by dsimp only [dats], show (dats m 0 c).after 5 t = iblk m c 5 t from by dsimp only [dats], show (dats m 0 c).after 6 t = iblk m c 6 t from by dsimp only [dats], show (dats m 0 c).after 7 t = iblk m c 7 t from by dsimp only [dats], show (dats m 0 c).after 8 t = iblk m c 8 t from by dsimp only [dats], show (dats m 0 c).after 9 t = iblk m c 9 t from by dsimp only [dats], show (dats m 0 c).after 10 t = iblk m c 10 t from by dsimp only [dats], show (dats m 0 c).after 11 t = iblk m c 11 t from by dsimp only [dats], show (dats m 0 c).after 12 t = iblk m c 12 t from by dsimp only [dats], show (dats m 0 c).after 13 t = iblk m c 13 t from by dsimp only [dats], show (dats m 0 c).after 14 t = iblk m c 14 t from by dsimp only [dats], show (dats m 0 c).after 15 t = iblk m c 15 t from by dsimp only [dats], show (dats m 0 c).after 16 t = iblk m c 16 t from by dsimp only [dats], show (dats m 0 c).after 17 t = (leaves m c t).q from by dsimp only [dats], show (dats m 0 c).after 18 t = (leaves m c t).qi from by dsimp only [dats], show (dats m 0 c).after 19 t = (leaves m c t).wi from by dsimp only [dats], show (dats m 0 c).after 20 t = (leaves m c t).ka from by dsimp only [dats], show (dats m 0 c).after 21 t = (leaves m c t).va from by dsimp only [dats], show (dats m 0 c).after 22 t = (leaves m c t).ki from by dsimp only [dats], show (dats m 0 c).after 23 t = (leaves m c t).kab from by dsimp only [dats], show (dats m 0 c).after 24 t = (leaves m c t).vab from by dsimp only [dats], show (dats m 0 c).after 25 t = (leaves m c t).ki2 from by dsimp only [dats], show (dats m 0 c).after 26 t = (leaves m c t).qb from by dsimp only [dats], show (dats m 0 c).after 27 t = (leaves m c t).kb from by dsimp only [dats], show (dats m 0 c).after 28 t = (leaves m c t).vb from by dsimp only [dats], show (dats m 0 c).after 29 t = (leaves m c t).kbb from by dsimp only [dats], show (dats m 0 c).after 30 t = (leaves m c t).vbb from by dsimp only [dats],
    show (dats m 0 c).Φ t.castSucc = Pipeline.ΦA spec0 c from rfl, PhiA0_eq]
  unfold leaves
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [HS]; · iexact HS
  iintro ⟨H0, H1, H2, H3, H4, H5, H6, H7, H8, H9, H10, H11, H12, H13, H14, H15, H16, H17, H18, H19, H20, H21, H22, H23, H24, H25, H26, H27, H28, H29, H30, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

/-- The tile's row of the body table is its body. -/
theorem row (t : Fin cfg0.N) : defs₀ (F := F) .tc cfg0.body (cfg0.bodyArgs t (cfg0.slots t)) = bodyAt0 t := by
  unfold defs₀; rw [Defs.onTc_tc]

set_option maxHeartbeats 1600000 in
/-- Every tile's body does what the pipeline asks of it. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
set_option maxHeartbeats 800000 in
/-- The launch: what every array holds at the end, and no counter left raised. -/
theorem launched : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The call's arguments end unchanged, and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (launched m ρ)))
    ((θ_run defs _ _).mono (fun _ h => h.2) (launched m ρ))

end Inputs
end
-- ==== Proof.Inputs.Host.lean ====
/-
  What the projection call finds in its arrays: the rows of the prompt and of the samples, the scale, and the columns of the weights
  that give the values, where the program has packed them.
-/
module
public import proofs.«01_k».proof.Proof.Gen.InputsIdeal.Frame.Runs
public import Idealize.ShloMosaic.Lib.StableHlo.RunRead
public import Idealize.ShloMosaic.Lib.Pointwise
public import Idealize.ShloMosaic.Lib.Pipeline.Value

@[expose] public section

set_option maxRecDepth 16384

noncomputable section

namespace Inputs

open Cert.InputsIdeal Cert.InputsIdeal.Gen
open Idealize.ShloMosaic Idealize.ShloMosaic.TcCoe

variable (m : (ℓ : Loc nD τ sig) → Buf (Elt Ideal) ℓ) (c : Dev nD)

/-- The arguments, at their literal types. -/
def prompt : FVec Ideal S1x16384x1024 .f32 := m ((c : Thread nD τ).loc main_arg0)
def samples : FVec Ideal S16x16x1024 .f32 := m ((c : Thread nD τ).loc main_arg1)
def state : FVec Ideal S1x16x512x8x64 .f32 := m ((c : Thread nD τ).loc main_arg2)
def scale : FVec Ideal S1x1024 .f32 := m ((c : Thread nD τ).loc main_arg3)
def weights : FVec Ideal S1x1024x5448 .f32 := m ((c : Thread nD τ).loc main_arg4)

/-- Rounding changes nothing here. -/
theorem rounded_at {s : Shape} (X : FVec Ideal s .f32) (i : s.Idx) : truncf .bf16 X bitsLt_bf16_f32 i = X i := rfl

theorem prompt_rows : V m c main_v8 = shapeCast S16384x1024 (prompt m c) shapeCasts_S1x16384x1024_S16384x1024 := by
  after_reads_simp
  rfl

theorem sample_rows : V m c main_v9 = shapeCast S256x1024 (samples m c) shapeCasts_S16x16x1024_S256x1024 := by
  after_reads_simp
  rfl

theorem scale_row : V m c main_v87 = shapeCast S1x1024 (shapeCast S1024 (scale m c) shapeCasts_S1x1024_S1024) shapeCasts_S1024_S1x1024 := by
  after_reads_simp
  rfl

theorem state_rows : V m c main_v0 = shapeCast S16x512x8x64 (state m c) shapeCasts_S1x16x512x8x64_S16x512x8x64 := by
  after_reads_simp
  rfl

theorem prompt_at (n : Fin 16384) (k : Fin 1024) : (V m c main_v8 : S16384x1024.Idx → EReal) (ix2 n k) = prompt m c (ix3 0 n k) := by
  rw [prompt_rows]
  pointwise

theorem sample_at (b n : Fin 16) (k : Fin 1024) : (V m c main_v9 : S256x1024.Idx → EReal) (ix2 ⟨b.val * 16 + n.val, by have := b.isLt; have := n.isLt; omega⟩ k)
    = samples m c (ix3 b n k) := by
  rw [sample_rows]
  pointwise

theorem scale_at (k : Fin 1024) : (V m c main_v87 : S1x1024.Idx → EReal) (ix2 0 k) = scale m c (ix2 0 k) := by
  rw [scale_row]
  pointwise

theorem third_at (w : FVec Ideal S1x1024x5448 .f32) (k : Fin 1024) (d : Fin 128) :
    extractStridedSlice S1024x128 ![0, 1152] (shapeCast S1024x5448 w shapeCasts_S1x1024x5448_S1024x5448) slices_S1024x5448_S1024x128_0_1152 (ix2 k d)
      = w (ix3 0 k ⟨1152 + d.val, by have := d.isLt; omega⟩) := by
  pointwise

theorem last_at (w : FVec Ideal S1x1024x5448 .f32) (k : Fin 1024) (d : Fin 512) :
    extractStridedSlice S1024x512 ![0, 2888] (shapeCast S1024x5448 w shapeCasts_S1x1024x5448_S1024x5448) slices_S1024x5448_S1024x512_0_2888 (ix2 k d)
      = w (ix3 0 k ⟨2888 + d.val, by have := d.isLt; omega⟩) := by
  pointwise

/-- The packed weights: nine pieces side by side, rounded. -/
def packed (p0 : FVec Ideal S1024x1024 .f32) (p1 : FVec Ideal S1024x128 .f32) (p2 : FVec Ideal S1024x128 .f32) (p3 : FVec Ideal S1024x512 .f32) (p4 : FVec Ideal S1024x128 .f32) (p5 : FVec Ideal S1024x128 .f32) (p6 : FVec Ideal S1024x512 .f32) (p7 : FVec Ideal S1024x512 .f32) (p8 : FVec Ideal S1024x512 .f32) : FVec Ideal S1024x3584 .bf16 :=
  truncf .bf16 (concatenate S1024x3584 1 [⟨S1024x1024, p0⟩, ⟨S1024x128, p1⟩, ⟨S1024x128, p2⟩, ⟨S1024x512, p3⟩, ⟨S1024x128, p4⟩, ⟨S1024x128, p5⟩, ⟨S1024x512, p6⟩, ⟨S1024x512, p7⟩, ⟨S1024x512, p8⟩] concatenates_S1024x1024_S1024x128_S1024x128_S1024x512_S1024x128_S1024x128_S1024x512_S1024x512_S1024x512_S1024x3584_d1) bitsLt_bf16_f32

section
variable (p0 : FVec Ideal S1024x1024 .f32) (p1 : FVec Ideal S1024x128 .f32) (p2 : FVec Ideal S1024x128 .f32) (p3 : FVec Ideal S1024x512 .f32) (p4 : FVec Ideal S1024x128 .f32) (p5 : FVec Ideal S1024x128 .f32) (p6 : FVec Ideal S1024x512 .f32) (p7 : FVec Ideal S1024x512 .f32) (p8 : FVec Ideal S1024x512 .f32)

/-- The third piece is the columns from 1152. -/
theorem packed_third (k : Fin 1024) (d : Fin 128) : packed p0 p1 p2 p3 p4 p5 p6 p7 p8 (ix2 k ⟨1152 + d.val, by have := d.isLt; omega⟩) = p2 (ix2 k d) := by
  refine (rounded_at _ _).trans ?_
  refine concatenate_apply_piece (t := S1024x3584) (1 : Fin 2) _ _ _ 2 (by exact (by decide : 2 < 9)) S1024x128 _ (by rfl) rfl 1152 (by rfl) (ix2 k d) ?_ ?_
  · intro b hb
    match b with
    | ⟨0, _⟩ => rfl
    | ⟨1, _⟩ => exact absurd rfl hb
  · rfl

/-- The last piece is the columns from 3072. -/
theorem packed_last (k : Fin 1024) (d : Fin 512) : packed p0 p1 p2 p3 p4 p5 p6 p7 p8 (ix2 k ⟨3072 + d.val, by have := d.isLt; omega⟩) = p8 (ix2 k d) := by
  refine (rounded_at _ _).trans ?_
  refine concatenate_apply_piece (t := S1024x3584) (1 : Fin 2) _ _ _ 8 (by exact (by decide : 8 < 9)) S1024x512 _ (by rfl) rfl 3072 (by rfl) (ix2 k d) ?_ ?_
  · intro b hb
    match b with
    | ⟨0, _⟩ => rfl
    | ⟨1, _⟩ => exact absurd rfl hb
  · rfl

end

/-- The packed weights' columns from 1152 are the weights' own there. -/
theorem packed_va (k : Fin 1024) (d : Fin 128) :
    (V m c main_v22 : S1024x3584.Idx → EReal) (ix2 k ⟨1152 + d.val, by have := d.isLt; omega⟩) = weights m c (ix3 0 k ⟨1152 + d.val, by have := d.isLt; omega⟩) := by
  after_reads_simp
  refine (packed_third _ _ _ _ _ _ _ _ _ k d).trans ?_
  change StableHlo.upto _ _ 27 (Proc.devRef .tc main_v12) _ = _
  after_reads_simp
  exact third_at (weights m c) k d

/-- The packed weights' last columns, from 3072, are the weights' from 2888. -/
theorem packed_vb (k : Fin 1024) (d : Fin 512) :
    (V m c main_v22 : S1024x3584.Idx → EReal) (ix2 k ⟨3072 + d.val, by have := d.isLt; omega⟩) = weights m c (ix3 0 k ⟨2888 + d.val, by have := d.isLt; omega⟩) := by
  after_reads_simp
  refine (packed_last _ _ _ _ _ _ _ _ _ k d).trans ?_
  change StableHlo.upto _ _ 27 (Proc.devRef .tc main_v18) _ = _
  after_reads_simp
  exact last_at (weights m c) k d

end Inputs
end
-- ==== Proof.Inputs.Row.lean ====
/-
  One row of the layer's input: normalized, scaled, and projected on one column of the weights.
-/
module
public import proofs.«01_k».proof.Proof.Gen.InputsIdeal.Skeleton
public import proofs.«01_k».proof.Proof.Gen.InputsReferenceIdeal
public import Idealize.ShloMosaic.Lib.Pointwise
public import Idealize.ShloMosaic.Lib.Pipeline.Value

@[expose] public section

set_option maxRecDepth 16384

noncomputable section

namespace Inputs

open Idealize.ShloMosaic Idealize.ShloMosaic.TcCoe

/-- A row's normalized and scaled column. -/
def mixed (x g : Fin 1024 → EReal) (k : Fin 1024) : EReal :=
  x k * FloatOps.rsqrt (F := Ideal) (φ := .f32) (Ideal.div (∑ k : Fin 1024, x k * x k) (Ideal.ofBits .f32 0x44800000#32) + Ideal.ofBits .f32 0x358637BD#32) * g k

/-- A row's projection on one column of the weights. -/
def projected (x g w : Fin 1024 → EReal) : EReal := ∑ k : Fin 1024, mixed x g k * w k

section Kernel
open Cert.InputsIdeal Cert.InputsIdeal.Gen

theorem mixed_at (x : Vec Ideal S256x1024 .f32) (g : Vec Ideal S1x1024 .f32) (r : Fin 256) (k : Fin 1024) :
    k0_pay6 x g (ix2 r k) = mixed (fun k => x (ix2 r k)) (fun k => g (ix2 0 k)) k := by
  unfold mixed
  pointwise [k0_pay6]

theorem va_at (h : FVec Ideal S256x1024 .bf16) (w : Vec Ideal S1024x128 .bf16) (r : Fin 256) (j : Fin 128) :
    k0_pay37 h w (ix2 r j) = ∑ k : Fin 1024, h (ix2 r k) * w (ix2 k j) := by
  pointwise [k0_pay37]

theorem vb_at (h : FVec Ideal S256x1024 .bf16) (w : Vec Ideal S1024x512 .bf16) (r : Fin 256) (j : Fin 512) :
    k0_pay2 h w (ix2 r j) = ∑ k : Fin 1024, h (ix2 r k) * w (ix2 k j) := by
  pointwise [k0_pay2]

/-- What the program makes of the first attention's values, of all the rows. -/
def firstOut (A : FVec Ideal S16640x128 .f32) : FVec Ideal S1x1x16384x1x128 .f32 :=
  broadcastInDim S1x1x16384x1x128 ![1, 2, 3, 4] bcast_S1x16384x1x128_S1x1x16384x1x128_1_2_3_4 (shapeCast _ (extractStridedSlice S16384x128 ![0, 0] A slices_S16640x128_S16384x128_0_0) shapeCasts_S16384x128_S1x16384x1x128)

def firstOutS (A : FVec Ideal S16640x128 .f32) : FVec Ideal S1x16x16x1x128 .f32 :=
  broadcastInDim S1x16x16x1x128 ![1, 2, 3, 4] bcast_S16x16x1x128_S1x16x16x1x128_1_2_3_4 (shapeCast _ (extractStridedSlice S256x128 ![16384, 0] A slices_S16640x128_S256x128_16384_0) shapeCasts_S256x128_S16x16x1x128)

/-- What it makes of the second attention's. -/
def secondOut (B : FVec Ideal S16640x512 .f32) : FVec Ideal S1x1x512x8x64 .f32 :=
  broadcastInDim S1x1x512x8x64 ![1, 2, 3, 4] bcast_S1x512x8x64_S1x1x512x8x64_1_2_3_4 (shapeCast _ (extractStridedSlice S512x512 ![15872, 0] B slices_S16640x512_S512x512_15872_0) shapeCasts_S512x512_S1x512x8x64)

def fresh (B : FVec Ideal S16640x512 .f32) : FVec Ideal S16x16x8x64 .f32 :=
  shapeCast _ (extractStridedSlice S256x512 ![16384, 0] B slices_S16640x512_S256x512_16384_0) shapeCasts_S256x512_S16x16x8x64

theorem firstOut_at (A : FVec Ideal S16640x128 .f32) (n : Fin 16384) (d : Fin 128) :
    firstOut A (ix5 0 0 n 0 d) = A (ix2 ⟨n.val, by have := n.isLt; omega⟩ d) := by
  pointwise [firstOut]

theorem firstOutS_at (A : FVec Ideal S16640x128 .f32) (b n : Fin 16) (d : Fin 128) :
    firstOutS A (ix5 0 b n 0 d) = A (ix2 ⟨16384 + (b.val * 16 + n.val), by have := n.isLt; have := b.isLt; omega⟩ d) := by
  pointwise [firstOutS]

theorem secondOut_at (B : FVec Ideal S16640x512 .f32) (n : Fin 512) (h : Fin 8) (e : Fin 64) :
    secondOut B (ix5 0 0 n h e) = B (ix2 ⟨15872 + n.val, by have := n.isLt; omega⟩ ⟨h.val * 64 + e.val, by have := h.isLt; have := e.isLt; omega⟩) := by
  pointwise [secondOut]

theorem fresh_at (B : FVec Ideal S16640x512 .f32) (b n : Fin 16) (h : Fin 8) (e : Fin 64) :
    fresh B (ix4 b n h e) = B (ix2 ⟨16384 + (b.val * 16 + n.val), by have := n.isLt; have := b.isLt; omega⟩ ⟨h.val * 64 + e.val, by have := h.isLt; have := e.isLt; omega⟩) := by
  pointwise [fresh]

end Kernel

section Reference
open Cert.InputsReferenceIdeal Cert.InputsReferenceIdeal.Gen

/-- The reference's projection of the prompt's rows on every column, and of the samples'. -/
def allP (x : FVec Ideal S1x16384x1024 .f32) (g : FVec Ideal S1x1024 .f32) (w : FVec Ideal S1x1024x5448 .f32) : FVec Ideal S1x16384x5448 .f32 :=
  Host.dotGeneral dot_S1x16384x1024_S1024x5448_S1x16384x5448_2_0_01_1_n_n none (mulf (mulf x (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf x x) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 (shapeCast _ g shapeCasts_S1x1024_S1024)))) (shapeCast _ w shapeCasts_S1x1024x5448_S1024x5448)

def allS (x : FVec Ideal S16x16x1024 .f32) (g : FVec Ideal S1x1024 .f32) (w : FVec Ideal S1x1024x5448 .f32) : FVec Ideal S16x16x5448 .f32 :=
  Host.dotGeneral dot_S16x16x1024_S1024x5448_S16x16x5448_2_0_01_1_n_n none (mulf (mulf x (broadcastInDim S16x16x1024 ![0, 1, 2] bcast_S16x16x1_S16x16x1024_0_1_2 (Host.rsqrt (addf (Host.divf (broadcastInDim S16x16x1 ![0, 1] bcast_S16x16_S16x16x1_0_1 (Host.reduceAdd (mulf x x) (constant S_ .f32 0x00000000#32) reducesTo_S16x16x1024_S16x16_d2 h_S_)) (broadcastInDim S16x16x1 ![] bcast_S_S16x16x1 (constant S_ .f32 0x44800000#32))) (broadcastInDim S16x16x1 ![] bcast_S_S16x16x1 (constant S_ .f32 0x358637BD#32)))))) (broadcastInDim S16x16x1024 ![0, 1, 2] bcast_S1x1x1024_S16x16x1024_0_1_2 (broadcastInDim S1x1x1024 ![2] bcast_S1024_S1x1x1024_2 (shapeCast _ g shapeCasts_S1x1024_S1024)))) (shapeCast _ w shapeCasts_S1x1024x5448_S1024x5448)

theorem allP_at (x : FVec Ideal S1x16384x1024 .f32) (g : FVec Ideal S1x1024 .f32) (w : FVec Ideal S1x1024x5448 .f32) (n : Fin 16384) (j : Fin 5448) :
    allP x g w (ix3 0 n j) = projected (fun k => x (ix3 0 n k)) (fun k => g (ix2 0 k)) (fun k => w (ix3 0 k j)) := by
  unfold projected mixed
  pointwise [allP]

theorem allS_at (x : FVec Ideal S16x16x1024 .f32) (g : FVec Ideal S1x1024 .f32) (w : FVec Ideal S1x1024x5448 .f32) (b n : Fin 16) (j : Fin 5448) :
    allS x g w (ix3 b n j) = projected (fun k => x (ix3 b n k)) (fun k => g (ix2 0 k)) (fun k => w (ix3 0 k j)) := by
  unfold projected mixed
  pointwise [allS]

/-- The reference's results in these. -/
def firstRef (P : FVec Ideal S1x16384x5448 .f32) : FVec Ideal S1x1x16384x1x128 .f32 :=
  broadcastInDim S1x1x16384x1x128 ![1, 2, 3, 4] bcast_S1x16384x1x128_S1x1x16384x1x128_1_2_3_4 (shapeCast _ (extractStridedSlice S1x16384x128 ![0, 0, 1152] P slices_S1x16384x5448_S1x16384x128_0_0_1152) shapeCasts_S1x16384x128_S1x16384x1x128)

def firstRefS (P : FVec Ideal S16x16x5448 .f32) : FVec Ideal S1x16x16x1x128 .f32 :=
  broadcastInDim S1x16x16x1x128 ![1, 2, 3, 4] bcast_S16x16x1x128_S1x16x16x1x128_1_2_3_4 (shapeCast _ (extractStridedSlice S16x16x128 ![0, 0, 1152] P slices_S16x16x5448_S16x16x128_0_0_1152) shapeCasts_S16x16x128_S16x16x1x128)

def secondRef (P : FVec Ideal S1x16384x5448 .f32) : FVec Ideal S1x1x512x8x64 .f32 :=
  broadcastInDim S1x1x512x8x64 ![1, 2, 3, 4] bcast_S1x512x8x64_S1x1x512x8x64_1_2_3_4 (extractStridedSlice S1x512x8x64 ![0, 15872, 0, 0] (shapeCast S1x16384x8x64 (extractStridedSlice S1x16384x512 ![0, 0, 2888] P slices_S1x16384x5448_S1x16384x512_0_0_2888) shapeCasts_S1x16384x512_S1x16384x8x64) slices_S1x16384x8x64_S1x512x8x64_0_15872_0_0)

def freshRef (P : FVec Ideal S16x16x5448 .f32) : FVec Ideal S16x16x8x64 .f32 :=
  shapeCast _ (extractStridedSlice S16x16x512 ![0, 0, 2888] P slices_S16x16x5448_S16x16x512_0_0_2888) shapeCasts_S16x16x512_S16x16x8x64

theorem firstRef_at (P : FVec Ideal S1x16384x5448 .f32) (n : Fin 16384) (d : Fin 128) :
    firstRef P (ix5 0 0 n 0 d) = P (ix3 0 n ⟨1152 + d.val, by have := d.isLt; omega⟩) := by
  pointwise [firstRef]

theorem firstRefS_at (P : FVec Ideal S16x16x5448 .f32) (b n : Fin 16) (d : Fin 128) :
    firstRefS P (ix5 0 b n 0 d) = P (ix3 b n ⟨1152 + d.val, by have := d.isLt; omega⟩) := by
  pointwise [firstRefS]

theorem secondRef_at (P : FVec Ideal S1x16384x5448 .f32) (n : Fin 512) (h : Fin 8) (e : Fin 64) :
    secondRef P (ix5 0 0 n h e) = P (ix3 0 ⟨15872 + n.val, by have := n.isLt; omega⟩ ⟨2888 + (h.val * 64 + e.val), by have := h.isLt; have := e.isLt; omega⟩) := by
  pointwise [secondRef]

theorem freshRef_at (P : FVec Ideal S16x16x5448 .f32) (b n : Fin 16) (h : Fin 8) (e : Fin 64) :
    freshRef P (ix4 b n h e) = P (ix3 b n ⟨2888 + (h.val * 64 + e.val), by have := h.isLt; have := e.isLt; omega⟩) := by
  pointwise [freshRef]

end Reference

end Inputs
end
-- ==== Proof.Inputs.Value.lean ====
/-
  The values after the projection call: every row of the prompt and of the samples, normalized, scaled and projected on the
  values' columns; and that the program's four results are the reference's.
-/
module
public import proofs.«01_k».proof.Proof.Inputs.Frame
public import proofs.«01_k».proof.Proof.Inputs.Host
public import proofs.«01_k».proof.Proof.Inputs.Row

@[expose] public section

set_option maxRecDepth 16384

noncomputable section

namespace Inputs

open Cert.InputsIdeal Cert.InputsIdeal.Gen
open Idealize.ShloMosaic Idealize.ShloMosaic.TcCoe Idealize.SL.Sem

/-! ## The blocks of a tile -/

theorem prompt_index : ∀ t : Fin grid0.N, cc0_transform_0 (grid0.coords t) = ![min t.val 63, 0] := by decide +kernel
theorem sample_index : ∀ t : Fin grid0.N, cc0_transform_1 (grid0.coords t) = ![0, 0] := by decide +kernel
theorem scale_index : ∀ t : Fin grid0.N, cc0_transform_2 (grid0.coords t) = ![0, 0] := by decide +kernel
theorem weights_index : ∀ t : Fin grid0.N, cc0_transform_3 (grid0.coords t) = ![0, 0] := by decide +kernel
theorem va_index : ∀ t : Fin grid0.N, cc0_transform_21 (grid0.coords t) = ![t.val, 0] := by decide +kernel
theorem vb_index : ∀ t : Fin grid0.N, cc0_transform_28 (grid0.coords t) = ![t.val, 0] := by decide +kernel

theorem tile_lt (t : Fin cfg0.N) : t.val < 65 := lt_of_lt_of_eq t.isLt (show cfg0.N = 65 from N_0)

variable (m : (ℓ : Loc nD τ sig) → Buf (Elt Ideal) ℓ) (c : Dev nD)

/-- An element of a block, in its array. -/
theorem block_emb {A B a b : ℕ} (f : Fin 2 → ℕ) (p : ℕ) (hf : f = ![p, 0]) (y : (⟨2, ![a, b]⟩ : Shape).Idx)
    (z w : (⟨2, ![A, B]⟩ : Shape).Idx) (hz : ∀ k : Fin 2, (z k).val = f k * (![a, b] : Fin 2 → ℕ) k + 1 * (y k).val)
    (h0 : (w 0).val = p * a + (y 0).val) (h1 : (w 1).val = (y 1).val) : z = w := by
  subst hf
  funext k
  match k with
  | ⟨0, _⟩ => exact Fin.ext ((hz 0).trans (Eq.trans (by show p * a + 1 * (y 0).val = p * a + (y 0).val; omega) h0.symm))
  | ⟨1, _⟩ => exact Fin.ext ((hz 1).trans (Eq.trans (by show 0 * b + 1 * (y 1).val = (y 1).val; omega) h1.symm))

/-- The blocks a tile reads, at their literal types. -/
def xP (t : Fin cfg0.N) : Vec Ideal S256x1024 .f32 := iblk m c 0 t
def xS (t : Fin cfg0.N) : Vec Ideal S256x1024 .f32 := iblk m c 1 t
def xG (t : Fin cfg0.N) : Vec Ideal S1x1024 .f32 := iblk m c 2 t
def xW (t : Fin cfg0.N) : Vec Ideal S1024x3584 .bf16 := iblk m c 3 t

theorem xP_at (t : Fin cfg0.N) (r : Fin 256) (k : Fin 1024) (n : Fin 16384) (hn : n.val = min t.val 63 * 256 + r.val) :
    xP m c t (ix2 r k) = prompt m c (ix3 0 n k) :=
  (congrArg (V m c main_v8) (block_emb _ _ (prompt_index t) (ix2 r k) _ (ix2 n k) (fun _ => rfl) hn rfl)).trans (prompt_at m c n k)

theorem xS_at (t : Fin cfg0.N) (b n : Fin 16) (r : Fin 256) (hr : r.val = b.val * 16 + n.val) (k : Fin 1024) :
    xS m c t (ix2 r k) = samples m c (ix3 b n k) :=
  (congrArg (V m c main_v9) (block_emb _ _ (sample_index t) (ix2 r k) _ (ix2 ⟨b.val * 16 + n.val, by have := r.isLt; omega⟩ k) (fun _ => rfl)
    (by show b.val * 16 + n.val = 0 * 256 + r.val; omega) rfl)).trans (sample_at m c b n k)

theorem xG_at (t : Fin cfg0.N) (k : Fin 1024) : xG m c t (ix2 0 k) = scale m c (ix2 0 k) :=
  (congrArg (V m c main_v87) (block_emb _ _ (scale_index t) (ix2 0 k) _ (ix2 0 k) (fun _ => rfl) rfl rfl)).trans (scale_at m c k)

theorem xW_at (t : Fin cfg0.N) (k : Fin 1024) (j : Fin 3584) : xW m c t (ix2 k j) = (V m c main_v22 : S1024x3584.Idx → EReal) (ix2 k j) :=
  congrArg (V m c main_v22) (block_emb _ _ (weights_index t) (ix2 k j) _ (ix2 k j) (fun _ => rfl) (by show k.val = 0 * 1024 + k.val; omega) rfl)

/-- The columns a tile multiplies by are the weights'. -/
theorem colsVa_at (t : Fin cfg0.N) (k : Fin 1024) (d : Fin 128) :
    colsVa (xW m c t) (ix2 k d) = weights m c (ix3 0 k ⟨1152 + d.val, by have := d.isLt; omega⟩) := by
  refine Eq.trans ?_ (packed_va m c k d)
  refine Eq.trans ?_ (xW_at m c t k _)
  refine congrArg (xW m c t) (funext fun a => ?_)
  match a with
  | ⟨0, _⟩ => exact Fin.ext (by show 0 + 1 * k.val = k.val; omega)
  | ⟨1, _⟩ => exact Fin.ext (by show 1152 + 1 * d.val = 1152 + d.val; omega)

theorem colsVb_at (t : Fin cfg0.N) (k : Fin 1024) (d : Fin 512) :
    colsVb (xW m c t) (ix2 k d) = weights m c (ix3 0 k ⟨2888 + d.val, by have := d.isLt; omega⟩) := by
  refine Eq.trans ?_ (packed_vb m c k d)
  refine Eq.trans ?_ (xW_at m c t k _)
  refine congrArg (xW m c t) (funext fun a => ?_)
  match a with
  | ⟨0, _⟩ => exact Fin.ext (by show 0 + 1 * k.val = k.val; omega)
  | ⟨1, _⟩ => exact Fin.ext (by show 3072 + 1 * d.val = 3072 + d.val; omega)

/-- Row `n` of all the rows: the prompt's, then the samples'. -/
def rowOf (n : Fin 16640) (k : Fin 1024) : EReal :=
  if h : n.val < 16384 then prompt m c (ix3 0 ⟨n.val, h⟩ k)
  else samples m c (ix3 ⟨(n.val - 16384) / 16, by have := n.isLt; omega⟩ ⟨(n.val - 16384) % 16, Nat.mod_lt _ (by decide)⟩ k)

theorem rowOf_lt (n : Fin 16640) (k : Fin 1024) (h : n.val < 16384) : rowOf m c n k = prompt m c (ix3 0 ⟨n.val, h⟩ k) := dif_pos h

theorem rowOf_ge (n : Fin 16640) (k : Fin 1024) (h : ¬ n.val < 16384) :
    rowOf m c n k = samples m c (ix3 ⟨(n.val - 16384) / 16, by have := n.isLt; omega⟩ ⟨(n.val - 16384) % 16, Nat.mod_lt _ (by decide)⟩ k) :=
  dif_neg h

theorem rowOf_prompt (n : Fin 16384) (k : Fin 1024) : rowOf m c ⟨n.val, by have := n.isLt; omega⟩ k = prompt m c (ix3 0 n k) :=
  dif_pos n.isLt

theorem rowOf_sample (b n : Fin 16) (k : Fin 1024) :
    rowOf m c ⟨16384 + (b.val * 16 + n.val), by have := n.isLt; have := b.isLt; omega⟩ k = samples m c (ix3 b n k) := by
  have hn := n.isLt
  refine (dif_neg (by show ¬ 16384 + (b.val * 16 + n.val) < 16384; omega)).trans (congrArg (samples m c) ?_)
  exact congrArg₂ (fun a b => ix3 a b k) (Fin.ext (by show (16384 + (b.val * 16 + n.val) - 16384) / 16 = b.val; omega))
    (Fin.ext (by show (16384 + (b.val * 16 + n.val) - 16384) % 16 = n.val; omega))

theorem pay4_at (x : Vec Ideal S256x1024 .f32) (r : Fin 256) (k : Fin 1024) : k0_pay4 x (ix2 r k) = x (ix2 r k) := by
  pointwise [k0_pay4]

theorem pay5_at (x : Vec Ideal S256x1024 .f32) (r : Fin 256) (k : Fin 1024) : k0_pay5 x (ix2 r k) = x (ix2 r k) := by
  pointwise [k0_pay5]

/-- A tile's rows are the 256 rows from its first. -/
theorem tileRows_at (t : Fin cfg0.N) (r : Fin 256) (k : Fin 1024) (n : Fin 16640) (hn : n.val = t.val * 256 + r.val) :
    tileRows (grid0.coords t) (xP m c t) (xS m c t) (ix2 r k) = rowOf m c n k := by
  have ht := tile_lt t
  have hr := r.isLt
  unfold tileRows
  by_cases h : t.val < 64
  · rw [if_pos ((hcond0_0 t).2 h), pay4_at, xP_at m c t r k ⟨n.val, by omega⟩ (by show n.val = _; rw [Nat.min_eq_left (by omega)]; exact hn)]
    exact (rowOf_lt m c n k (by omega)).symm
  · rw [if_neg (fun e => h ((hcond0_0 t).1 e)), pay5_at]
    have hb : (n.val - 16384) / 16 < 16 := by omega
    rw [xS_at m c t ⟨(n.val - 16384) / 16, hb⟩ ⟨(n.val - 16384) % 16, Nat.mod_lt _ (by decide)⟩ r (by show r.val = (n.val - 16384) / 16 * 16 + (n.val - 16384) % 16; omega)]
    exact (rowOf_ge m c n k (by omega)).symm

/-! ## The two arrays -/

/-- The first attention's values of every row, and the second's. -/
def GA : FVec Ideal S16640x128 .f32 := fun i =>
  projected (rowOf m c (i 0)) (fun k => scale m c (ix2 0 k)) (fun k => weights m c (ix3 0 k ⟨1152 + (i 1).val, by have : (i 1).val < 128 := (i 1).isLt; omega⟩))

def GB : FVec Ideal S16640x512 .f32 := fun i =>
  projected (rowOf m c (i 0)) (fun k => scale m c (ix2 0 k)) (fun k => weights m c (ix3 0 k ⟨2888 + (i 1).val, by have : (i 1).val < 512 := (i 1).isLt; omega⟩))

theorem hidden_at (t : Fin cfg0.N) (r : Fin 256) (k : Fin 1024) (n : Fin 16640) (hn : n.val = t.val * 256 + r.val) :
    k0_pay6 (tileRows (grid0.coords t) (xP m c t) (xS m c t)) (xG m c t) (ix2 r k) = mixed (rowOf m c n) (fun k => scale m c (ix2 0 k)) k := by
  rw [mixed_at]
  simp only [tileRows_at m c t r _ n hn, xG_at]

theorem left_va (t : Fin cfg0.N) (r : Fin 256) (d : Fin 128) (n : Fin 16640) (hn : n.val = t.val * 256 + r.val) :
    (leaves m c t).va (ix2 r d) = GA m c (ix2 n d) := by
  refine (congrFun (tile m c t).choose_spec.1 (ix2 r d)).trans ((va_at _ _ r d).trans ?_)
  refine Eq.trans (Finset.sum_congr rfl fun k _ => congrArg₂ (fun a b : EReal => a * b) (hidden_at m c t r k n hn) (colsVa_at m c t k d)) ?_
  rfl

theorem left_vb (t : Fin cfg0.N) (r : Fin 256) (d : Fin 512) (n : Fin 16640) (hn : n.val = t.val * 256 + r.val) :
    (leaves m c t).vb (ix2 r d) = GB m c (ix2 n d) := by
  refine (congrFun (tile m c t).choose_spec.2.1 (ix2 r d)).trans ((vb_at _ _ r d).trans ?_)
  refine Eq.trans (Finset.sum_congr rfl fun k _ => congrArg₂ (fun a b : EReal => a * b) (hidden_at m c t r k n hn) (colsVb_at m c t k d)) ?_
  rfl

theorem mem_va (t : Fin cfg0.N) (i : S16640x128.Idx) : i ∈ ((cfg0.win 21).blk t).view.set ↔
    ∀ a : Fin 2, (cfg0.win 21).index t a * S256x128.size a ≤ (i a).val ∧ (i a).val < (cfg0.win 21).index t a * S256x128.size a + S256x128.size a := by
  show i ∈ ((View.whole main_v90_4).slice ((cfg0.win 21).rect t)).set ↔ _
  rw [View.set_slice_whole, Rect.mem_set_unit]
  exact Iff.rfl

theorem mem_vb (t : Fin cfg0.N) (i : S16640x512.Idx) : i ∈ ((cfg0.win 28).blk t).view.set ↔
    ∀ a : Fin 2, (cfg0.win 28).index t a * S256x512.size a ≤ (i a).val ∧ (i a).val < (cfg0.win 28).index t a * S256x512.size a + S256x512.size a := by
  show i ∈ ((View.whole main_v90_11).slice ((cfg0.win 28).rect t)).set ↔ _
  rw [View.set_slice_whole, Rect.mem_set_unit]
  exact Iff.rfl

/-- The tile of a row. -/
def tileOf (n : ℕ) (h : n < 16640) : Fin cfg0.N := ⟨n / 256, lt_of_lt_of_eq (by omega) (show 65 = cfg0.N from N_0.symm)⟩

theorem covered_va (i : S16640x128.Idx) : ∃ t : Fin cfg0.N, (cfg0.win 21).flush t = true ∧ i ∈ ((cfg0.win 21).blk t).view.set := by
  have h0 : (i 0).val < 16640 := (i 0).isLt
  have h1 : (i 1).val < 128 := (i 1).isLt
  refine ⟨tileOf _ h0, flush0_21 _, ?_⟩
  rw [mem_va, show (cfg0.win 21).index (tileOf _ h0) = ![(i 0).val / 256, 0] from va_index _]
  intro a
  match a with
  | ⟨0, _⟩ => show (i 0).val / 256 * 256 ≤ (i 0).val ∧ (i 0).val < (i 0).val / 256 * 256 + 256; omega
  | ⟨1, _⟩ => show 0 * 128 ≤ (i 1).val ∧ (i 1).val < 0 * 128 + 128; omega

theorem covered_vb (i : S16640x512.Idx) : ∃ t : Fin cfg0.N, (cfg0.win 28).flush t = true ∧ i ∈ ((cfg0.win 28).blk t).view.set := by
  have h0 : (i 0).val < 16640 := (i 0).isLt
  have h1 : (i 1).val < 512 := (i 1).isLt
  refine ⟨tileOf _ h0, flush0_28 _, ?_⟩
  rw [mem_vb, show (cfg0.win 28).index (tileOf _ h0) = ![(i 0).val / 256, 0] from vb_index _]
  intro a
  match a with
  | ⟨0, _⟩ => show (i 0).val / 256 * 256 ≤ (i 0).val ∧ (i 0).val < (i 0).val / 256 * 256 + 256; omega
  | ⟨1, _⟩ => show 0 * 512 ≤ (i 1).val ∧ (i 1).val < 0 * 512 + 512; omega

theorem flushed_va (t : Fin cfg0.N) : (dats m 0 c).flushed 21 t = ((cfg0.win 21).blk t).view.read (Elt Ideal) (GA m c) := by
  funext y
  have ht := tile_lt t
  have hy0 : (y 0).val < 256 := (y 0).isLt
  have hy1 : (y 1).val < 128 := (y 1).isLt
  have h1 : (dats m 0 c).flushed 21 t y = (leaves m c t).va (ix2 (y 0) (y 1)) :=
    congrArg (leaves m c t).va (funext fun a => match a with | ⟨0, _⟩ => rfl | ⟨1, _⟩ => rfl)
  refine h1.trans ((left_va m c t (y 0) (y 1) ⟨t.val * 256 + (y 0).val, by omega⟩ rfl).trans ?_)
  exact congrArg (GA m c) (block_emb (A := 16640) (B := 128) (a := 256) (b := 128) _ _ (va_index t) y _ (ix2 ⟨t.val * 256 + (y 0).val, by omega⟩ (y 1)) (fun _ => rfl) rfl rfl).symm

theorem flushed_vb (t : Fin cfg0.N) : (dats m 0 c).flushed 28 t = ((cfg0.win 28).blk t).view.read (Elt Ideal) (GB m c) := by
  funext y
  have ht := tile_lt t
  have hy0 : (y 0).val < 256 := (y 0).isLt
  have hy1 : (y 1).val < 512 := (y 1).isLt
  have h1 : (dats m 0 c).flushed 28 t y = (leaves m c t).vb (ix2 (y 0) (y 1)) :=
    congrArg (leaves m c t).vb (funext fun a => match a with | ⟨0, _⟩ => rfl | ⟨1, _⟩ => rfl)
  refine h1.trans ((left_vb m c t (y 0) (y 1) ⟨t.val * 256 + (y 0).val, by omega⟩ rfl).trans ?_)
  exact congrArg (GB m c) (block_emb (A := 16640) (B := 512) (a := 256) (b := 512) _ _ (vb_index t) y _ (ix2 ⟨t.val * 256 + (y 0).val, by omega⟩ (y 1)) (fun _ => rfl) rfl rfl).symm

/-- The arrays after the call. -/
theorem final_va : (dats m 0 c).arrAt 21 cfg0.N = GA m c :=
  (dats m 0 c).arrAt_eq_of_cover 21 (GA m c) (fun t _ => flushed_va m c t) covered_va

theorem final_vb : (dats m 0 c).arrAt 28 cfg0.N = GB m c :=
  (dats m 0 c).arrAt_eq_of_cover 28 (GB m c) (fun t _ => flushed_vb m c t) covered_vb

/-! ## The host operations after the call -/

/-- The samples' kept rows: the state's last, and the fresh ones. -/
def kept (s : FVec Ideal S16x512x8x64 .f32) (f : FVec Ideal S16x16x8x64 .f32) : FVec Ideal S1x16x512x8x64 .f32 :=
  broadcastInDim S1x16x512x8x64 ![1, 2, 3, 4] bcast_S16x512x8x64_S1x16x512x8x64_1_2_3_4 (extractStridedSlice S16x512x8x64 ![0, 16, 0, 0]
    (concatenate S16x528x8x64 1 [⟨S16x512x8x64, s⟩, ⟨S16x16x8x64, f⟩] concatenates_S16x512x8x64_S16x16x8x64_S16x528x8x64_d1) slices_S16x528x8x64_S16x512x8x64_0_16_0_0)

section
variable (W : Valuation τ sig (Elt Ideal))

theorem tail_first : StableHlo.after [hostOps1].flatten W (Proc.devRef .tc main_v101) = firstOut (W (Proc.devRef .tc main_v90_4)) := by
  after_reads_simp
  rfl

theorem tail_second : StableHlo.after [hostOps1].flatten W (Proc.devRef .tc main_v102) = secondOut (W (Proc.devRef .tc main_v90_11)) := by
  after_reads_simp
  rfl

theorem tail_firstS : StableHlo.after [hostOps1].flatten W (Proc.devRef .tc main_v103) = firstOutS (W (Proc.devRef .tc main_v90_4)) := by
  after_reads_simp
  rfl

theorem tail_kept : StableHlo.after [hostOps1].flatten W (Proc.devRef .tc main_v104)
    = kept (W (Proc.devRef .tc main_v0)) (fresh (W (Proc.devRef .tc main_v90_11))) := by
  after_reads_simp
  rfl

end

theorem arrays_apart : Function.Injective (Pipeline.arrRef spec0) := by decide

/-- What the call leaves in the two arrays, and in the state it does not touch. -/
theorem after_va : Pipeline.withArrays spec0 c (V0 m c) (fun w => (dats m 0 c).arrAt w cfg0.N) (Proc.devRef .tc main_v90_4) = GA m c :=
  (Pipeline.withArrays_arr spec0 arrays_apart c (V0 m c) (fun w => (dats m 0 c).arrAt w cfg0.N) 21).trans (final_va m c)

theorem after_vb : Pipeline.withArrays spec0 c (V0 m c) (fun w => (dats m 0 c).arrAt w cfg0.N) (Proc.devRef .tc main_v90_11) = GB m c :=
  (Pipeline.withArrays_arr spec0 arrays_apart c (V0 m c) (fun w => (dats m 0 c).arrAt w cfg0.N) 28).trans (final_vb m c)

theorem after_state : Pipeline.withArrays spec0 c (V0 m c) (fun w => (dats m 0 c).arrAt w cfg0.N) (Proc.devRef .tc main_v0)
    = shapeCast S16x512x8x64 (state m c) shapeCasts_S1x16x512x8x64_S16x512x8x64 :=
  (Pipeline.withArrays_of_ne spec0 c (V0 m c) _ main_v0 (by decide)).trans (state_rows m c)

/-- The four results. -/
def result0 : FVec Ideal S1x1x16384x1x128 .f32 := firstOut (GA m c)
def result1 : FVec Ideal S1x1x512x8x64 .f32 := secondOut (GB m c)
def result2 : FVec Ideal S1x16x16x1x128 .f32 := firstOutS (GA m c)
def result3 : FVec Ideal S1x16x512x8x64 .f32 := kept (shapeCast S16x512x8x64 (state m c) shapeCasts_S1x16x512x8x64_S16x512x8x64) (fresh (GB m c))

theorem end_first (r : PUnit × MemSt nD τ sig (Elt Ideal)) (h : Pipeline.FramePost cfgs (dats m) 0 (Pipeline.afterTail₀ cfgs (dats m) 0 (V0 m) [hostOps1]) r) :
    r.2.mem ((c.tc : Thread nD τ).loc main_v101) = result0 m c :=
  ((h c).2 main_v101 (by decide)).trans ((tail_first _).trans (congrArg firstOut (after_va m c)))

theorem end_second (r : PUnit × MemSt nD τ sig (Elt Ideal)) (h : Pipeline.FramePost cfgs (dats m) 0 (Pipeline.afterTail₀ cfgs (dats m) 0 (V0 m) [hostOps1]) r) :
    r.2.mem ((c.tc : Thread nD τ).loc main_v102) = result1 m c :=
  ((h c).2 main_v102 (by decide)).trans ((tail_second _).trans (congrArg secondOut (after_vb m c)))

theorem end_firstS (r : PUnit × MemSt nD τ sig (Elt Ideal)) (h : Pipeline.FramePost cfgs (dats m) 0 (Pipeline.afterTail₀ cfgs (dats m) 0 (V0 m) [hostOps1]) r) :
    r.2.mem ((c.tc : Thread nD τ).loc main_v103) = result2 m c :=
  ((h c).2 main_v103 (by decide)).trans ((tail_firstS _).trans (congrArg firstOutS (after_va m c)))

theorem end_kept (r : PUnit × MemSt nD τ sig (Elt Ideal)) (h : Pipeline.FramePost cfgs (dats m) 0 (Pipeline.afterTail₀ cfgs (dats m) 0 (V0 m) [hostOps1]) r) :
    r.2.mem ((c.tc : Thread nD τ).loc main_v104) = result3 m c :=
  ((h c).2 main_v104 (by decide)).trans ((tail_kept _).trans (congrArg₂ kept (after_state m c) (congrArg fresh (after_vb m c))))

/-! ## The reference's results -/

theorem same_first : firstRef (allP (prompt m c) (scale m c) (weights m c)) = result0 m c := by
  funext i
  obtain ⟨n, d, rfl⟩ : ∃ (n : Fin 16384) (d : Fin 128), i = ix5 0 0 n 0 d :=
    ⟨i 2, i 4, funext fun a => match a with | ⟨0, _⟩ => Subsingleton.elim (α := Fin 1) _ _ | ⟨1, _⟩ => Subsingleton.elim (α := Fin 1) _ _ | ⟨2, _⟩ => rfl | ⟨3, _⟩ => Subsingleton.elim (α := Fin 1) _ _ | ⟨4, _⟩ => rfl⟩
  rw [firstRef_at, allP_at]
  refine Eq.trans ?_ (firstOut_at (GA m c) n d).symm
  exact congrArg (fun x => projected x _ _) (funext (rowOf_prompt m c n)).symm

theorem same_firstS : firstRefS (allS (samples m c) (scale m c) (weights m c)) = result2 m c := by
  funext i
  obtain ⟨b, n, d, rfl⟩ : ∃ (b n : Fin 16) (d : Fin 128), i = ix5 0 b n 0 d :=
    ⟨i 1, i 2, i 4, funext fun a => match a with | ⟨0, _⟩ => Subsingleton.elim (α := Fin 1) _ _ | ⟨1, _⟩ => rfl | ⟨2, _⟩ => rfl | ⟨3, _⟩ => Subsingleton.elim (α := Fin 1) _ _ | ⟨4, _⟩ => rfl⟩
  rw [firstRefS_at, allS_at]
  refine Eq.trans ?_ (firstOutS_at (GA m c) b n d).symm
  exact congrArg (fun x => projected x _ _) (funext (rowOf_sample m c b n)).symm

theorem same_second : secondRef (allP (prompt m c) (scale m c) (weights m c)) = result1 m c := by
  funext i
  obtain ⟨n, h, e, rfl⟩ : ∃ (n : Fin 512) (h : Fin 8) (e : Fin 64), i = ix5 0 0 n h e :=
    ⟨i 2, i 3, i 4, funext fun a => match a with | ⟨0, _⟩ => Subsingleton.elim (α := Fin 1) _ _ | ⟨1, _⟩ => Subsingleton.elim (α := Fin 1) _ _ | ⟨2, _⟩ => rfl | ⟨3, _⟩ => rfl | ⟨4, _⟩ => rfl⟩
  have hn := n.isLt
  rw [secondRef_at, allP_at]
  refine Eq.trans ?_ (secondOut_at (GB m c) n h e).symm
  exact congrArg (fun x => projected x _ _) (funext (rowOf_prompt m c ⟨15872 + n.val, by omega⟩)).symm

theorem same_fresh : freshRef (allS (samples m c) (scale m c) (weights m c)) = fresh (GB m c) := by
  funext i
  obtain ⟨b, n, h, e, rfl⟩ : ∃ (b n : Fin 16) (h : Fin 8) (e : Fin 64), i = ix4 b n h e :=
    ⟨i 0, i 1, i 2, i 3, funext fun a => match a with | ⟨0, _⟩ => rfl | ⟨1, _⟩ => rfl | ⟨2, _⟩ => rfl | ⟨3, _⟩ => rfl⟩
  rw [freshRef_at, allS_at]
  refine Eq.trans ?_ (fresh_at (GB m c) b n h e).symm
  exact congrArg (fun x => projected x _ _) (funext (rowOf_sample m c b n)).symm

end Inputs
end
-- ==== Proof.Inputs.Given.lean ====
/-
  The projection call's claims: both printed programs, the machine's and the ideal one, are the same text, so both run and give
  their arguments back; and the ideal one's four results are the reference's.
-/
module
public import proofs.«01_k».proof.Proof.Inputs.Value
public import proofs.«01_k».proof.Proof.Gen.Inputs
public import proofs.«01_k».proof.Proof.Gen.InputsReferenceIdeal.Run
public import proofs.«01_k».proof.Defs
public import Idealize.ShloMosaic.Lib.Claim

@[expose] public section

set_option maxRecDepth 16384

noncomputable section

open Idealize.ShloMosaic Idealize.SL.Sem

namespace Cert.Proof

section
open Cert.InputsIdeal Cert.InputsIdeal.Gen

/-- The ideal program's text gives its arguments back and ends quiescent, in the floats `F`. -/
def InputsUnchanged (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9))
    ∧ r.2.sem = fun _ => 0)

theorem inputs_unchanged (F : FTy → Type) [FloatOps F] : InputsUnchanged F := fun m ρ _ => Inputs.unchanged m ρ
end

/-- The machine's program is the same text, so its claim is that one at the machine's floats. -/
theorem inputs_claim_same : Cert.quiescent_Inputs (hInputs := Cert.Inputs.Gen.facts) = InputsUnchanged Bits := by sl_kernel_rfl

/-- The projection's frame, on the machine. -/
theorem inputs_frame : Cert.quiescent_Inputs (hInputs := Cert.Inputs.Gen.facts) := inputs_claim_same.mpr (inputs_unchanged Bits)

/-- The projection's frame, ideal. -/
theorem inputs_ideal_frame : Cert.quiescent_InputsIdeal (hInputsIdeal := Cert.InputsIdeal.Gen.facts) :=
  fun m ρ _ => Inputs.unchanged m ρ

/-- The reference ends with its arguments unchanged, and it declares no semaphore. -/
theorem inputs_reference_frame : Cert.quiescent_InputsReferenceIdeal (hInputsReferenceIdeal := Cert.InputsReferenceIdeal.Gen.facts) := fun m g _ =>
  (θ_run _ _ _).mono (fun r h => ⟨fun c => (h c).2.2.2.2, sem_eq_zero_of_no_sems (by decide) r.2⟩) (Cert.InputsReferenceIdeal.Value.run (F := Ideal) m g)

/-- The projection and its reference end with equal results. -/
theorem inputs_algebraic : Cert.algebraic_InputsIdeal_InputsReferenceIdeal (hInputsIdeal := Cert.InputsIdeal.Gen.facts)
    (hInputsReferenceIdeal := Cert.InputsReferenceIdeal.Gen.facts) := by
  intro m g m' g' _ ha
  refine ⟨fun c => Inputs.result0 m c, fun c => Inputs.result1 m c, fun c => Inputs.result2 m c, fun c => Inputs.result3 m c, ?_, ?_⟩
  · refine (θ_run _ _ _).mono (fun r h c => ?_) (θ_run_and (Inputs.launched m g) (Inputs.unchanged m g))
    exact ⟨Inputs.end_first m c r h.1.1, Inputs.end_second m c r h.1.1, Inputs.end_firstS m c r h.1.1, Inputs.end_kept m c r h.1.1, h.2.1 c⟩
  · refine (θ_run _ _ _).mono (fun r h c => ⟨(h c).1.trans ?_, (h c).2.1.trans ?_, (h c).2.2.1.trans ?_, (h c).2.2.2.1.trans ?_, (h c).2.2.2.2⟩)
      (Cert.InputsReferenceIdeal.Value.run (F := Ideal) m' g')
    all_goals obtain ⟨a0, a1, a2, a3, a4, -⟩ := ha c
    · rw [a0, a3, a4]
      exact Inputs.same_first m c
    · rw [a0, a3, a4]
      exact Inputs.same_second m c
    · rw [a1, a3, a4]
      exact Inputs.same_firstS m c
    · refine (show _ = Inputs.kept (shapeCast _ (m' ((c.tc : Thread Cert.InputsReferenceIdeal.nD Cert.InputsReferenceIdeal.τ).loc Cert.InputsReferenceIdeal.main_arg2)) Cert.InputsReferenceIdeal.Gen.shapeCasts_S1x16x512x8x64_S16x512x8x64)
        (Inputs.freshRef (Inputs.allS (m' ((c.tc : Thread Cert.InputsReferenceIdeal.nD Cert.InputsReferenceIdeal.τ).loc Cert.InputsReferenceIdeal.main_arg1))
          (m' ((c.tc : Thread Cert.InputsReferenceIdeal.nD Cert.InputsReferenceIdeal.τ).loc Cert.InputsReferenceIdeal.main_arg3))
          (m' ((c.tc : Thread Cert.InputsReferenceIdeal.nD Cert.InputsReferenceIdeal.τ).loc Cert.InputsReferenceIdeal.main_arg4)))) from rfl).trans ?_
      rw [a1, a2, a3, a4]
      exact congrArg (Inputs.kept _) (Inputs.same_fresh m c)

end Cert.Proof

end
-- ==== Proof.lean ====
/-
  The certificate's claims, assembled, for three launches of the layer. Of the banded attention of the prompt the frames are the
  generated ones, and `Band.equal` (Band/Equation.lean) is the equality of the kernel's result with the reference's. Of the
  experts the frame is `Experts.frame` (Experts/Frame.lean), and `Experts.equal` (Experts/Value.lean) is the equality. Of the
  projection they are `Inputs.unchanged` (Inputs/Frame.lean) and the `same_` theorems of Inputs/Value.lean.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Band.Given
public import proofs.«01_k».proof.Proof.Band.Terms
public import proofs.«01_k».proof.Proof.Gen.Experts
public import proofs.«01_k».proof.Proof.Gen.ExpertsIdeal
public import proofs.«01_k».proof.Proof.Gen.ExpertsReferenceIdeal
public import proofs.«01_k».proof.Proof.Gen.ExpertsReferenceIdeal.Run
public import proofs.«01_k».proof.Proof.Gen.Pre_tables
public import proofs.«01_k».proof.Proof.Experts.Given
public import proofs.«01_k».proof.Proof.Experts.Value
public import proofs.«01_k».proof.Proof.Gen.Inputs
public import proofs.«01_k».proof.Proof.Gen.InputsIdeal
public import proofs.«01_k».proof.Proof.Gen.InputsReferenceIdeal
public import proofs.«01_k».proof.Proof.Gen.InputsReferenceIdeal.Run
public import proofs.«01_k».proof.Proof.Inputs.Given

@[expose] public section

set_option maxRecDepth 16384

noncomputable section

namespace Cert.Proof

open Idealize.ShloMosaic Idealize.SL.Sem

/-- The reference ends with its arguments unchanged, and it declares no semaphore. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- From finite queries, keys and bias, the launch and the reference end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  refine ⟨fun c => Cert.KernelIdeal.Value.G6 m c, Cert.KernelIdeal.Value.run m g, ?_⟩
  refine (θ_run _ _ _).mono (fun r h c => ⟨(h c).1.trans ?_, (h c).2⟩) (Cert.ReferenceIdeal.Value.run (F := Ideal) m' g')
  obtain ⟨a0, a1, a2, a3⟩ := ha c
  obtain ⟨p0, p1, p2⟩ := hp c
  rw [BandRef.result_eq m' c, a0, a1, a2, a3]
  exact (Band.equal m c (Band.given_q _ _ _ _ p0) (Band.given_k _ _ _ _ p1) (Band.given_b _ _ _ _ p2)).symm

/-- The experts' reference ends with its arguments unchanged, and it declares no semaphore. -/
theorem experts_reference_frame : Cert.quiescent_ExpertsReferenceIdeal (hExpertsReferenceIdeal := Cert.ExpertsReferenceIdeal.Gen.facts) := fun m g _ =>
  (θ_run _ _ _).mono (fun r h => ⟨fun c => (h c).2, sem_eq_zero_of_no_sems (by decide) r.2⟩) (Cert.ExpertsReferenceIdeal.Value.run (F := Ideal) m g)

/-- From tables that name experts, the experts' launch and their reference end with equal results. -/
theorem experts_algebraic : Cert.algebraic_ExpertsIdeal_ExpertsReferenceIdeal (hExpertsIdeal := Cert.ExpertsIdeal.Gen.facts)
    (hExpertsReferenceIdeal := Cert.ExpertsReferenceIdeal.Gen.facts) (hPre_tables := Cert.Pre_tables.Gen.facts) := by
  intro m g m' g' hp ha
  have good := good_ideal m hp
  refine ⟨fun c => Experts.G good c, Experts.run_out good g, ?_⟩
  refine (θ_run _ _ _).mono (fun r h c => ⟨(h c).1.trans ?_, (h c).2⟩) (Cert.ExpertsReferenceIdeal.Value.run (F := Ideal) m' g')
  obtain ⟨a0, a1, a2, a3, a4, a5, a6⟩ := ha c
  refine (ExpertsRef.result_eq m' c).trans ?_
  rw [a0, a1, a2, a3, a4, a5, a6]
  exact Experts.equal good c

/-- Every claim of the certificate. -/
theorem claim : Cert.Claim := ⟨Cert.Kernel.Gen.facts, Cert.KernelIdeal.Gen.facts, Cert.ReferenceIdeal.Gen.facts,
  Cert.Experts.Gen.facts, Cert.ExpertsIdeal.Gen.facts, Cert.ExpertsReferenceIdeal.Gen.facts,
  Cert.Inputs.Gen.facts, Cert.InputsIdeal.Gen.facts, Cert.InputsReferenceIdeal.Gen.facts, Cert.Pre_finite.Gen.facts, Cert.Pre_tables.Gen.facts,
  fun m g _ => Cert.Kernel.Gen.frame m g,
  fun m g _ => Cert.KernelIdeal.Gen.frame m g,
  fun m g _ => Cert.KernelIdeal.Gen.frame m g,
  fun m g _ => reference_frame m g trivial,
  fun m g _ => reference_frame m g trivial,
  experts_frame,
  experts_ideal_frame,
  experts_reference_frame,
  fun m g _ => experts_reference_frame m g trivial,
  inputs_frame,
  inputs_ideal_frame,
  inputs_reference_frame,
  IdealRules.named_const.statement Cert.KernelIdeal.κ "mask" .f32 0xF149F2CA#32 ⊥ rfl,
  algebraic,
  trivial,
  experts_algebraic,
  trivial,
  inputs_algebraic⟩

end Cert.Proof

end
